-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))
      ∧ r.2.sem = fun _ => 0)

def preserves_Kernel_KernelIdeal : Prop :=
  IdealRules.named_const.Statement Cert.KernelIdeal.κ "count4096" .f32 0x38AAAAAB#32 ((1 / 12288 : ℝ) : EReal)
  ∧ IdealRules.named_const.Statement Cert.KernelIdeal.κ "count1024" .f32 0x39AAAAAB#32 ((1 / 3072 : ℝ) : EReal)
  ∧ IdealRules.named_const.Statement Cert.KernelIdeal.κ "count256" .f32 0x3AAAAAAB#32 ((1 / 768 : ℝ) : EReal)
  ∧ IdealRules.named_const.Statement Cert.KernelIdeal.κ "count64" .f32 0x3BAAAAAB#32 ((1 / 192 : ℝ) : EReal)
  ∧ IdealRules.named_const.Statement Cert.KernelIdeal.κ "count16" .f32 0x3CAAAAAB#32 ((1 / 48 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v41_0)) (v1 : (c : Dev Cert.KernelIdeal.nD) → Buf (Elt Ideal) ((c.tc : Thread Cert.KernelIdeal.nD Cert.KernelIdeal.τ).loc Cert.KernelIdeal.main_v41_1)) (v2 : (c : Dev Cert.KernelIdeal.nD) → Buf (Elt Ideal) ((c.tc : Thread Cert.KernelIdeal.nD Cert.KernelIdeal.τ).loc Cert.KernelIdeal.main_v41_2)) (v3 : (c : Dev Cert.KernelIdeal.nD) → Buf (Elt Ideal) ((c.tc : Thread Cert.KernelIdeal.nD Cert.KernelIdeal.τ).loc Cert.KernelIdeal.main_v41_3)) (v4 : (c : Dev Cert.KernelIdeal.nD) → Buf (Elt Ideal) ((c.tc : Thread Cert.KernelIdeal.nD Cert.KernelIdeal.τ).loc Cert.KernelIdeal.main_v41_4)) (v5 : (c : Dev Cert.KernelIdeal.nD) → Buf (Elt Ideal) ((c.tc : Thread Cert.KernelIdeal.nD Cert.KernelIdeal.τ).loc Cert.KernelIdeal.main_v41_5)) (v6 : (c : Dev Cert.KernelIdeal.nD) → Buf (Elt Ideal) ((c.tc : Thread Cert.KernelIdeal.nD Cert.KernelIdeal.τ).loc Cert.KernelIdeal.main_v41_6)) (v7 : (c : Dev Cert.KernelIdeal.nD) → Buf (Elt Ideal) ((c.tc : Thread Cert.KernelIdeal.nD Cert.KernelIdeal.τ).loc Cert.KernelIdeal.main_v41_7)) (v8 : (c : Dev Cert.KernelIdeal.nD) → Buf (Elt Ideal) ((c.tc : Thread Cert.KernelIdeal.nD Cert.KernelIdeal.τ).loc Cert.KernelIdeal.main_v41_8)) (v9 : (c : Dev Cert.KernelIdeal.nD) → Buf (Elt Ideal) ((c.tc : Thread Cert.KernelIdeal.nD Cert.KernelIdeal.τ).loc Cert.KernelIdeal.main_v41_9)) (v10 : (c : Dev Cert.KernelIdeal.nD) → Buf (Elt Ideal) ((c.tc : Thread Cert.KernelIdeal.nD Cert.KernelIdeal.τ).loc Cert.KernelIdeal.main_v41_10)) (v11 : (c : Dev Cert.KernelIdeal.nD) → Buf (Elt Ideal) ((c.tc : Thread Cert.KernelIdeal.nD Cert.KernelIdeal.τ).loc Cert.KernelIdeal.main_v41_11)) (v12 : (c : Dev Cert.KernelIdeal.nD) → Buf (Elt Ideal) ((c.tc : Thread Cert.KernelIdeal.nD Cert.KernelIdeal.τ).loc Cert.KernelIdeal.main_v41_12)) (v13 : (c : Dev Cert.KernelIdeal.nD) → Buf (Elt Ideal) ((c.tc : Thread Cert.KernelIdeal.nD Cert.KernelIdeal.τ).loc Cert.KernelIdeal.main_v41_13)) (v14 : (c : Dev Cert.KernelIdeal.nD) → Buf (Elt Ideal) ((c.tc : Thread Cert.KernelIdeal.nD Cert.KernelIdeal.τ).loc Cert.KernelIdeal.main_v41_14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41_0) = v0 c
          ∧ r.2.mem ((c.tc : Thread Cert.KernelIdeal.nD Cert.KernelIdeal.τ).loc Cert.KernelIdeal.main_v41_1) = v1 c
          ∧ r.2.mem ((c.tc : Thread Cert.KernelIdeal.nD Cert.KernelIdeal.τ).loc Cert.KernelIdeal.main_v41_2) = v2 c
          ∧ r.2.mem ((c.tc : Thread Cert.KernelIdeal.nD Cert.KernelIdeal.τ).loc Cert.KernelIdeal.main_v41_3) = v3 c
          ∧ r.2.mem ((c.tc : Thread Cert.KernelIdeal.nD Cert.KernelIdeal.τ).loc Cert.KernelIdeal.main_v41_4) = v4 c
          ∧ r.2.mem ((c.tc : Thread Cert.KernelIdeal.nD Cert.KernelIdeal.τ).loc Cert.KernelIdeal.main_v41_5) = v5 c
          ∧ r.2.mem ((c.tc : Thread Cert.KernelIdeal.nD Cert.KernelIdeal.τ).loc Cert.KernelIdeal.main_v41_6) = v6 c
          ∧ r.2.mem ((c.tc : Thread Cert.KernelIdeal.nD Cert.KernelIdeal.τ).loc Cert.KernelIdeal.main_v41_7) = v7 c
          ∧ r.2.mem ((c.tc : Thread Cert.KernelIdeal.nD Cert.KernelIdeal.τ).loc Cert.KernelIdeal.main_v41_8) = v8 c
          ∧ r.2.mem ((c.tc : Thread Cert.KernelIdeal.nD Cert.KernelIdeal.τ).loc Cert.KernelIdeal.main_v41_9) = v9 c
          ∧ r.2.mem ((c.tc : Thread Cert.KernelIdeal.nD Cert.KernelIdeal.τ).loc Cert.KernelIdeal.main_v41_10) = v10 c
          ∧ r.2.mem ((c.tc : Thread Cert.KernelIdeal.nD Cert.KernelIdeal.τ).loc Cert.KernelIdeal.main_v41_11) = v11 c
          ∧ r.2.mem ((c.tc : Thread Cert.KernelIdeal.nD Cert.KernelIdeal.τ).loc Cert.KernelIdeal.main_v41_12) = v12 c
          ∧ r.2.mem ((c.tc : Thread Cert.KernelIdeal.nD Cert.KernelIdeal.τ).loc Cert.KernelIdeal.main_v41_13) = v13 c
          ∧ r.2.mem ((c.tc : Thread Cert.KernelIdeal.nD Cert.KernelIdeal.τ).loc Cert.KernelIdeal.main_v41_14) = v14 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v164) = v0 c
          ∧ r.2.mem ((c.tc : Thread Cert.ReferenceIdeal.nD Cert.ReferenceIdeal.τ).loc Cert.ReferenceIdeal.main_v336) = v1 c
          ∧ r.2.mem ((c.tc : Thread Cert.ReferenceIdeal.nD Cert.ReferenceIdeal.τ).loc Cert.ReferenceIdeal.main_v508) = v2 c
          ∧ r.2.mem ((c.tc : Thread Cert.ReferenceIdeal.nD Cert.ReferenceIdeal.τ).loc Cert.ReferenceIdeal.main_v680) = v3 c
          ∧ r.2.mem ((c.tc : Thread Cert.ReferenceIdeal.nD Cert.ReferenceIdeal.τ).loc Cert.ReferenceIdeal.main_v852) = v4 c
          ∧ r.2.mem ((c.tc : Thread Cert.ReferenceIdeal.nD Cert.ReferenceIdeal.τ).loc Cert.ReferenceIdeal.main_v169) = v5 c
          ∧ r.2.mem ((c.tc : Thread Cert.ReferenceIdeal.nD Cert.ReferenceIdeal.τ).loc Cert.ReferenceIdeal.main_v341) = v6 c
          ∧ r.2.mem ((c.tc : Thread Cert.ReferenceIdeal.nD Cert.ReferenceIdeal.τ).loc Cert.ReferenceIdeal.main_v513) = v7 c
          ∧ r.2.mem ((c.tc : Thread Cert.ReferenceIdeal.nD Cert.ReferenceIdeal.τ).loc Cert.ReferenceIdeal.main_v685) = v8 c
          ∧ r.2.mem ((c.tc : Thread Cert.ReferenceIdeal.nD Cert.ReferenceIdeal.τ).loc Cert.ReferenceIdeal.main_v857) = v9 c
          ∧ r.2.mem ((c.tc : Thread Cert.ReferenceIdeal.nD Cert.ReferenceIdeal.τ).loc Cert.ReferenceIdeal.main_v171) = v10 c
          ∧ r.2.mem ((c.tc : Thread Cert.ReferenceIdeal.nD Cert.ReferenceIdeal.τ).loc Cert.ReferenceIdeal.main_v343) = v11 c
          ∧ r.2.mem ((c.tc : Thread Cert.ReferenceIdeal.nD Cert.ReferenceIdeal.τ).loc Cert.ReferenceIdeal.main_v515) = v12 c
          ∧ r.2.mem ((c.tc : Thread Cert.ReferenceIdeal.nD Cert.ReferenceIdeal.τ).loc Cert.ReferenceIdeal.main_v687) = v13 c
          ∧ r.2.mem ((c.tc : Thread Cert.ReferenceIdeal.nD Cert.ReferenceIdeal.τ).loc Cert.ReferenceIdeal.main_v859) = v14 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S4x96x64x64 : Shape := ⟨4, ![4, 96, 64, 64]⟩
abbrev S4x96x32x32 : Shape := ⟨4, ![4, 96, 32, 32]⟩
abbrev S4x96x16x16 : Shape := ⟨4, ![4, 96, 16, 16]⟩
abbrev S4x96x8x8 : Shape := ⟨4, ![4, 96, 8, 8]⟩
abbrev S4x96x4x4 : Shape := ⟨4, ![4, 96, 4, 4]⟩
abbrev S96x96x3x3 : Shape := ⟨4, ![96, 96, 3, 3]⟩
abbrev S96 : Shape := ⟨1, ![96]⟩
abbrev S80x96x1x1 : Shape := ⟨4, ![80, 96, 1, 1]⟩
abbrev S80 : Shape := ⟨1, ![80]⟩
abbrev S5x96x1x1 : Shape := ⟨4, ![5, 96, 1, 1]⟩
abbrev S5 : Shape := ⟨1, ![5]⟩
abbrev S_ : Shape := ⟨0, ![]⟩

class Facts : Prop where
  bcast_S_S4x96x64x64 : S_.BroadcastsInDim S4x96x64x64 (![] : Fin 0 → Fin S4x96x64x64.rank)
  reducesTo_S4x96x64x64_S_d0_1_2_3 : S4x96x64x64.ReducesTo [0, 1, 2, 3] S_
  h_S_ : 0 < S_.numel
  bcast_S_S4x96x32x32 : S_.BroadcastsInDim S4x96x32x32 (![] : Fin 0 → Fin S4x96x32x32.rank)
  reducesTo_S4x96x32x32_S_d0_1_2_3 : S4x96x32x32.ReducesTo [0, 1, 2, 3] S_
  bcast_S_S4x96x16x16 : S_.BroadcastsInDim S4x96x16x16 (![] : Fin 0 → Fin S4x96x16x16.rank)
  reducesTo_S4x96x16x16_S_d0_1_2_3 : S4x96x16x16.ReducesTo [0, 1, 2, 3] S_
  bcast_S_S4x96x8x8 : S_.BroadcastsInDim S4x96x8x8 (![] : Fin 0 → Fin S4x96x8x8.rank)
  reducesTo_S4x96x8x8_S_d0_1_2_3 : S4x96x8x8.ReducesTo [0, 1, 2, 3] S_
  bcast_S_S4x96x4x4 : S_.BroadcastsInDim S4x96x4x4 (![] : Fin 0 → Fin S4x96x4x4.rank)
  reducesTo_S4x96x4x4_S_d0_1_2_3 : S4x96x4x4.ReducesTo [0, 1, 2, 3] S_
  bcast_S_S96x96x3x3 : S_.BroadcastsInDim S96x96x3x3 (![] : Fin 0 → Fin S96x96x3x3.rank)
  reducesTo_S96x96x3x3_S_d0_1_2_3 : S96x96x3x3.ReducesTo [0, 1, 2, 3] S_
  bcast_S_S96 : S_.BroadcastsInDim S96 (![] : Fin 0 → Fin S96.rank)
  reducesTo_S96_S_d0 : S96.ReducesTo [0] S_

variable [Facts]

def fn_part3 {F : FTy → Type} [FloatOps F] (main_v31 : IVec S_ 1) (main_v35 : IVec S_ 1) (main_v39 : IVec S_ 1) (main_v43 : IVec S_ 1) (main_v49 : IVec S_ 1) : IVec S_ 1 :=
  let main_v50 : IVec S_ 1 := andi main_v49 main_v31
  let main_v51 : IVec S_ 1 := andi main_v50 main_v35
  let main_v52 : IVec S_ 1 := andi main_v51 main_v39
  let main_v53 : IVec S_ 1 := andi main_v52 main_v43
  main_v53

def fn_part2 {F : FTy → Type} [FloatOps F] (main_arg11 : FVec F S96x96x3x3 .f32) (main_arg12 : FVec F S96 .f32) (main_arg13 : FVec F S96 .f32) (main_v3 : IVec S_ 1) (main_v7 : IVec S_ 1) (main_v11 : IVec S_ 1) (main_v15 : IVec S_ 1) (main_v19 : IVec S_ 1) (main_v23 : IVec S_ 1) (main_v27 : IVec S_ 1) (main_v31 : IVec S_ 1) : IVec S_ 1 :=
  let main_v32 : FVec F S96x96x3x3 .f32 := Host.absf main_arg11
  let main_cst_14 : FVec F S_ .f32 := constant S_ .f32 0x7F800000#32
  let main_v33 : FVec F S96x96x3x3 .f32 := broadcastInDim S96x96x3x3 ![] bcast_S_S96x96x3x3 main_cst_14
  let main_v34 : IVec S96x96x3x3 1 := cmpf .olt main_v32 main_v33
  let main_c_15 : IVec S_ 1 := constantI S_ 1 1#1
  let main_v35 : IVec S_ 1 := (fun x v => Host.reduce IntOp.andi x v reducesTo_S96x96x3x3_S_d0_1_2_3 h_S_) main_v34 main_c_15
  let main_v36 : FVec F S96 .f32 := Host.absf main_arg12
  let main_cst_16 : FVec F S_ .f32 := constant S_ .f32 0x7F800000#32
  let main_v37 : FVec F S96 .f32 := broadcastInDim S96 ![] bcast_S_S96 main_cst_16
  let main_v38 : IVec S96 1 := cmpf .olt main_v36 main_v37
  let main_c_17 : IVec S_ 1 := constantI S_ 1 1#1
  let main_v39 : IVec S_ 1 := (fun x v => Host.reduce IntOp.andi x v reducesTo_S96_S_d0 h_S_) main_v38 main_c_17
  let main_v40 : FVec F S96 .f32 := Host.absf main_arg13
  let main_cst_18 : FVec F S_ .f32 := constant S_ .f32 0x7F800000#32
  let main_v41 : FVec F S96 .f32 := broadcastInDim S96 ![] bcast_S_S96 main_cst_18
  let main_v42 : IVec S96 1 := cmpf .olt main_v40 main_v41
  let main_c_19 : IVec S_ 1 := constantI S_ 1 1#1
  let main_v43 : IVec S_ 1 := (fun x v => Host.reduce IntOp.andi x v reducesTo_S96_S_d0 h_S_) main_v42 main_c_19
  let main_v44 : IVec S_ 1 := andi main_v3 main_v7
  let main_v45 : IVec S_ 1 := andi main_v44 main_v11
  let main_v46 : IVec S_ 1 := andi main_v45 main_v15
  let main_v47 : IVec S_ 1 := andi main_v46 main_v19
  let main_v48 : IVec S_ 1 := andi main_v47 main_v23
  let main_v49 : IVec S_ 1 := andi main_v48 main_v27
  fn_part3 (F := F) main_v31 main_v35 main_v39 main_v43 main_v49

def fn_part1 {F : FTy → Type} [FloatOps F] (main_arg4 : FVec F S4x96x4x4 .f32) (main_arg5 : FVec F S96x96x3x3 .f32) (main_arg6 : FVec F S96 .f32) (main_arg7 : FVec F S96 .f32) (main_arg11 : FVec F S96x96x3x3 .f32) (main_arg12 : FVec F S96 .f32) (main_arg13 : FVec F S96 .f32) (main_v3 : IVec S_ 1) (main_v7 : IVec S_ 1) (main_v11 : IVec S_ 1) (main_v15 : IVec S_ 1) : IVec S_ 1 :=
  let main_v16 : FVec F S4x96x4x4 .f32 := Host.absf main_arg4
  let main_cst_6 : FVec F S_ .f32 := constant S_ .f32 0x7F800000#32
  let main_v17 : FVec F S4x96x4x4 .f32 := broadcastInDim S4x96x4x4 ![] bcast_S_S4x96x4x4 main_cst_6
  let main_v18 : IVec S4x96x4x4 1 := cmpf .olt main_v16 main_v17
  let main_c_7 : IVec S_ 1 := constantI S_ 1 1#1
  let main_v19 : IVec S_ 1 := (fun x v => Host.reduce IntOp.andi x v reducesTo_S4x96x4x4_S_d0_1_2_3 h_S_) main_v18 main_c_7
  let main_v20 : FVec F S96x96x3x3 .f32 := Host.absf main_arg5
  let main_cst_8 : FVec F S_ .f32 := constant S_ .f32 0x7F800000#32
  let main_v21 : FVec F S96x96x3x3 .f32 := broadcastInDim S96x96x3x3 ![] bcast_S_S96x96x3x3 main_cst_8
  let main_v22 : IVec S96x96x3x3 1 := cmpf .olt main_v20 main_v21
  let main_c_9 : IVec S_ 1 := constantI S_ 1 1#1
  let main_v23 : IVec S_ 1 := (fun x v => Host.reduce IntOp.andi x v reducesTo_S96x96x3x3_S_d0_1_2_3 h_S_) main_v22 main_c_9
  let main_v24 : FVec F S96 .f32 := Host.absf main_arg6
  let main_cst_10 : FVec F S_ .f32 := constant S_ .f32 0x7F800000#32
  let main_v25 : FVec F S96 .f32 := broadcastInDim S96 ![] bcast_S_S96 main_cst_10
  let main_v26 : IVec S96 1 := cmpf .olt main_v24 main_v25
  let main_c_11 : IVec S_ 1 := constantI S_ 1 1#1
  let main_v27 : IVec S_ 1 := (fun x v => Host.reduce IntOp.andi x v reducesTo_S96_S_d0 h_S_) main_v26 main_c_11
  let main_v28 : FVec F S96 .f32 := Host.absf main_arg7
  let main_cst_12 : FVec F S_ .f32 := constant S_ .f32 0x7F800000#32
  let main_v29 : FVec F S96 .f32 := broadcastInDim S96 ![] bcast_S_S96 main_cst_12
  let main_v30 : IVec S96 1 := cmpf .olt main_v28 main_v29
  let main_c_13 : IVec S_ 1 := constantI S_ 1 1#1
  let main_v31 : IVec S_ 1 := (fun x v => Host.reduce IntOp.andi x v reducesTo_S96_S_d0 h_S_) main_v30 main_c_13
  fn_part2 (F := F) main_arg11 main_arg12 main_arg13 main_v3 main_v7 main_v11 main_v15 main_v19 main_v23 main_v27 main_v31

def fn {F : FTy → Type} [FloatOps F] (main_arg0 : FVec F S4x96x64x64 .f32) (main_arg1 : FVec F S4x96x32x32 .f32) (main_arg2 : FVec F S4x96x16x16 .f32) (main_arg3 : FVec F S4x96x8x8 .f32) (main_arg4 : FVec F S4x96x4x4 .f32) (main_arg5 : FVec F S96x96x3x3 .f32) (main_arg6 : FVec F S96 .f32) (main_arg7 : FVec F S96 .f32) (main_arg8 : FVec F S96 .f32) (main_arg9 : FVec F S80x96x1x1 .f32) (main_arg10 : FVec F S80 .f32) (main_arg11 : FVec F S96x96x3x3 .f32) (main_arg12 : FVec F S96 .f32) (main_arg13 : FVec F S96 .f32) (main_arg14 : FVec F S96 .f32) (main_arg15 : FVec F S5x96x1x1 .f32) (main_arg16 : FVec F S5 .f32) : IVec S_ 1 :=
  let main_v0 : FVec F S4x96x64x64 .f32 := Host.absf main_arg0
  let main_cst : FVec F S_ .f32 := constant S_ .f32 0x7F800000#32
  let main_v1 : FVec F S4x96x64x64 .f32 := broadcastInDim S4x96x64x64 ![] bcast_S_S4x96x64x64 main_cst
  let main_v2 : IVec S4x96x64x64 1 := cmpf .olt main_v0 main_v1
  let main_c : IVec S_ 1 := constantI S_ 1 1#1
  let main_v3 : IVec S_ 1 := (fun x v => Host.reduce IntOp.andi x v reducesTo_S4x96x64x64_S_d0_1_2_3 h_S_) main_v2 main_c
  let main_v4 : FVec F S4x96x32x32 .f32 := Host.absf main_arg1
  let main_cst_0 : FVec F S_ .f32 := constant S_ .f32 0x7F800000#32
  let main_v5 : FVec F S4x96x32x32 .f32 := broadcastInDim S4x96x32x32 ![] bcast_S_S4x96x32x32 main_cst_0
  let main_v6 : IVec S4x96x32x32 1 := cmpf .olt main_v4 main_v5
  let main_c_1 : IVec S_ 1 := constantI S_ 1 1#1
  let main_v7 : IVec S_ 1 := (fun x v => Host.reduce IntOp.andi x v reducesTo_S4x96x32x32_S_d0_1_2_3 h_S_) main_v6 main_c_1
  let main_v8 : FVec F S4x96x16x16 .f32 := Host.absf main_arg2
  let main_cst_2 : FVec F S_ .f32 := constant S_ .f32 0x7F800000#32
  let main_v9 : FVec F S4x96x16x16 .f32 := broadcastInDim S4x96x16x16 ![] bcast_S_S4x96x16x16 main_cst_2
  let main_v10 : IVec S4x96x16x16 1 := cmpf .olt main_v8 main_v9
  let main_c_3 : IVec S_ 1 := constantI S_ 1 1#1
  let main_v11 : IVec S_ 1 := (fun x v => Host.reduce IntOp.andi x v reducesTo_S4x96x16x16_S_d0_1_2_3 h_S_) main_v10 main_c_3
  let main_v12 : FVec F S4x96x8x8 .f32 := Host.absf main_arg3
  let main_cst_4 : FVec F S_ .f32 := constant S_ .f32 0x7F800000#32
  let main_v13 : FVec F S4x96x8x8 .f32 := broadcastInDim S4x96x8x8 ![] bcast_S_S4x96x8x8 main_cst_4
  let main_v14 : IVec S4x96x8x8 1 := cmpf .olt main_v12 main_v13
  let main_c_5 : IVec S_ 1 := constantI S_ 1 1#1
  let main_v15 : IVec S_ 1 := (fun x v => Host.reduce IntOp.andi x v reducesTo_S4x96x8x8_S_d0_1_2_3 h_S_) main_v14 main_c_5
  fn_part1 (F := F) main_arg4 main_arg5 main_arg6 main_arg7 main_arg11 main_arg12 main_arg13 main_v3 main_v7 main_v11 main_v15
-- ==== Kernel.lean ====
abbrev S4x96x64x64 : Shape := ⟨4, ![4, 96, 64, 64]⟩
abbrev S4x96x32x32 : Shape := ⟨4, ![4, 96, 32, 32]⟩
abbrev S4x96x16x16 : Shape := ⟨4, ![4, 96, 16, 16]⟩
abbrev S4x96x8x8 : Shape := ⟨4, ![4, 96, 8, 8]⟩
abbrev S4x96x4x4 : Shape := ⟨4, ![4, 96, 4, 4]⟩
abbrev S96x96x3x3 : Shape := ⟨4, ![96, 96, 3, 3]⟩
abbrev S96 : Shape := ⟨1, ![96]⟩
abbrev S80x96x1x1 : Shape := ⟨4, ![80, 96, 1, 1]⟩
abbrev S80 : Shape := ⟨1, ![80]⟩
abbrev S5x96x1x1 : Shape := ⟨4, ![5, 96, 1, 1]⟩
abbrev S5 : Shape := ⟨1, ![5]⟩
abbrev S192x96x3x3 : Shape := ⟨4, ![192, 96, 3, 3]⟩
abbrev S192x3x3x96 : Shape := ⟨4, ![192, 3, 3, 96]⟩
abbrev S192x864 : Shape := ⟨2, ![192, 864]⟩
abbrev S_ : Shape := ⟨0, ![]⟩
abbrev S96x1 : Shape := ⟨2, ![96, 1]⟩
abbrev S96x8 : Shape := ⟨2, ![96, 8]⟩
abbrev S88x192 : Shape := ⟨2, ![88, 192]⟩
abbrev S80x96 : Shape := ⟨2, ![80, 96]⟩
abbrev S1 : Shape := ⟨1, ![1]⟩
abbrev S2 : Shape := ⟨1, ![2]⟩
abbrev S5x96 : Shape := ⟨2, ![5, 96]⟩
abbrev S3 : Shape := ⟨1, ![3]⟩
abbrev S88 : Shape := ⟨1, ![88]⟩
abbrev S88x1 : Shape := ⟨2, ![88, 1]⟩
abbrev S4x96x4096 : Shape := ⟨3, ![4, 96, 4096]⟩
abbrev S4x96x1024 : Shape := ⟨3, ![4, 96, 1024]⟩
abbrev S4x96x256 : Shape := ⟨3, ![4, 96, 256]⟩
abbrev S4x96x64 : Shape := ⟨3, ![4, 96, 64]⟩
abbrev S4x96x16 : Shape := ⟨3, ![4, 96, 16]⟩
abbrev S4x96x1424 : Shape := ⟨3, ![4, 96, 1424]⟩
abbrev S4x80x4096 : Shape := ⟨3, ![4, 80, 4096]⟩
abbrev S4x80x1024 : Shape := ⟨3, ![4, 80, 1024]⟩
abbrev S4x80x256 : Shape := ⟨3, ![4, 80, 256]⟩
abbrev S4x80x64 : Shape := ⟨3, ![4, 80, 64]⟩
abbrev S4x80x16 : Shape := ⟨3, ![4, 80, 16]⟩
abbrev S4x4x4096 : Shape := ⟨3, ![4, 4, 4096]⟩
abbrev S4x4x1024 : Shape := ⟨3, ![4, 4, 1024]⟩
abbrev S4x4x256 : Shape := ⟨3, ![4, 4, 256]⟩
abbrev S4x4x64 : Shape := ⟨3, ![4, 4, 64]⟩
abbrev S4x4x16 : Shape := ⟨3, ![4, 4, 16]⟩
abbrev S4x1x4096 : Shape := ⟨3, ![4, 1, 4096]⟩
abbrev S4x1x1024 : Shape := ⟨3, ![4, 1, 1024]⟩
abbrev S4x1x256 : Shape := ⟨3, ![4, 1, 256]⟩
abbrev S4x1x64 : Shape := ⟨3, ![4, 1, 64]⟩
abbrev S4x1x16 : Shape := ⟨3, ![4, 1, 16]⟩
abbrev S1x96x4096 : Shape := ⟨3, ![1, 96, 4096]⟩
abbrev S1x96x1424 : Shape := ⟨3, ![1, 96, 1424]⟩
abbrev S1x80x4096 : Shape := ⟨3, ![1, 80, 4096]⟩
abbrev S1x80x1024 : Shape := ⟨3, ![1, 80, 1024]⟩
abbrev S1x80x256 : Shape := ⟨3, ![1, 80, 256]⟩
abbrev S1x80x64 : Shape := ⟨3, ![1, 80, 64]⟩
abbrev S1x80x16 : Shape := ⟨3, ![1, 80, 16]⟩
abbrev S1x4x4096 : Shape := ⟨3, ![1, 4, 4096]⟩
abbrev S1x4x1024 : Shape := ⟨3, ![1, 4, 1024]⟩
abbrev S1x4x256 : Shape := ⟨3, ![1, 4, 256]⟩
abbrev S1x4x64 : Shape := ⟨3, ![1, 4, 64]⟩
abbrev S1x4x16 : Shape := ⟨3, ![1, 4, 16]⟩
abbrev S1x1x4096 : Shape := ⟨3, ![1, 1, 4096]⟩
abbrev S1x1x1024 : Shape := ⟨3, ![1, 1, 1024]⟩
abbrev S1x1x256 : Shape := ⟨3, ![1, 1, 256]⟩
abbrev S1x1x64 : Shape := ⟨3, ![1, 1, 64]⟩
abbrev S1x1x16 : Shape := ⟨3, ![1, 1, 16]⟩
abbrev S192x1 : Shape := ⟨2, ![192, 1]⟩
abbrev S96x4096 : Shape := ⟨2, ![96, 4096]⟩
abbrev S96x1424 : Shape := ⟨2, ![96, 1424]⟩
abbrev S1x4096 : Shape := ⟨2, ![1, 4096]⟩
abbrev S96x65 : Shape := ⟨2, ![96, 65]⟩
abbrev S96x4031 : Shape := ⟨2, ![96, 4031]⟩
abbrev S96x64 : Shape := ⟨2, ![96, 64]⟩
abbrev S96x4032 : Shape := ⟨2, ![96, 4032]⟩
abbrev S96x63 : Shape := ⟨2, ![96, 63]⟩
abbrev S96x4033 : Shape := ⟨2, ![96, 4033]⟩
abbrev S96x4095 : Shape := ⟨2, ![96, 4095]⟩
abbrev S384x4096 : Shape := ⟨2, ![384, 4096]⟩
abbrev S480x4096 : Shape := ⟨2, ![480, 4096]⟩
abbrev S192x384 : Shape := ⟨2, ![192, 384]⟩
abbrev S192x4096 : Shape := ⟨2, ![192, 4096]⟩
abbrev S192x480 : Shape := ⟨2, ![192, 480]⟩
abbrev S192x128 : Shape := ⟨2, ![192, 128]⟩
abbrev S192 : Shape := ⟨1, ![192]⟩
abbrev S384x1 : Shape := ⟨2, ![384, 1]⟩
abbrev S383x1 : Shape := ⟨2, ![383, 1]⟩
abbrev S1x1 : Shape := ⟨2, ![1, 1]⟩
abbrev S382x1 : Shape := ⟨2, ![382, 1]⟩
abbrev S2x1 : Shape := ⟨2, ![2, 1]⟩
abbrev S88x4096 : Shape := ⟨2, ![88, 4096]⟩
abbrev S80x4096 : Shape := ⟨2, ![80, 4096]⟩
abbrev S8x4096 : Shape := ⟨2, ![8, 4096]⟩
abbrev S8x1 : Shape := ⟨2, ![8, 1]⟩
abbrev S4x4096 : Shape := ⟨2, ![4, 4096]⟩
abbrev S96x1024 : Shape := ⟨2, ![96, 1024]⟩
abbrev S1x1024 : Shape := ⟨2, ![1, 1024]⟩
abbrev S96x33 : Shape := ⟨2, ![96, 33]⟩
abbrev S96x991 : Shape := ⟨2, ![96, 991]⟩
abbrev S96x32 : Shape := ⟨2, ![96, 32]⟩
abbrev S96x992 : Shape := ⟨2, ![96, 992]⟩
abbrev S96x31 : Shape := ⟨2, ![96, 31]⟩
abbrev S96x993 : Shape := ⟨2, ![96, 993]⟩
abbrev S96x1023 : Shape := ⟨2, ![96, 1023]⟩
abbrev S384x1024 : Shape := ⟨2, ![384, 1024]⟩
abbrev S480x1024 : Shape := ⟨2, ![480, 1024]⟩
abbrev S192x1024 : Shape := ⟨2, ![192, 1024]⟩
abbrev S88x1024 : Shape := ⟨2, ![88, 1024]⟩
abbrev S80x1024 : Shape := ⟨2, ![80, 1024]⟩
abbrev S8x1024 : Shape := ⟨2, ![8, 1024]⟩
abbrev S4x1024 : Shape := ⟨2, ![4, 1024]⟩
abbrev S96x256 : Shape := ⟨2, ![96, 256]⟩
abbrev S1x256 : Shape := ⟨2, ![1, 256]⟩
abbrev S96x17 : Shape := ⟨2, ![96, 17]⟩
abbrev S96x239 : Shape := ⟨2, ![96, 239]⟩
abbrev S96x16 : Shape := ⟨2, ![96, 16]⟩
abbrev S96x240 : Shape := ⟨2, ![96, 240]⟩
abbrev S96x15 : Shape := ⟨2, ![96, 15]⟩
abbrev S96x241 : Shape := ⟨2, ![96, 241]⟩
abbrev S96x255 : Shape := ⟨2, ![96, 255]⟩
abbrev S384x256 : Shape := ⟨2, ![384, 256]⟩
abbrev S480x256 : Shape := ⟨2, ![480, 256]⟩
abbrev S192x256 : Shape := ⟨2, ![192, 256]⟩
abbrev S88x256 : Shape := ⟨2, ![88, 256]⟩
abbrev S80x256 : Shape := ⟨2, ![80, 256]⟩
abbrev S8x256 : Shape := ⟨2, ![8, 256]⟩
abbrev S4x256 : Shape := ⟨2, ![4, 256]⟩
abbrev S1x64 : Shape := ⟨2, ![1, 64]⟩
abbrev S96x9 : Shape := ⟨2, ![96, 9]⟩
abbrev S96x55 : Shape := ⟨2, ![96, 55]⟩
abbrev S96x56 : Shape := ⟨2, ![96, 56]⟩
abbrev S96x7 : Shape := ⟨2, ![96, 7]⟩
abbrev S96x57 : Shape := ⟨2, ![96, 57]⟩
abbrev S384x64 : Shape := ⟨2, ![384, 64]⟩
abbrev S480x64 : Shape := ⟨2, ![480, 64]⟩
abbrev S192x64 : Shape := ⟨2, ![192, 64]⟩
abbrev S88x64 : Shape := ⟨2, ![88, 64]⟩
abbrev S80x64 : Shape := ⟨2, ![80, 64]⟩
abbrev S8x64 : Shape := ⟨2, ![8, 64]⟩
abbrev S4x64 : Shape := ⟨2, ![4, 64]⟩
abbrev S1x16 : Shape := ⟨2, ![1, 16]⟩
abbrev S96x5 : Shape := ⟨2, ![96, 5]⟩
abbrev S96x11 : Shape := ⟨2, ![96, 11]⟩
abbrev S96x4 : Shape := ⟨2, ![96, 4]⟩
abbrev S96x12 : Shape := ⟨2, ![96, 12]⟩
abbrev S96x3 : Shape := ⟨2, ![96, 3]⟩
abbrev S96x13 : Shape := ⟨2, ![96, 13]⟩
abbrev S384x16 : Shape := ⟨2, ![384, 16]⟩
abbrev S480x16 : Shape := ⟨2, ![480, 16]⟩
abbrev S192x16 : Shape := ⟨2, ![192, 16]⟩
abbrev S88x16 : Shape := ⟨2, ![88, 16]⟩
abbrev S80x16 : Shape := ⟨2, ![80, 16]⟩
abbrev S8x16 : Shape := ⟨2, ![8, 16]⟩
abbrev S4x16 : Shape := ⟨2, ![4, 16]⟩

abbrev nBuf : Space → Nat
  | .hbm => 82
  | .vmem => 38
  | .smem => 0
  | _ => 0

abbrev bufTy : (tb : Table) → Fin (tcTables nBuf tb) → BufTy
  | .hbm, ⟨0, _⟩ => ⟨S4x96x64x64, .f32⟩
  | .hbm, ⟨1, _⟩ => ⟨S4x96x32x32, .f32⟩
  | .hbm, ⟨2, _⟩ => ⟨S4x96x16x16, .f32⟩
  | .hbm, ⟨3, _⟩ => ⟨S4x96x8x8, .f32⟩
  | .hbm, ⟨4, _⟩ => ⟨S4x96x4x4, .f32⟩
  | .hbm, ⟨5, _⟩ => ⟨S96x96x3x3, .f32⟩
  | .hbm, ⟨6, _⟩ => ⟨S96, .f32⟩
  | .hbm, ⟨7, _⟩ => ⟨S96, .f32⟩
  | .hbm, ⟨8, _⟩ => ⟨S96, .f32⟩
  | .hbm, ⟨9, _⟩ => ⟨S80x96x1x1, .f32⟩
  | .hbm, ⟨10, _⟩ => ⟨S80, .f32⟩
  | .hbm, ⟨11, _⟩ => ⟨S96x96x3x3, .f32⟩
  | .hbm, ⟨12, _⟩ => ⟨S96, .f32⟩
  | .hbm, ⟨13, _⟩ => ⟨S96, .f32⟩
  | .hbm, ⟨14, _⟩ => ⟨S96, .f32⟩
  | .hbm, ⟨15, _⟩ => ⟨S5x96x1x1, .f32⟩
  | .hbm, ⟨16, _⟩ => ⟨S5, .f32⟩
  | .hbm, ⟨17, _⟩ => ⟨S192x96x3x3, .f32⟩
  | .hbm, ⟨18, _⟩ => ⟨S192x3x3x96, .f32⟩
  | .hbm, ⟨19, _⟩ => ⟨S192x864, .f32⟩
  | .hbm, ⟨20, _⟩ => ⟨S192x864, .bf16⟩
  | .hbm, ⟨21, _⟩ => ⟨S_, .f32⟩
  | .hbm, ⟨22, _⟩ => ⟨S96, .f32⟩
  | .hbm, ⟨23, _⟩ => ⟨S_, .f32⟩
  | .hbm, ⟨24, _⟩ => ⟨S96, .f32⟩
  | .hbm, ⟨25, _⟩ => ⟨S96x1, .f32⟩
  | .hbm, ⟨26, _⟩ => ⟨S96x1, .f32⟩
  | .hbm, ⟨27, _⟩ => ⟨S96x1, .f32⟩
  | .hbm, ⟨28, _⟩ => ⟨S96x1, .f32⟩
  | .hbm, ⟨29, _⟩ => ⟨S96x1, .f32⟩
  | .hbm, ⟨30, _⟩ => ⟨S96x1, .f32⟩
  | .hbm, ⟨31, _⟩ => ⟨S96x1, .f32⟩
  | .hbm, ⟨32, _⟩ => ⟨S96x1, .f32⟩
  | .hbm, ⟨33, _⟩ => ⟨S96x8, .f32⟩
  | .hbm, ⟨34, _⟩ => ⟨S_, .f32⟩
  | .hbm, ⟨35, _⟩ => ⟨S88x192, .f32⟩
  | .hbm, ⟨36, _⟩ => ⟨S80x96, .f32⟩
  | .hbm, ⟨37, _⟩ => ⟨S_, .i32⟩
  | .hbm, ⟨38, _⟩ => ⟨S1, .i32⟩
  | .hbm, ⟨39, _⟩ => ⟨S_, .i32⟩
  | .hbm, ⟨40, _⟩ => ⟨S1, .i32⟩
  | .hbm, ⟨41, _⟩ => ⟨S2, .i32⟩
  | .hbm, ⟨42, _⟩ => ⟨S88x192, .f32⟩
  | .hbm, ⟨43, _⟩ => ⟨S5x96, .f32⟩
  | .hbm, ⟨44, _⟩ => ⟨S_, .i32⟩
  | .hbm, ⟨45, _⟩ => ⟨S1, .i32⟩
  | .hbm, ⟨46, _⟩ => ⟨S_, .i32⟩
  | .hbm, ⟨47, _⟩ => ⟨S1, .i32⟩
  | .hbm, ⟨48, _⟩ => ⟨S2, .i32⟩
  | .hbm, ⟨49, _⟩ => ⟨S88x192, .f32⟩
  | .hbm, ⟨50, _⟩ => ⟨S88x192, .bf16⟩
  | .hbm, ⟨51, _⟩ => ⟨S_, .f32⟩
  | .hbm, ⟨52, _⟩ => ⟨S3, .f32⟩
  | .hbm, ⟨53, _⟩ => ⟨S88, .f32⟩
  | .hbm, ⟨54, _⟩ => ⟨S88x1, .f32⟩
  | .hbm, ⟨55, _⟩ => ⟨S4x96x4096, .f32⟩
  | .hbm, ⟨56, _⟩ => ⟨S4x96x1024, .f32⟩
  | .hbm, ⟨57, _⟩ => ⟨S4x96x1024, .bf16⟩
  | .hbm, ⟨58, _⟩ => ⟨S4x96x256, .f32⟩
  | .hbm, ⟨59, _⟩ => ⟨S4x96x256, .bf16⟩
  | .hbm, ⟨60, _⟩ => ⟨S4x96x64, .f32⟩
  | .hbm, ⟨61, _⟩ => ⟨S4x96x64, .bf16⟩
  | .hbm, ⟨62, _⟩ => ⟨S_, .bf16⟩
  | .hbm, ⟨63, _⟩ => ⟨S4x96x64, .bf16⟩
  | .hbm, ⟨64, _⟩ => ⟨S4x96x16, .f32⟩
  | .hbm, ⟨65, _⟩ => ⟨S4x96x16, .bf16⟩
  | .hbm, ⟨66, _⟩ => ⟨S4x96x1424, .bf16⟩
  | .hbm, ⟨67, _⟩ => ⟨S4x80x4096, .f32⟩
  | .hbm, ⟨68, _⟩ => ⟨S4x80x1024, .f32⟩
  | .hbm, ⟨69, _⟩ => ⟨S4x80x256, .f32⟩
  | .hbm, ⟨70, _⟩ => ⟨S4x80x64, .f32⟩
  | .hbm, ⟨71, _⟩ => ⟨S4x80x16, .f32⟩
  | .hbm, ⟨72, _⟩ => ⟨S4x4x4096, .f32⟩
  | .hbm, ⟨73, _⟩ => ⟨S4x4x1024, .f32⟩
  | .hbm, ⟨74, _⟩ => ⟨S4x4x256, .f32⟩
  | .hbm, ⟨75, _⟩ => ⟨S4x4x64, .f32⟩
  | .hbm, ⟨76, _⟩ => ⟨S4x4x16, .f32⟩
  | .hbm, ⟨77, _⟩ => ⟨S4x1x4096, .f32⟩
  | .hbm, ⟨78, _⟩ => ⟨S4x1x1024, .f32⟩
  | .hbm, ⟨79, _⟩ => ⟨S4x1x256, .f32⟩
  | .hbm, ⟨80, _⟩ => ⟨S4x1x64, .f32⟩
  | .hbm, ⟨81, _⟩ => ⟨S4x1x16, .f32⟩
  | .local _ .vmem, ⟨0, _⟩ => ⟨S1x96x4096, .f32⟩
  | .local _ .vmem, ⟨1, _⟩ => ⟨S1x96x4096, .f32⟩
  | .local _ .vmem, ⟨2, _⟩ => ⟨S1x96x1424, .bf16⟩
  | .local _ .vmem, ⟨3, _⟩ => ⟨S1x96x1424, .bf16⟩
  | .local _ .vmem, ⟨4, _⟩ => ⟨S192x864, .bf16⟩
  | .local _ .vmem, ⟨5, _⟩ => ⟨S96x8, .f32⟩
  | .local _ .vmem, ⟨6, _⟩ => ⟨S88x192, .bf16⟩
  | .local _ .vmem, ⟨7, _⟩ => ⟨S88x1, .f32⟩
  | .local _ .vmem, ⟨8, _⟩ => ⟨S1x80x4096, .f32⟩
  | .local _ .vmem, ⟨9, _⟩ => ⟨S1x80x4096, .f32⟩
  | .local _ .vmem, ⟨10, _⟩ => ⟨S1x80x1024, .f32⟩
  | .local _ .vmem, ⟨11, _⟩ => ⟨S1x80x1024, .f32⟩
  | .local _ .vmem, ⟨12, _⟩ => ⟨S1x80x256, .f32⟩
  | .local _ .vmem, ⟨13, _⟩ => ⟨S1x80x256, .f32⟩
  | .local _ .vmem, ⟨14, _⟩ => ⟨S1x80x64, .f32⟩
  | .local _ .vmem, ⟨15, _⟩ => ⟨S1x80x64, .f32⟩
  | .local _ .vmem, ⟨16, _⟩ => ⟨S1x80x16, .f32⟩
  | .local _ .vmem, ⟨17, _⟩ => ⟨S1x80x16, .f32⟩
  | .local _ .vmem, ⟨18, _⟩ => ⟨S1x4x4096, .f32⟩
  | .local _ .vmem, ⟨19, _⟩ => ⟨S1x4x4096, .f32⟩
  | .local _ .vmem, ⟨20, _⟩ => ⟨S1x4x1024, .f32⟩
  | .local _ .vmem, ⟨21, _⟩ => ⟨S1x4x1024, .f32⟩
  | .local _ .vmem, ⟨22, _⟩ => ⟨S1x4x256, .f32⟩
  | .local _ .vmem, ⟨23, _⟩ => ⟨S1x4x256, .f32⟩
  | .local _ .vmem, ⟨24, _⟩ => ⟨S1x4x64, .f32⟩
  | .local _ .vmem, ⟨25, _⟩ => ⟨S1x4x64, .f32⟩
  | .local _ .vmem, ⟨26, _⟩ => ⟨S1x4x16, .f32⟩
  | .local _ .vmem, ⟨27, _⟩ => ⟨S1x4x16, .f32⟩
  | .local _ .vmem, ⟨28, _⟩ => ⟨S1x1x4096, .f32⟩
  | .local _ .vmem, ⟨29, _⟩ => ⟨S1x1x4096, .f32⟩
  | .local _ .vmem, ⟨30, _⟩ => ⟨S1x1x1024, .f32⟩
  | .local _ .vmem, ⟨31, _⟩ => ⟨S1x1x1024, .f32⟩
  | .local _ .vmem, ⟨32, _⟩ => ⟨S1x1x256, .f32⟩
  | .local _ .vmem, ⟨33, _⟩ => ⟨S1x1x256, .f32⟩
  | .local _ .vmem, ⟨34, _⟩ => ⟨S1x1x64, .f32⟩
  | .local _ .vmem, ⟨35, _⟩ => ⟨S1x1x64, .f32⟩
  | .local _ .vmem, ⟨36, _⟩ => ⟨S1x1x16, .f32⟩
  | .local _ .vmem, ⟨37, _⟩ => ⟨S1x1x16, .f32⟩
  | _, _ => ⟨S4x96x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_v16 : Ref sig .tc := ⟨.hbm, 36, rfl⟩
abbrev main_c : Ref sig .tc := ⟨.hbm, 37, rfl⟩
abbrev main_v17 : Ref sig .tc := ⟨.hbm, 38, rfl⟩
abbrev main_c_2 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_c_3 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_cst_6 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41_0 : Ref sig .tc := ⟨.hbm, 67, rfl⟩
abbrev main_v41_1 : Ref sig .tc := ⟨.hbm, 68, rfl⟩
abbrev main_v41_2 : Ref sig .tc := ⟨.hbm, 69, rfl⟩
abbrev main_v41_3 : Ref sig .tc := ⟨.hbm, 70, rfl⟩
abbrev main_v41_4 : Ref sig .tc := ⟨.hbm, 71, rfl⟩
abbrev main_v41_5 : Ref sig .tc := ⟨.hbm, 72, rfl⟩
abbrev main_v41_6 : Ref sig .tc := ⟨.hbm, 73, rfl⟩
abbrev main_v41_7 : Ref sig .tc := ⟨.hbm, 74, rfl⟩
abbrev main_v41_8 : Ref sig .tc := ⟨.hbm, 75, rfl⟩
abbrev main_v41_9 : Ref sig .tc := ⟨.hbm, 76, rfl⟩
abbrev main_v41_10 : Ref sig .tc := ⟨.hbm, 77, rfl⟩
abbrev main_v41_11 : Ref sig .tc := ⟨.hbm, 78, rfl⟩
abbrev main_v41_12 : Ref sig .tc := ⟨.hbm, 79, rfl⟩
abbrev main_v41_13 : Ref sig .tc := ⟨.hbm, 80, rfl⟩
abbrev main_v41_14 : Ref sig .tc := ⟨.hbm, 81, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x96x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x96x1424 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S192x864 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S88x192 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S88x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x80x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x80x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x80x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x80x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x80x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x4x4096 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x4x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x4x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x4x64 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x4x16 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x1x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S1x1x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S1x1x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S1x1x64 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S1x1x16 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== KernelIdeal.lean ====
variable {F : FTy → Type} [FloatOps F] [Named F]
def κ : String → Option EReal := fun
  | "count1024" => some ((1 / 3072 : ℝ) : EReal)
  | "count16" => some ((1 / 48 : ℝ) : EReal)
  | "count256" => some ((1 / 768 : ℝ) : EReal)
  | "count4096" => some ((1 / 12288 : ℝ) : EReal)
  | "count64" => some ((1 / 192 : ℝ) : EReal)
  | _ => none
-- ==== ReferenceIdeal.lean ====
abbrev S4x96x64x64 : Shape := ⟨4, ![4, 96, 64, 64]⟩
abbrev S4x96x32x32 : Shape := ⟨4, ![4, 96, 32, 32]⟩
abbrev S4x96x16x16 : Shape := ⟨4, ![4, 96, 16, 16]⟩
abbrev S4x96x8x8 : Shape := ⟨4, ![4, 96, 8, 8]⟩
abbrev S4x96x4x4 : Shape := ⟨4, ![4, 96, 4, 4]⟩
abbrev S96x96x3x3 : Shape := ⟨4, ![96, 96, 3, 3]⟩
abbrev S96 : Shape := ⟨1, ![96]⟩
abbrev S80x96x1x1 : Shape := ⟨4, ![80, 96, 1, 1]⟩
abbrev S80 : Shape := ⟨1, ![80]⟩
abbrev S5x96x1x1 : Shape := ⟨4, ![5, 96, 1, 1]⟩
abbrev S5 : Shape := ⟨1, ![5]⟩
abbrev S_ : Shape := ⟨0, ![]⟩
abbrev S4x96x66x66 : Shape := ⟨4, ![4, 96, 66, 66]⟩
abbrev S96x96x1x1 : Shape := ⟨4, ![96, 96, 1, 1]⟩
abbrev S96x96 : Shape := ⟨2, ![96, 96]⟩
abbrev S96x4x64x64 : Shape := ⟨4, ![96, 4, 64, 64]⟩
abbrev S1x96x1x1 : Shape := ⟨4, ![1, 96, 1, 1]⟩
abbrev S4x32x3x64x64 : Shape := ⟨5, ![4, 32, 3, 64, 64]⟩
abbrev S4x32 : Shape := ⟨2, ![4, 32]⟩
abbrev S4x32x1x1x1 : Shape := ⟨5, ![4, 32, 1, 1, 1]⟩
abbrev S80x96 : Shape := ⟨2, ![80, 96]⟩
abbrev S80x4x64x64 : Shape := ⟨4, ![80, 4, 64, 64]⟩
abbrev S4x80x64x64 : Shape := ⟨4, ![4, 80, 64, 64]⟩
abbrev S1x80x1x1 : Shape := ⟨4, ![1, 80, 1, 1]⟩
abbrev S5x96 : Shape := ⟨2, ![5, 96]⟩
abbrev S5x4x64x64 : Shape := ⟨4, ![5, 4, 64, 64]⟩
abbrev S4x5x64x64 : Shape := ⟨4, ![4, 5, 64, 64]⟩
abbrev S1x5x1x1 : Shape := ⟨4, ![1, 5, 1, 1]⟩
abbrev S4x80x4096 : Shape := ⟨3, ![4, 80, 4096]⟩
abbrev S4x4x64x64 : Shape := ⟨4, ![4, 4, 64, 64]⟩
abbrev S4x4x4096 : Shape := ⟨3, ![4, 4, 4096]⟩
abbrev S4x1x64x64 : Shape := ⟨4, ![4, 1, 64, 64]⟩
abbrev S4x1x4096 : Shape := ⟨3, ![4, 1, 4096]⟩
abbrev S4x96x34x34 : Shape := ⟨4, ![4, 96, 34, 34]⟩
abbrev S96x4x32x32 : Shape := ⟨4, ![96, 4, 32, 32]⟩
abbrev S4x32x3x32x32 : Shape := ⟨5, ![4, 32, 3, 32, 32]⟩
abbrev S80x4x32x32 : Shape := ⟨4, ![80, 4, 32, 32]⟩
abbrev S4x80x32x32 : Shape := ⟨4, ![4, 80, 32, 32]⟩
abbrev S5x4x32x32 : Shape := ⟨4, ![5, 4, 32, 32]⟩
abbrev S4x5x32x32 : Shape := ⟨4, ![4, 5, 32, 32]⟩
abbrev S4x80x1024 : Shape := ⟨3, ![4, 80, 1024]⟩
abbrev S4x4x32x32 : Shape := ⟨4, ![4, 4, 32, 32]⟩
abbrev S4x4x1024 : Shape := ⟨3, ![4, 4, 1024]⟩
abbrev S4x1x32x32 : Shape := ⟨4, ![4, 1, 32, 32]⟩
abbrev S4x1x1024 : Shape := ⟨3, ![4, 1, 1024]⟩
abbrev S4x96x18x18 : Shape := ⟨4, ![4, 96, 18, 18]⟩
abbrev S96x4x16x16 : Shape := ⟨4, ![96, 4, 16, 16]⟩
abbrev S4x32x3x16x16 : Shape := ⟨5, ![4, 32, 3, 16, 16]⟩
abbrev S80x4x16x16 : Shape := ⟨4, ![80, 4, 16, 16]⟩
abbrev S4x80x16x16 : Shape := ⟨4, ![4, 80, 16, 16]⟩
abbrev S5x4x16x16 : Shape := ⟨4, ![5, 4, 16, 16]⟩
abbrev S4x5x16x16 : Shape := ⟨4, ![4, 5, 16, 16]⟩
abbrev S4x80x256 : Shape := ⟨3, ![4, 80, 256]⟩
abbrev S4x4x16x16 : Shape := ⟨4, ![4, 4, 16, 16]⟩
abbrev S4x4x256 : Shape := ⟨3, ![4, 4, 256]⟩
abbrev S4x1x16x16 : Shape := ⟨4, ![4, 1, 16, 16]⟩
abbrev S4x1x256 : Shape := ⟨3, ![4, 1, 256]⟩
abbrev S4x96x10x10 : Shape := ⟨4, ![4, 96, 10, 10]⟩
abbrev S96x4x8x8 : Shape := ⟨4, ![96, 4, 8, 8]⟩
abbrev S4x32x3x8x8 : Shape := ⟨5, ![4, 32, 3, 8, 8]⟩
abbrev S80x4x8x8 : Shape := ⟨4, ![80, 4, 8, 8]⟩
abbrev S4x80x8x8 : Shape := ⟨4, ![4, 80, 8, 8]⟩
abbrev S5x4x8x8 : Shape := ⟨4, ![5, 4, 8, 8]⟩
abbrev S4x5x8x8 : Shape := ⟨4, ![4, 5, 8, 8]⟩
abbrev S4x80x64 : Shape := ⟨3, ![4, 80, 64]⟩
abbrev S4x4x8x8 : Shape := ⟨4, ![4, 4, 8, 8]⟩
abbrev S4x4x64 : Shape := ⟨3, ![4, 4, 64]⟩
abbrev S4x1x8x8 : Shape := ⟨4, ![4, 1, 8, 8]⟩
abbrev S4x1x64 : Shape := ⟨3, ![4, 1, 64]⟩
abbrev S4x96x6x6 : Shape := ⟨4, ![4, 96, 6, 6]⟩
abbrev S96x4x4x4 : Shape := ⟨4, ![96, 4, 4, 4]⟩
abbrev S4x32x3x4x4 : Shape := ⟨5, ![4, 32, 3, 4, 4]⟩
abbrev S80x4x4x4 : Shape := ⟨4, ![80, 4, 4, 4]⟩
abbrev S4x80x4x4 : Shape := ⟨4, ![4, 80, 4, 4]⟩
abbrev S5x4x4x4 : Shape := ⟨4, ![5, 4, 4, 4]⟩
abbrev S4x5x4x4 : Shape := ⟨4, ![4, 5, 4, 4]⟩
abbrev S4x80x16 : Shape := ⟨3, ![4, 80, 16]⟩
abbrev S4x4x4x4 : Shape := ⟨4, ![4, 4, 4, 4]⟩
abbrev S4x4x16 : Shape := ⟨3, ![4, 4, 16]⟩
abbrev S4x1x4x4 : Shape := ⟨4, ![4, 1, 4, 4]⟩
abbrev S4x1x16 : Shape := ⟨3, ![4, 1, 16]⟩

abbrev nBuf : Space → Nat
  | .hbm => 1192
  | .vmem => 0
  | .smem => 0
  | _ => 0

abbrev hbmTy0_0 (i : Nat) : BufTy := match i % 128 with
  | 0 => ⟨S4x96x64x64, .f32⟩
  | 1 => ⟨S4x96x32x32, .f32⟩
  | 2 => ⟨S4x96x16x16, .f32⟩
  | 3 => ⟨S4x96x8x8, .f32⟩
  | 4 => ⟨S4x96x4x4, .f32⟩
  | 5 => ⟨S96x96x3x3, .f32⟩
  | 6 => ⟨S96, .f32⟩
  | 7 => ⟨S96, .f32⟩
  | 8 => ⟨S96, .f32⟩
  | 9 => ⟨S80x96x1x1, .f32⟩
  | 10 => ⟨S80, .f32⟩
  | 11 => ⟨S96x96x3x3, .f32⟩
  | 12 => ⟨S96, .f32⟩
  | 13 => ⟨S96, .f32⟩
  | 14 => ⟨S96, .f32⟩
  | 15 => ⟨S5x96x1x1, .f32⟩
  | 16 => ⟨S5, .f32⟩
  | 17 => ⟨S_, .i32⟩
  | 18 => ⟨S_, .f32⟩
  | 19 => ⟨S4x96x66x66, .f32⟩
  | 20 => ⟨S96x96x1x1, .f32⟩
  | 21 => ⟨S96x96, .f32⟩
  | 22 => ⟨S4x96x64x64, .f32⟩
  | 23 => ⟨S96x4x64x64, .f32⟩
  | 24 => ⟨S96x96x1x1, .f32⟩
  | 25 => ⟨S96x96, .f32⟩
  | 26 => ⟨S4x96x64x64, .f32⟩
  | 27 => ⟨S96x4x64x64, .f32⟩
  | 28 => ⟨S96x4x64x64, .f32⟩
  | 29 => ⟨S96x96x1x1, .f32⟩
  | 30 => ⟨S96x96, .f32⟩
  | 31 => ⟨S4x96x64x64, .f32⟩
  | 32 => ⟨S96x4x64x64, .f32⟩
  | 33 => ⟨S96x4x64x64, .f32⟩
  | 34 => ⟨S96x96x1x1, .f32⟩
  | 35 => ⟨S96x96, .f32⟩
  | 36 => ⟨S4x96x64x64, .f32⟩
  | 37 => ⟨S96x4x64x64, .f32⟩
  | 38 => ⟨S96x4x64x64, .f32⟩
  | 39 => ⟨S96x96x1x1, .f32⟩
  | 40 => ⟨S96x96, .f32⟩
  | 41 => ⟨S4x96x64x64, .f32⟩
  | 42 => ⟨S96x4x64x64, .f32⟩
  | 43 => ⟨S96x4x64x64, .f32⟩
  | 44 => ⟨S96x96x1x1, .f32⟩
  | 45 => ⟨S96x96, .f32⟩
  | 46 => ⟨S4x96x64x64, .f32⟩
  | 47 => ⟨S96x4x64x64, .f32⟩
  | 48 => ⟨S96x4x64x64, .f32⟩
  | 49 => ⟨S96x96x1x1, .f32⟩
  | 50 => ⟨S96x96, .f32⟩
  | 51 => ⟨S4x96x64x64, .f32⟩
  | 52 => ⟨S96x4x64x64, .f32⟩
  | 53 => ⟨S96x4x64x64, .f32⟩
  | 54 => ⟨S96x96x1x1, .f32⟩
  | 55 => ⟨S96x96, .f32⟩
  | 56 => ⟨S4x96x64x64, .f32⟩
  | 57 => ⟨S96x4x64x64, .f32⟩
  | 58 => ⟨S96x4x64x64, .f32⟩
  | 59 => ⟨S96x96x1x1, .f32⟩
  | 60 => ⟨S96x96, .f32⟩
  | 61 => ⟨S4x96x64x64, .f32⟩
  | 62 => ⟨S96x4x64x64, .f32⟩
  | 63 => ⟨S96x4x64x64, .f32⟩
  | 64 => ⟨S4x96x64x64, .f32⟩
  | 65 => ⟨S1x96x1x1, .f32⟩
  | 66 => ⟨S4x96x64x64, .f32⟩
  | 67 => ⟨S4x96x64x64, .f32⟩
  | 68 => ⟨S4x32x3x64x64, .f32⟩
  | 69 => ⟨S_, .f32⟩
  | 70 => ⟨S4x32, .f32⟩
  | 71 => ⟨S4x32x1x1x1, .f32⟩
  | 72 => ⟨S_, .f32⟩
  | 73 => ⟨S4x32x1x1x1, .f32⟩
  | 74 => ⟨S4x32x1x1x1, .f32⟩
  | 75 => ⟨S_, .i32⟩
  | 76 => ⟨S_, .f32⟩
  | 77 => ⟨S4x32, .f32⟩
  | 78 => ⟨S4x32x1x1x1, .f32⟩
  | 79 => ⟨S_, .f32⟩
  | 80 => ⟨S4x32x1x1x1, .f32⟩
  | 81 => ⟨S4x32x1x1x1, .f32⟩
  | 82 => ⟨S4x32x3x64x64, .f32⟩
  | 83 => ⟨S4x32x3x64x64, .f32⟩
  | 84 => ⟨S4x32x3x64x64, .f32⟩
  | 85 => ⟨S_, .f32⟩
  | 86 => ⟨S_, .f32⟩
  | 87 => ⟨S_, .f32⟩
  | 88 => ⟨S_, .f32⟩
  | 89 => ⟨S4x32, .f32⟩
  | 90 => ⟨S4x32x1x1x1, .f32⟩
  | 91 => ⟨S4x32x1x1x1, .f32⟩
  | 92 => ⟨S4x32x1x1x1, .f32⟩
  | 93 => ⟨S_, .f32⟩
  | 94 => ⟨S_, .i1⟩
  | 95 => ⟨S_, .f32⟩
  | 96 => ⟨S_, .f32⟩
  | 97 => ⟨S4x32x1x1x1, .f32⟩
  | 98 => ⟨S4x32x1x1x1, .f32⟩
  | 99 => ⟨S4x32x3x64x64, .f32⟩
  | 100 => ⟨S4x32x3x64x64, .f32⟩
  | 101 => ⟨S_, .f32⟩
  | 102 => ⟨S4x32x1x1x1, .f32⟩
  | 103 => ⟨S4x32x1x1x1, .f32⟩
  | 104 => ⟨S4x32x1x1x1, .f32⟩
  | 105 => ⟨S4x32x3x64x64, .f32⟩
  | 106 => ⟨S4x32x3x64x64, .f32⟩
  | 107 => ⟨S4x96x64x64, .f32⟩
  | 108 => ⟨S1x96x1x1, .f32⟩
  | 109 => ⟨S4x96x64x64, .f32⟩
  | 110 => ⟨S4x96x64x64, .f32⟩
  | 111 => ⟨S1x96x1x1, .f32⟩
  | 112 => ⟨S4x96x64x64, .f32⟩
  | 113 => ⟨S4x96x64x64, .f32⟩
  | 114 => ⟨S4x96x64x64, .f32⟩
  | 115 => ⟨S4x96x64x64, .f32⟩
  | 116 => ⟨S_, .f32⟩
  | 117 => ⟨S4x96x64x64, .f32⟩
  | 118 => ⟨S4x96x64x64, .f32⟩
  | 119 => ⟨S_, .f32⟩
  | 120 => ⟨S4x96x64x64, .f32⟩
  | 121 => ⟨S4x96x64x64, .f32⟩
  | 122 => ⟨S4x96x64x64, .f32⟩
  | 123 => ⟨S80x96, .f32⟩
  | 124 => ⟨S80x4x64x64, .f32⟩
  | 125 => ⟨S4x80x64x64, .f32⟩
  | 126 => ⟨S1x80x1x1, .f32⟩
  | 127 => ⟨S4x80x64x64, .f32⟩
  | _ => ⟨S4x96x64x64, .f32⟩

abbrev hbmTy0_1 (i : Nat) : BufTy := match i % 128 with
  | 0 => ⟨S4x80x64x64, .f32⟩
  | 1 => ⟨S_, .i32⟩
  | 2 => ⟨S_, .f32⟩
  | 3 => ⟨S4x96x66x66, .f32⟩
  | 4 => ⟨S96x96x1x1, .f32⟩
  | 5 => ⟨S96x96, .f32⟩
  | 6 => ⟨S4x96x64x64, .f32⟩
  | 7 => ⟨S96x4x64x64, .f32⟩
  | 8 => ⟨S96x96x1x1, .f32⟩
  | 9 => ⟨S96x96, .f32⟩
  | 10 => ⟨S4x96x64x64, .f32⟩
  | 11 => ⟨S96x4x64x64, .f32⟩
  | 12 => ⟨S96x4x64x64, .f32⟩
  | 13 => ⟨S96x96x1x1, .f32⟩
  | 14 => ⟨S96x96, .f32⟩
  | 15 => ⟨S4x96x64x64, .f32⟩
  | 16 => ⟨S96x4x64x64, .f32⟩
  | 17 => ⟨S96x4x64x64, .f32⟩
  | 18 => ⟨S96x96x1x1, .f32⟩
  | 19 => ⟨S96x96, .f32⟩
  | 20 => ⟨S4x96x64x64, .f32⟩
  | 21 => ⟨S96x4x64x64, .f32⟩
  | 22 => ⟨S96x4x64x64, .f32⟩
  | 23 => ⟨S96x96x1x1, .f32⟩
  | 24 => ⟨S96x96, .f32⟩
  | 25 => ⟨S4x96x64x64, .f32⟩
  | 26 => ⟨S96x4x64x64, .f32⟩
  | 27 => ⟨S96x4x64x64, .f32⟩
  | 28 => ⟨S96x96x1x1, .f32⟩
  | 29 => ⟨S96x96, .f32⟩
  | 30 => ⟨S4x96x64x64, .f32⟩
  | 31 => ⟨S96x4x64x64, .f32⟩
  | 32 => ⟨S96x4x64x64, .f32⟩
  | 33 => ⟨S96x96x1x1, .f32⟩
  | 34 => ⟨S96x96, .f32⟩
  | 35 => ⟨S4x96x64x64, .f32⟩
  | 36 => ⟨S96x4x64x64, .f32⟩
  | 37 => ⟨S96x4x64x64, .f32⟩
  | 38 => ⟨S96x96x1x1, .f32⟩
  | 39 => ⟨S96x96, .f32⟩
  | 40 => ⟨S4x96x64x64, .f32⟩
  | 41 => ⟨S96x4x64x64, .f32⟩
  | 42 => ⟨S96x4x64x64, .f32⟩
  | 43 => ⟨S96x96x1x1, .f32⟩
  | 44 => ⟨S96x96, .f32⟩
  | 45 => ⟨S4x96x64x64, .f32⟩
  | 46 => ⟨S96x4x64x64, .f32⟩
  | 47 => ⟨S96x4x64x64, .f32⟩
  | 48 => ⟨S4x96x64x64, .f32⟩
  | 49 => ⟨S1x96x1x1, .f32⟩
  | 50 => ⟨S4x96x64x64, .f32⟩
  | 51 => ⟨S4x96x64x64, .f32⟩
  | 52 => ⟨S4x32x3x64x64, .f32⟩
  | 53 => ⟨S_, .f32⟩
  | 54 => ⟨S4x32, .f32⟩
  | 55 => ⟨S4x32x1x1x1, .f32⟩
  | 56 => ⟨S_, .f32⟩
  | 57 => ⟨S4x32x1x1x1, .f32⟩
  | 58 => ⟨S4x32x1x1x1, .f32⟩
  | 59 => ⟨S_, .i32⟩
  | 60 => ⟨S_, .f32⟩
  | 61 => ⟨S4x32, .f32⟩
  | 62 => ⟨S4x32x1x1x1, .f32⟩
  | 63 => ⟨S_, .f32⟩
  | 64 => ⟨S4x32x1x1x1, .f32⟩
  | 65 => ⟨S4x32x1x1x1, .f32⟩
  | 66 => ⟨S4x32x3x64x64, .f32⟩
  | 67 => ⟨S4x32x3x64x64, .f32⟩
  | 68 => ⟨S4x32x3x64x64, .f32⟩
  | 69 => ⟨S_, .f32⟩
  | 70 => ⟨S_, .f32⟩
  | 71 => ⟨S_, .f32⟩
  | 72 => ⟨S_, .f32⟩
  | 73 => ⟨S4x32, .f32⟩
  | 74 => ⟨S4x32x1x1x1, .f32⟩
  | 75 => ⟨S4x32x1x1x1, .f32⟩
  | 76 => ⟨S4x32x1x1x1, .f32⟩
  | 77 => ⟨S_, .f32⟩
  | 78 => ⟨S_, .i1⟩
  | 79 => ⟨S_, .f32⟩
  | 80 => ⟨S_, .f32⟩
  | 81 => ⟨S4x32x1x1x1, .f32⟩
  | 82 => ⟨S4x32x1x1x1, .f32⟩
  | 83 => ⟨S4x32x3x64x64, .f32⟩
  | 84 => ⟨S4x32x3x64x64, .f32⟩
  | 85 => ⟨S_, .f32⟩
  | 86 => ⟨S4x32x1x1x1, .f32⟩
  | 87 => ⟨S4x32x1x1x1, .f32⟩
  | 88 => ⟨S4x32x1x1x1, .f32⟩
  | 89 => ⟨S4x32x3x64x64, .f32⟩
  | 90 => ⟨S4x32x3x64x64, .f32⟩
  | 91 => ⟨S4x96x64x64, .f32⟩
  | 92 => ⟨S1x96x1x1, .f32⟩
  | 93 => ⟨S4x96x64x64, .f32⟩
  | 94 => ⟨S4x96x64x64, .f32⟩
  | 95 => ⟨S1x96x1x1, .f32⟩
  | 96 => ⟨S4x96x64x64, .f32⟩
  | 97 => ⟨S4x96x64x64, .f32⟩
  | 98 => ⟨S4x96x64x64, .f32⟩
  | 99 => ⟨S4x96x64x64, .f32⟩
  | 100 => ⟨S_, .f32⟩
  | 101 => ⟨S4x96x64x64, .f32⟩
  | 102 => ⟨S4x96x64x64, .f32⟩
  | 103 => ⟨S_, .f32⟩
  | 104 => ⟨S4x96x64x64, .f32⟩
  | 105 => ⟨S4x96x64x64, .f32⟩
  | 106 => ⟨S4x96x64x64, .f32⟩
  | 107 => ⟨S5x96, .f32⟩
  | 108 => ⟨S5x4x64x64, .f32⟩
  | 109 => ⟨S4x5x64x64, .f32⟩
  | 110 => ⟨S1x5x1x1, .f32⟩
  | 111 => ⟨S4x5x64x64, .f32⟩
  | 112 => ⟨S4x5x64x64, .f32⟩
  | 113 => ⟨S4x80x4096, .f32⟩
  | 114 => ⟨S4x4x64x64, .f32⟩
  | 115 => ⟨S_, .f32⟩
  | 116 => ⟨S4x4x64x64, .f32⟩
  | 117 => ⟨S4x4x64x64, .f32⟩
  | 118 => ⟨S_, .f32⟩
  | 119 => ⟨S4x4x64x64, .f32⟩
  | 120 => ⟨S4x4x64x64, .f32⟩
  | 121 => ⟨S4x4x4096, .f32⟩
  | 122 => ⟨S4x1x64x64, .f32⟩
  | 123 => ⟨S4x1x4096, .f32⟩
  | 124 => ⟨S_, .i32⟩
  | 125 => ⟨S_, .f32⟩
  | 126 => ⟨S4x96x34x34, .f32⟩
  | 127 => ⟨S96x96x1x1, .f32⟩
  | _ => ⟨S4x96x64x64, .f32⟩

abbrev hbmTy0_2 (i : Nat) : BufTy := match i % 128 with
  | 0 => ⟨S96x96, .f32⟩
  | 1 => ⟨S4x96x32x32, .f32⟩
  | 2 => ⟨S96x4x32x32, .f32⟩
  | 3 => ⟨S96x96x1x1, .f32⟩
  | 4 => ⟨S96x96, .f32⟩
  | 5 => ⟨S4x96x32x32, .f32⟩
  | 6 => ⟨S96x4x32x32, .f32⟩
  | 7 => ⟨S96x4x32x32, .f32⟩
  | 8 => ⟨S96x96x1x1, .f32⟩
  | 9 => ⟨S96x96, .f32⟩
  | 10 => ⟨S4x96x32x32, .f32⟩
  | 11 => ⟨S96x4x32x32, .f32⟩
  | 12 => ⟨S96x4x32x32, .f32⟩
  | 13 => ⟨S96x96x1x1, .f32⟩
  | 14 => ⟨S96x96, .f32⟩
  | 15 => ⟨S4x96x32x32, .f32⟩
  | 16 => ⟨S96x4x32x32, .f32⟩
  | 17 => ⟨S96x4x32x32, .f32⟩
  | 18 => ⟨S96x96x1x1, .f32⟩
  | 19 => ⟨S96x96, .f32⟩
  | 20 => ⟨S4x96x32x32, .f32⟩
  | 21 => ⟨S96x4x32x32, .f32⟩
  | 22 => ⟨S96x4x32x32, .f32⟩
  | 23 => ⟨S96x96x1x1, .f32⟩
  | 24 => ⟨S96x96, .f32⟩
  | 25 => ⟨S4x96x32x32, .f32⟩
  | 26 => ⟨S96x4x32x32, .f32⟩
  | 27 => ⟨S96x4x32x32, .f32⟩
  | 28 => ⟨S96x96x1x1, .f32⟩
  | 29 => ⟨S96x96, .f32⟩
  | 30 => ⟨S4x96x32x32, .f32⟩
  | 31 => ⟨S96x4x32x32, .f32⟩
  | 32 => ⟨S96x4x32x32, .f32⟩
  | 33 => ⟨S96x96x1x1, .f32⟩
  | 34 => ⟨S96x96, .f32⟩
  | 35 => ⟨S4x96x32x32, .f32⟩
  | 36 => ⟨S96x4x32x32, .f32⟩
  | 37 => ⟨S96x4x32x32, .f32⟩
  | 38 => ⟨S96x96x1x1, .f32⟩
  | 39 => ⟨S96x96, .f32⟩
  | 40 => ⟨S4x96x32x32, .f32⟩
  | 41 => ⟨S96x4x32x32, .f32⟩
  | 42 => ⟨S96x4x32x32, .f32⟩
  | 43 => ⟨S4x96x32x32, .f32⟩
  | 44 => ⟨S1x96x1x1, .f32⟩
  | 45 => ⟨S4x96x32x32, .f32⟩
  | 46 => ⟨S4x96x32x32, .f32⟩
  | 47 => ⟨S4x32x3x32x32, .f32⟩
  | 48 => ⟨S_, .f32⟩
  | 49 => ⟨S4x32, .f32⟩
  | 50 => ⟨S4x32x1x1x1, .f32⟩
  | 51 => ⟨S_, .f32⟩
  | 52 => ⟨S4x32x1x1x1, .f32⟩
  | 53 => ⟨S4x32x1x1x1, .f32⟩
  | 54 => ⟨S_, .i32⟩
  | 55 => ⟨S_, .f32⟩
  | 56 => ⟨S4x32, .f32⟩
  | 57 => ⟨S4x32x1x1x1, .f32⟩
  | 58 => ⟨S_, .f32⟩
  | 59 => ⟨S4x32x1x1x1, .f32⟩
  | 60 => ⟨S4x32x1x1x1, .f32⟩
  | 61 => ⟨S4x32x3x32x32, .f32⟩
  | 62 => ⟨S4x32x3x32x32, .f32⟩
  | 63 => ⟨S4x32x3x32x32, .f32⟩
  | 64 => ⟨S_, .f32⟩
  | 65 => ⟨S_, .f32⟩
  | 66 => ⟨S_, .f32⟩
  | 67 => ⟨S_, .f32⟩
  | 68 => ⟨S4x32, .f32⟩
  | 69 => ⟨S4x32x1x1x1, .f32⟩
  | 70 => ⟨S4x32x1x1x1, .f32⟩
  | 71 => ⟨S4x32x1x1x1, .f32⟩
  | 72 => ⟨S_, .f32⟩
  | 73 => ⟨S_, .i1⟩
  | 74 => ⟨S_, .f32⟩
  | 75 => ⟨S_, .f32⟩
  | 76 => ⟨S4x32x1x1x1, .f32⟩
  | 77 => ⟨S4x32x1x1x1, .f32⟩
  | 78 => ⟨S4x32x3x32x32, .f32⟩
  | 79 => ⟨S4x32x3x32x32, .f32⟩
  | 80 => ⟨S_, .f32⟩
  | 81 => ⟨S4x32x1x1x1, .f32⟩
  | 82 => ⟨S4x32x1x1x1, .f32⟩
  | 83 => ⟨S4x32x1x1x1, .f32⟩
  | 84 => ⟨S4x32x3x32x32, .f32⟩
  | 85 => ⟨S4x32x3x32x32, .f32⟩
  | 86 => ⟨S4x96x32x32, .f32⟩
  | 87 => ⟨S1x96x1x1, .f32⟩
  | 88 => ⟨S4x96x32x32, .f32⟩
  | 89 => ⟨S4x96x32x32, .f32⟩
  | 90 => ⟨S1x96x1x1, .f32⟩
  | 91 => ⟨S4x96x32x32, .f32⟩
  | 92 => ⟨S4x96x32x32, .f32⟩
  | 93 => ⟨S4x96x32x32, .f32⟩
  | 94 => ⟨S4x96x32x32, .f32⟩
  | 95 => ⟨S_, .f32⟩
  | 96 => ⟨S4x96x32x32, .f32⟩
  | 97 => ⟨S4x96x32x32, .f32⟩
  | 98 => ⟨S_, .f32⟩
  | 99 => ⟨S4x96x32x32, .f32⟩
  | 100 => ⟨S4x96x32x32, .f32⟩
  | 101 => ⟨S4x96x32x32, .f32⟩
  | 102 => ⟨S80x96, .f32⟩
  | 103 => ⟨S80x4x32x32, .f32⟩
  | 104 => ⟨S4x80x32x32, .f32⟩
  | 105 => ⟨S1x80x1x1, .f32⟩
  | 106 => ⟨S4x80x32x32, .f32⟩
  | 107 => ⟨S4x80x32x32, .f32⟩
  | 108 => ⟨S_, .i32⟩
  | 109 => ⟨S_, .f32⟩
  | 110 => ⟨S4x96x34x34, .f32⟩
  | 111 => ⟨S96x96x1x1, .f32⟩
  | 112 => ⟨S96x96, .f32⟩
  | 113 => ⟨S4x96x32x32, .f32⟩
  | 114 => ⟨S96x4x32x32, .f32⟩
  | 115 => ⟨S96x96x1x1, .f32⟩
  | 116 => ⟨S96x96, .f32⟩
  | 117 => ⟨S4x96x32x32, .f32⟩
  | 118 => ⟨S96x4x32x32, .f32⟩
  | 119 => ⟨S96x4x32x32, .f32⟩
  | 120 => ⟨S96x96x1x1, .f32⟩
  | 121 => ⟨S96x96, .f32⟩
  | 122 => ⟨S4x96x32x32, .f32⟩
  | 123 => ⟨S96x4x32x32, .f32⟩
  | 124 => ⟨S96x4x32x32, .f32⟩
  | 125 => ⟨S96x96x1x1, .f32⟩
  | 126 => ⟨S96x96, .f32⟩
  | 127 => ⟨S4x96x32x32, .f32⟩
  | _ => ⟨S4x96x64x64, .f32⟩

abbrev hbmTy0_3 (i : Nat) : BufTy := match i % 128 with
  | 0 => ⟨S96x4x32x32, .f32⟩
  | 1 => ⟨S96x4x32x32, .f32⟩
  | 2 => ⟨S96x96x1x1, .f32⟩
  | 3 => ⟨S96x96, .f32⟩
  | 4 => ⟨S4x96x32x32, .f32⟩
  | 5 => ⟨S96x4x32x32, .f32⟩
  | 6 => ⟨S96x4x32x32, .f32⟩
  | 7 => ⟨S96x96x1x1, .f32⟩
  | 8 => ⟨S96x96, .f32⟩
  | 9 => ⟨S4x96x32x32, .f32⟩
  | 10 => ⟨S96x4x32x32, .f32⟩
  | 11 => ⟨S96x4x32x32, .f32⟩
  | 12 => ⟨S96x96x1x1, .f32⟩
  | 13 => ⟨S96x96, .f32⟩
  | 14 => ⟨S4x96x32x32, .f32⟩
  | 15 => ⟨S96x4x32x32, .f32⟩
  | 16 => ⟨S96x4x32x32, .f32⟩
  | 17 => ⟨S96x96x1x1, .f32⟩
  | 18 => ⟨S96x96, .f32⟩
  | 19 => ⟨S4x96x32x32, .f32⟩
  | 20 => ⟨S96x4x32x32, .f32⟩
  | 21 => ⟨S96x4x32x32, .f32⟩
  | 22 => ⟨S96x96x1x1, .f32⟩
  | 23 => ⟨S96x96, .f32⟩
  | 24 => ⟨S4x96x32x32, .f32⟩
  | 25 => ⟨S96x4x32x32, .f32⟩
  | 26 => ⟨S96x4x32x32, .f32⟩
  | 27 => ⟨S4x96x32x32, .f32⟩
  | 28 => ⟨S1x96x1x1, .f32⟩
  | 29 => ⟨S4x96x32x32, .f32⟩
  | 30 => ⟨S4x96x32x32, .f32⟩
  | 31 => ⟨S4x32x3x32x32, .f32⟩
  | 32 => ⟨S_, .f32⟩
  | 33 => ⟨S4x32, .f32⟩
  | 34 => ⟨S4x32x1x1x1, .f32⟩
  | 35 => ⟨S_, .f32⟩
  | 36 => ⟨S4x32x1x1x1, .f32⟩
  | 37 => ⟨S4x32x1x1x1, .f32⟩
  | 38 => ⟨S_, .i32⟩
  | 39 => ⟨S_, .f32⟩
  | 40 => ⟨S4x32, .f32⟩
  | 41 => ⟨S4x32x1x1x1, .f32⟩
  | 42 => ⟨S_, .f32⟩
  | 43 => ⟨S4x32x1x1x1, .f32⟩
  | 44 => ⟨S4x32x1x1x1, .f32⟩
  | 45 => ⟨S4x32x3x32x32, .f32⟩
  | 46 => ⟨S4x32x3x32x32, .f32⟩
  | 47 => ⟨S4x32x3x32x32, .f32⟩
  | 48 => ⟨S_, .f32⟩
  | 49 => ⟨S_, .f32⟩
  | 50 => ⟨S_, .f32⟩
  | 51 => ⟨S_, .f32⟩
  | 52 => ⟨S4x32, .f32⟩
  | 53 => ⟨S4x32x1x1x1, .f32⟩
  | 54 => ⟨S4x32x1x1x1, .f32⟩
  | 55 => ⟨S4x32x1x1x1, .f32⟩
  | 56 => ⟨S_, .f32⟩
  | 57 => ⟨S_, .i1⟩
  | 58 => ⟨S_, .f32⟩
  | 59 => ⟨S_, .f32⟩
  | 60 => ⟨S4x32x1x1x1, .f32⟩
  | 61 => ⟨S4x32x1x1x1, .f32⟩
  | 62 => ⟨S4x32x3x32x32, .f32⟩
  | 63 => ⟨S4x32x3x32x32, .f32⟩
  | 64 => ⟨S_, .f32⟩
  | 65 => ⟨S4x32x1x1x1, .f32⟩
  | 66 => ⟨S4x32x1x1x1, .f32⟩
  | 67 => ⟨S4x32x1x1x1, .f32⟩
  | 68 => ⟨S4x32x3x32x32, .f32⟩
  | 69 => ⟨S4x32x3x32x32, .f32⟩
  | 70 => ⟨S4x96x32x32, .f32⟩
  | 71 => ⟨S1x96x1x1, .f32⟩
  | 72 => ⟨S4x96x32x32, .f32⟩
  | 73 => ⟨S4x96x32x32, .f32⟩
  | 74 => ⟨S1x96x1x1, .f32⟩
  | 75 => ⟨S4x96x32x32, .f32⟩
  | 76 => ⟨S4x96x32x32, .f32⟩
  | 77 => ⟨S4x96x32x32, .f32⟩
  | 78 => ⟨S4x96x32x32, .f32⟩
  | 79 => ⟨S_, .f32⟩
  | 80 => ⟨S4x96x32x32, .f32⟩
  | 81 => ⟨S4x96x32x32, .f32⟩
  | 82 => ⟨S_, .f32⟩
  | 83 => ⟨S4x96x32x32, .f32⟩
  | 84 => ⟨S4x96x32x32, .f32⟩
  | 85 => ⟨S4x96x32x32, .f32⟩
  | 86 => ⟨S5x96, .f32⟩
  | 87 => ⟨S5x4x32x32, .f32⟩
  | 88 => ⟨S4x5x32x32, .f32⟩
  | 89 => ⟨S1x5x1x1, .f32⟩
  | 90 => ⟨S4x5x32x32, .f32⟩
  | 91 => ⟨S4x5x32x32, .f32⟩
  | 92 => ⟨S4x80x1024, .f32⟩
  | 93 => ⟨S4x4x32x32, .f32⟩
  | 94 => ⟨S_, .f32⟩
  | 95 => ⟨S4x4x32x32, .f32⟩
  | 96 => ⟨S4x4x32x32, .f32⟩
  | 97 => ⟨S_, .f32⟩
  | 98 => ⟨S4x4x32x32, .f32⟩
  | 99 => ⟨S4x4x32x32, .f32⟩
  | 100 => ⟨S4x4x1024, .f32⟩
  | 101 => ⟨S4x1x32x32, .f32⟩
  | 102 => ⟨S4x1x1024, .f32⟩
  | 103 => ⟨S_, .i32⟩
  | 104 => ⟨S_, .f32⟩
  | 105 => ⟨S4x96x18x18, .f32⟩
  | 106 => ⟨S96x96x1x1, .f32⟩
  | 107 => ⟨S96x96, .f32⟩
  | 108 => ⟨S4x96x16x16, .f32⟩
  | 109 => ⟨S96x4x16x16, .f32⟩
  | 110 => ⟨S96x96x1x1, .f32⟩
  | 111 => ⟨S96x96, .f32⟩
  | 112 => ⟨S4x96x16x16, .f32⟩
  | 113 => ⟨S96x4x16x16, .f32⟩
  | 114 => ⟨S96x4x16x16, .f32⟩
  | 115 => ⟨S96x96x1x1, .f32⟩
  | 116 => ⟨S96x96, .f32⟩
  | 117 => ⟨S4x96x16x16, .f32⟩
  | 118 => ⟨S96x4x16x16, .f32⟩
  | 119 => ⟨S96x4x16x16, .f32⟩
  | 120 => ⟨S96x96x1x1, .f32⟩
  | 121 => ⟨S96x96, .f32⟩
  | 122 => ⟨S4x96x16x16, .f32⟩
  | 123 => ⟨S96x4x16x16, .f32⟩
  | 124 => ⟨S96x4x16x16, .f32⟩
  | 125 => ⟨S96x96x1x1, .f32⟩
  | 126 => ⟨S96x96, .f32⟩
  | 127 => ⟨S4x96x16x16, .f32⟩
  | _ => ⟨S4x96x64x64, .f32⟩

abbrev hbmTy0_4 (i : Nat) : BufTy := match i % 128 with
  | 0 => ⟨S96x4x16x16, .f32⟩
  | 1 => ⟨S96x4x16x16, .f32⟩
  | 2 => ⟨S96x96x1x1, .f32⟩
  | 3 => ⟨S96x96, .f32⟩
  | 4 => ⟨S4x96x16x16, .f32⟩
  | 5 => ⟨S96x4x16x16, .f32⟩
  | 6 => ⟨S96x4x16x16, .f32⟩
  | 7 => ⟨S96x96x1x1, .f32⟩
  | 8 => ⟨S96x96, .f32⟩
  | 9 => ⟨S4x96x16x16, .f32⟩
  | 10 => ⟨S96x4x16x16, .f32⟩
  | 11 => ⟨S96x4x16x16, .f32⟩
  | 12 => ⟨S96x96x1x1, .f32⟩
  | 13 => ⟨S96x96, .f32⟩
  | 14 => ⟨S4x96x16x16, .f32⟩
  | 15 => ⟨S96x4x16x16, .f32⟩
  | 16 => ⟨S96x4x16x16, .f32⟩
  | 17 => ⟨S96x96x1x1, .f32⟩
  | 18 => ⟨S96x96, .f32⟩
  | 19 => ⟨S4x96x16x16, .f32⟩
  | 20 => ⟨S96x4x16x16, .f32⟩
  | 21 => ⟨S96x4x16x16, .f32⟩
  | 22 => ⟨S4x96x16x16, .f32⟩
  | 23 => ⟨S1x96x1x1, .f32⟩
  | 24 => ⟨S4x96x16x16, .f32⟩
  | 25 => ⟨S4x96x16x16, .f32⟩
  | 26 => ⟨S4x32x3x16x16, .f32⟩
  | 27 => ⟨S_, .f32⟩
  | 28 => ⟨S4x32, .f32⟩
  | 29 => ⟨S4x32x1x1x1, .f32⟩
  | 30 => ⟨S_, .f32⟩
  | 31 => ⟨S4x32x1x1x1, .f32⟩
  | 32 => ⟨S4x32x1x1x1, .f32⟩
  | 33 => ⟨S_, .i32⟩
  | 34 => ⟨S_, .f32⟩
  | 35 => ⟨S4x32, .f32⟩
  | 36 => ⟨S4x32x1x1x1, .f32⟩
  | 37 => ⟨S_, .f32⟩
  | 38 => ⟨S4x32x1x1x1, .f32⟩
  | 39 => ⟨S4x32x1x1x1, .f32⟩
  | 40 => ⟨S4x32x3x16x16, .f32⟩
  | 41 => ⟨S4x32x3x16x16, .f32⟩
  | 42 => ⟨S4x32x3x16x16, .f32⟩
  | 43 => ⟨S_, .f32⟩
  | 44 => ⟨S_, .f32⟩
  | 45 => ⟨S_, .f32⟩
  | 46 => ⟨S_, .f32⟩
  | 47 => ⟨S4x32, .f32⟩
  | 48 => ⟨S4x32x1x1x1, .f32⟩
  | 49 => ⟨S4x32x1x1x1, .f32⟩
  | 50 => ⟨S4x32x1x1x1, .f32⟩
  | 51 => ⟨S_, .f32⟩
  | 52 => ⟨S_, .i1⟩
  | 53 => ⟨S_, .f32⟩
  | 54 => ⟨S_, .f32⟩
  | 55 => ⟨S4x32x1x1x1, .f32⟩
  | 56 => ⟨S4x32x1x1x1, .f32⟩
  | 57 => ⟨S4x32x3x16x16, .f32⟩
  | 58 => ⟨S4x32x3x16x16, .f32⟩
  | 59 => ⟨S_, .f32⟩
  | 60 => ⟨S4x32x1x1x1, .f32⟩
  | 61 => ⟨S4x32x1x1x1, .f32⟩
  | 62 => ⟨S4x32x1x1x1, .f32⟩
  | 63 => ⟨S4x32x3x16x16, .f32⟩
  | 64 => ⟨S4x32x3x16x16, .f32⟩
  | 65 => ⟨S4x96x16x16, .f32⟩
  | 66 => ⟨S1x96x1x1, .f32⟩
  | 67 => ⟨S4x96x16x16, .f32⟩
  | 68 => ⟨S4x96x16x16, .f32⟩
  | 69 => ⟨S1x96x1x1, .f32⟩
  | 70 => ⟨S4x96x16x16, .f32⟩
  | 71 => ⟨S4x96x16x16, .f32⟩
  | 72 => ⟨S4x96x16x16, .f32⟩
  | 73 => ⟨S4x96x16x16, .f32⟩
  | 74 => ⟨S_, .f32⟩
  | 75 => ⟨S4x96x16x16, .f32⟩
  | 76 => ⟨S4x96x16x16, .f32⟩
  | 77 => ⟨S_, .f32⟩
  | 78 => ⟨S4x96x16x16, .f32⟩
  | 79 => ⟨S4x96x16x16, .f32⟩
  | 80 => ⟨S4x96x16x16, .f32⟩
  | 81 => ⟨S80x96, .f32⟩
  | 82 => ⟨S80x4x16x16, .f32⟩
  | 83 => ⟨S4x80x16x16, .f32⟩
  | 84 => ⟨S1x80x1x1, .f32⟩
  | 85 => ⟨S4x80x16x16, .f32⟩
  | 86 => ⟨S4x80x16x16, .f32⟩
  | 87 => ⟨S_, .i32⟩
  | 88 => ⟨S_, .f32⟩
  | 89 => ⟨S4x96x18x18, .f32⟩
  | 90 => ⟨S96x96x1x1, .f32⟩
  | 91 => ⟨S96x96, .f32⟩
  | 92 => ⟨S4x96x16x16, .f32⟩
  | 93 => ⟨S96x4x16x16, .f32⟩
  | 94 => ⟨S96x96x1x1, .f32⟩
  | 95 => ⟨S96x96, .f32⟩
  | 96 => ⟨S4x96x16x16, .f32⟩
  | 97 => ⟨S96x4x16x16, .f32⟩
  | 98 => ⟨S96x4x16x16, .f32⟩
  | 99 => ⟨S96x96x1x1, .f32⟩
  | 100 => ⟨S96x96, .f32⟩
  | 101 => ⟨S4x96x16x16, .f32⟩
  | 102 => ⟨S96x4x16x16, .f32⟩
  | 103 => ⟨S96x4x16x16, .f32⟩
  | 104 => ⟨S96x96x1x1, .f32⟩
  | 105 => ⟨S96x96, .f32⟩
  | 106 => ⟨S4x96x16x16, .f32⟩
  | 107 => ⟨S96x4x16x16, .f32⟩
  | 108 => ⟨S96x4x16x16, .f32⟩
  | 109 => ⟨S96x96x1x1, .f32⟩
  | 110 => ⟨S96x96, .f32⟩
  | 111 => ⟨S4x96x16x16, .f32⟩
  | 112 => ⟨S96x4x16x16, .f32⟩
  | 113 => ⟨S96x4x16x16, .f32⟩
  | 114 => ⟨S96x96x1x1, .f32⟩
  | 115 => ⟨S96x96, .f32⟩
  | 116 => ⟨S4x96x16x16, .f32⟩
  | 117 => ⟨S96x4x16x16, .f32⟩
  | 118 => ⟨S96x4x16x16, .f32⟩
  | 119 => ⟨S96x96x1x1, .f32⟩
  | 120 => ⟨S96x96, .f32⟩
  | 121 => ⟨S4x96x16x16, .f32⟩
  | 122 => ⟨S96x4x16x16, .f32⟩
  | 123 => ⟨S96x4x16x16, .f32⟩
  | 124 => ⟨S96x96x1x1, .f32⟩
  | 125 => ⟨S96x96, .f32⟩
  | 126 => ⟨S4x96x16x16, .f32⟩
  | 127 => ⟨S96x4x16x16, .f32⟩
  | _ => ⟨S4x96x64x64, .f32⟩

abbrev hbmTy0_5 (i : Nat) : BufTy := match i % 128 with
  | 0 => ⟨S96x4x16x16, .f32⟩
  | 1 => ⟨S96x96x1x1, .f32⟩
  | 2 => ⟨S96x96, .f32⟩
  | 3 => ⟨S4x96x16x16, .f32⟩
  | 4 => ⟨S96x4x16x16, .f32⟩
  | 5 => ⟨S96x4x16x16, .f32⟩
  | 6 => ⟨S4x96x16x16, .f32⟩
  | 7 => ⟨S1x96x1x1, .f32⟩
  | 8 => ⟨S4x96x16x16, .f32⟩
  | 9 => ⟨S4x96x16x16, .f32⟩
  | 10 => ⟨S4x32x3x16x16, .f32⟩
  | 11 => ⟨S_, .f32⟩
  | 12 => ⟨S4x32, .f32⟩
  | 13 => ⟨S4x32x1x1x1, .f32⟩
  | 14 => ⟨S_, .f32⟩
  | 15 => ⟨S4x32x1x1x1, .f32⟩
  | 16 => ⟨S4x32x1x1x1, .f32⟩
  | 17 => ⟨S_, .i32⟩
  | 18 => ⟨S_, .f32⟩
  | 19 => ⟨S4x32, .f32⟩
  | 20 => ⟨S4x32x1x1x1, .f32⟩
  | 21 => ⟨S_, .f32⟩
  | 22 => ⟨S4x32x1x1x1, .f32⟩
  | 23 => ⟨S4x32x1x1x1, .f32⟩
  | 24 => ⟨S4x32x3x16x16, .f32⟩
  | 25 => ⟨S4x32x3x16x16, .f32⟩
  | 26 => ⟨S4x32x3x16x16, .f32⟩
  | 27 => ⟨S_, .f32⟩
  | 28 => ⟨S_, .f32⟩
  | 29 => ⟨S_, .f32⟩
  | 30 => ⟨S_, .f32⟩
  | 31 => ⟨S4x32, .f32⟩
  | 32 => ⟨S4x32x1x1x1, .f32⟩
  | 33 => ⟨S4x32x1x1x1, .f32⟩
  | 34 => ⟨S4x32x1x1x1, .f32⟩
  | 35 => ⟨S_, .f32⟩
  | 36 => ⟨S_, .i1⟩
  | 37 => ⟨S_, .f32⟩
  | 38 => ⟨S_, .f32⟩
  | 39 => ⟨S4x32x1x1x1, .f32⟩
  | 40 => ⟨S4x32x1x1x1, .f32⟩
  | 41 => ⟨S4x32x3x16x16, .f32⟩
  | 42 => ⟨S4x32x3x16x16, .f32⟩
  | 43 => ⟨S_, .f32⟩
  | 44 => ⟨S4x32x1x1x1, .f32⟩
  | 45 => ⟨S4x32x1x1x1, .f32⟩
  | 46 => ⟨S4x32x1x1x1, .f32⟩
  | 47 => ⟨S4x32x3x16x16, .f32⟩
  | 48 => ⟨S4x32x3x16x16, .f32⟩
  | 49 => ⟨S4x96x16x16, .f32⟩
  | 50 => ⟨S1x96x1x1, .f32⟩
  | 51 => ⟨S4x96x16x16, .f32⟩
  | 52 => ⟨S4x96x16x16, .f32⟩
  | 53 => ⟨S1x96x1x1, .f32⟩
  | 54 => ⟨S4x96x16x16, .f32⟩
  | 55 => ⟨S4x96x16x16, .f32⟩
  | 56 => ⟨S4x96x16x16, .f32⟩
  | 57 => ⟨S4x96x16x16, .f32⟩
  | 58 => ⟨S_, .f32⟩
  | 59 => ⟨S4x96x16x16, .f32⟩
  | 60 => ⟨S4x96x16x16, .f32⟩
  | 61 => ⟨S_, .f32⟩
  | 62 => ⟨S4x96x16x16, .f32⟩
  | 63 => ⟨S4x96x16x16, .f32⟩
  | 64 => ⟨S4x96x16x16, .f32⟩
  | 65 => ⟨S5x96, .f32⟩
  | 66 => ⟨S5x4x16x16, .f32⟩
  | 67 => ⟨S4x5x16x16, .f32⟩
  | 68 => ⟨S1x5x1x1, .f32⟩
  | 69 => ⟨S4x5x16x16, .f32⟩
  | 70 => ⟨S4x5x16x16, .f32⟩
  | 71 => ⟨S4x80x256, .f32⟩
  | 72 => ⟨S4x4x16x16, .f32⟩
  | 73 => ⟨S_, .f32⟩
  | 74 => ⟨S4x4x16x16, .f32⟩
  | 75 => ⟨S4x4x16x16, .f32⟩
  | 76 => ⟨S_, .f32⟩
  | 77 => ⟨S4x4x16x16, .f32⟩
  | 78 => ⟨S4x4x16x16, .f32⟩
  | 79 => ⟨S4x4x256, .f32⟩
  | 80 => ⟨S4x1x16x16, .f32⟩
  | 81 => ⟨S4x1x256, .f32⟩
  | 82 => ⟨S_, .i32⟩
  | 83 => ⟨S_, .f32⟩
  | 84 => ⟨S4x96x10x10, .f32⟩
  | 85 => ⟨S96x96x1x1, .f32⟩
  | 86 => ⟨S96x96, .f32⟩
  | 87 => ⟨S4x96x8x8, .f32⟩
  | 88 => ⟨S96x4x8x8, .f32⟩
  | 89 => ⟨S96x96x1x1, .f32⟩
  | 90 => ⟨S96x96, .f32⟩
  | 91 => ⟨S4x96x8x8, .f32⟩
  | 92 => ⟨S96x4x8x8, .f32⟩
  | 93 => ⟨S96x4x8x8, .f32⟩
  | 94 => ⟨S96x96x1x1, .f32⟩
  | 95 => ⟨S96x96, .f32⟩
  | 96 => ⟨S4x96x8x8, .f32⟩
  | 97 => ⟨S96x4x8x8, .f32⟩
  | 98 => ⟨S96x4x8x8, .f32⟩
  | 99 => ⟨S96x96x1x1, .f32⟩
  | 100 => ⟨S96x96, .f32⟩
  | 101 => ⟨S4x96x8x8, .f32⟩
  | 102 => ⟨S96x4x8x8, .f32⟩
  | 103 => ⟨S96x4x8x8, .f32⟩
  | 104 => ⟨S96x96x1x1, .f32⟩
  | 105 => ⟨S96x96, .f32⟩
  | 106 => ⟨S4x96x8x8, .f32⟩
  | 107 => ⟨S96x4x8x8, .f32⟩
  | 108 => ⟨S96x4x8x8, .f32⟩
  | 109 => ⟨S96x96x1x1, .f32⟩
  | 110 => ⟨S96x96, .f32⟩
  | 111 => ⟨S4x96x8x8, .f32⟩
  | 112 => ⟨S96x4x8x8, .f32⟩
  | 113 => ⟨S96x4x8x8, .f32⟩
  | 114 => ⟨S96x96x1x1, .f32⟩
  | 115 => ⟨S96x96, .f32⟩
  | 116 => ⟨S4x96x8x8, .f32⟩
  | 117 => ⟨S96x4x8x8, .f32⟩
  | 118 => ⟨S96x4x8x8, .f32⟩
  | 119 => ⟨S96x96x1x1, .f32⟩
  | 120 => ⟨S96x96, .f32⟩
  | 121 => ⟨S4x96x8x8, .f32⟩
  | 122 => ⟨S96x4x8x8, .f32⟩
  | 123 => ⟨S96x4x8x8, .f32⟩
  | 124 => ⟨S96x96x1x1, .f32⟩
  | 125 => ⟨S96x96, .f32⟩
  | 126 => ⟨S4x96x8x8, .f32⟩
  | 127 => ⟨S96x4x8x8, .f32⟩
  | _ => ⟨S4x96x64x64, .f32⟩

abbrev hbmTy0_6 (i : Nat) : BufTy := match i % 128 with
  | 0 => ⟨S96x4x8x8, .f32⟩
  | 1 => ⟨S4x96x8x8, .f32⟩
  | 2 => ⟨S1x96x1x1, .f32⟩
  | 3 => ⟨S4x96x8x8, .f32⟩
  | 4 => ⟨S4x96x8x8, .f32⟩
  | 5 => ⟨S4x32x3x8x8, .f32⟩
  | 6 => ⟨S_, .f32⟩
  | 7 => ⟨S4x32, .f32⟩
  | 8 => ⟨S4x32x1x1x1, .f32⟩
  | 9 => ⟨S_, .f32⟩
  | 10 => ⟨S4x32x1x1x1, .f32⟩
  | 11 => ⟨S4x32x1x1x1, .f32⟩
  | 12 => ⟨S_, .i32⟩
  | 13 => ⟨S_, .f32⟩
  | 14 => ⟨S4x32, .f32⟩
  | 15 => ⟨S4x32x1x1x1, .f32⟩
  | 16 => ⟨S_, .f32⟩
  | 17 => ⟨S4x32x1x1x1, .f32⟩
  | 18 => ⟨S4x32x1x1x1, .f32⟩
  | 19 => ⟨S4x32x3x8x8, .f32⟩
  | 20 => ⟨S4x32x3x8x8, .f32⟩
  | 21 => ⟨S4x32x3x8x8, .f32⟩
  | 22 => ⟨S_, .f32⟩
  | 23 => ⟨S_, .f32⟩
  | 24 => ⟨S_, .f32⟩
  | 25 => ⟨S_, .f32⟩
  | 26 => ⟨S4x32, .f32⟩
  | 27 => ⟨S4x32x1x1x1, .f32⟩
  | 28 => ⟨S4x32x1x1x1, .f32⟩
  | 29 => ⟨S4x32x1x1x1, .f32⟩
  | 30 => ⟨S_, .f32⟩
  | 31 => ⟨S_, .i1⟩
  | 32 => ⟨S_, .f32⟩
  | 33 => ⟨S_, .f32⟩
  | 34 => ⟨S4x32x1x1x1, .f32⟩
  | 35 => ⟨S4x32x1x1x1, .f32⟩
  | 36 => ⟨S4x32x3x8x8, .f32⟩
  | 37 => ⟨S4x32x3x8x8, .f32⟩
  | 38 => ⟨S_, .f32⟩
  | 39 => ⟨S4x32x1x1x1, .f32⟩
  | 40 => ⟨S4x32x1x1x1, .f32⟩
  | 41 => ⟨S4x32x1x1x1, .f32⟩
  | 42 => ⟨S4x32x3x8x8, .f32⟩
  | 43 => ⟨S4x32x3x8x8, .f32⟩
  | 44 => ⟨S4x96x8x8, .f32⟩
  | 45 => ⟨S1x96x1x1, .f32⟩
  | 46 => ⟨S4x96x8x8, .f32⟩
  | 47 => ⟨S4x96x8x8, .f32⟩
  | 48 => ⟨S1x96x1x1, .f32⟩
  | 49 => ⟨S4x96x8x8, .f32⟩
  | 50 => ⟨S4x96x8x8, .f32⟩
  | 51 => ⟨S4x96x8x8, .f32⟩
  | 52 => ⟨S4x96x8x8, .f32⟩
  | 53 => ⟨S_, .f32⟩
  | 54 => ⟨S4x96x8x8, .f32⟩
  | 55 => ⟨S4x96x8x8, .f32⟩
  | 56 => ⟨S_, .f32⟩
  | 57 => ⟨S4x96x8x8, .f32⟩
  | 58 => ⟨S4x96x8x8, .f32⟩
  | 59 => ⟨S4x96x8x8, .f32⟩
  | 60 => ⟨S80x96, .f32⟩
  | 61 => ⟨S80x4x8x8, .f32⟩
  | 62 => ⟨S4x80x8x8, .f32⟩
  | 63 => ⟨S1x80x1x1, .f32⟩
  | 64 => ⟨S4x80x8x8, .f32⟩
  | 65 => ⟨S4x80x8x8, .f32⟩
  | 66 => ⟨S_, .i32⟩
  | 67 => ⟨S_, .f32⟩
  | 68 => ⟨S4x96x10x10, .f32⟩
  | 69 => ⟨S96x96x1x1, .f32⟩
  | 70 => ⟨S96x96, .f32⟩
  | 71 => ⟨S4x96x8x8, .f32⟩
  | 72 => ⟨S96x4x8x8, .f32⟩
  | 73 => ⟨S96x96x1x1, .f32⟩
  | 74 => ⟨S96x96, .f32⟩
  | 75 => ⟨S4x96x8x8, .f32⟩
  | 76 => ⟨S96x4x8x8, .f32⟩
  | 77 => ⟨S96x4x8x8, .f32⟩
  | 78 => ⟨S96x96x1x1, .f32⟩
  | 79 => ⟨S96x96, .f32⟩
  | 80 => ⟨S4x96x8x8, .f32⟩
  | 81 => ⟨S96x4x8x8, .f32⟩
  | 82 => ⟨S96x4x8x8, .f32⟩
  | 83 => ⟨S96x96x1x1, .f32⟩
  | 84 => ⟨S96x96, .f32⟩
  | 85 => ⟨S4x96x8x8, .f32⟩
  | 86 => ⟨S96x4x8x8, .f32⟩
  | 87 => ⟨S96x4x8x8, .f32⟩
  | 88 => ⟨S96x96x1x1, .f32⟩
  | 89 => ⟨S96x96, .f32⟩
  | 90 => ⟨S4x96x8x8, .f32⟩
  | 91 => ⟨S96x4x8x8, .f32⟩
  | 92 => ⟨S96x4x8x8, .f32⟩
  | 93 => ⟨S96x96x1x1, .f32⟩
  | 94 => ⟨S96x96, .f32⟩
  | 95 => ⟨S4x96x8x8, .f32⟩
  | 96 => ⟨S96x4x8x8, .f32⟩
  | 97 => ⟨S96x4x8x8, .f32⟩
  | 98 => ⟨S96x96x1x1, .f32⟩
  | 99 => ⟨S96x96, .f32⟩
  | 100 => ⟨S4x96x8x8, .f32⟩
  | 101 => ⟨S96x4x8x8, .f32⟩
  | 102 => ⟨S96x4x8x8, .f32⟩
  | 103 => ⟨S96x96x1x1, .f32⟩
  | 104 => ⟨S96x96, .f32⟩
  | 105 => ⟨S4x96x8x8, .f32⟩
  | 106 => ⟨S96x4x8x8, .f32⟩
  | 107 => ⟨S96x4x8x8, .f32⟩
  | 108 => ⟨S96x96x1x1, .f32⟩
  | 109 => ⟨S96x96, .f32⟩
  | 110 => ⟨S4x96x8x8, .f32⟩
  | 111 => ⟨S96x4x8x8, .f32⟩
  | 112 => ⟨S96x4x8x8, .f32⟩
  | 113 => ⟨S4x96x8x8, .f32⟩
  | 114 => ⟨S1x96x1x1, .f32⟩
  | 115 => ⟨S4x96x8x8, .f32⟩
  | 116 => ⟨S4x96x8x8, .f32⟩
  | 117 => ⟨S4x32x3x8x8, .f32⟩
  | 118 => ⟨S_, .f32⟩
  | 119 => ⟨S4x32, .f32⟩
  | 120 => ⟨S4x32x1x1x1, .f32⟩
  | 121 => ⟨S_, .f32⟩
  | 122 => ⟨S4x32x1x1x1, .f32⟩
  | 123 => ⟨S4x32x1x1x1, .f32⟩
  | 124 => ⟨S_, .i32⟩
  | 125 => ⟨S_, .f32⟩
  | 126 => ⟨S4x32, .f32⟩
  | 127 => ⟨S4x32x1x1x1, .f32⟩
  | _ => ⟨S4x96x64x64, .f32⟩

abbrev hbmTy0_7 (i : Nat) : BufTy := match i % 128 with
  | 0 => ⟨S_, .f32⟩
  | 1 => ⟨S4x32x1x1x1, .f32⟩
  | 2 => ⟨S4x32x1x1x1, .f32⟩
  | 3 => ⟨S4x32x3x8x8, .f32⟩
  | 4 => ⟨S4x32x3x8x8, .f32⟩
  | 5 => ⟨S4x32x3x8x8, .f32⟩
  | 6 => ⟨S_, .f32⟩
  | 7 => ⟨S_, .f32⟩
  | 8 => ⟨S_, .f32⟩
  | 9 => ⟨S_, .f32⟩
  | 10 => ⟨S4x32, .f32⟩
  | 11 => ⟨S4x32x1x1x1, .f32⟩
  | 12 => ⟨S4x32x1x1x1, .f32⟩
  | 13 => ⟨S4x32x1x1x1, .f32⟩
  | 14 => ⟨S_, .f32⟩
  | 15 => ⟨S_, .i1⟩
  | 16 => ⟨S_, .f32⟩
  | 17 => ⟨S_, .f32⟩
  | 18 => ⟨S4x32x1x1x1, .f32⟩
  | 19 => ⟨S4x32x1x1x1, .f32⟩
  | 20 => ⟨S4x32x3x8x8, .f32⟩
  | 21 => ⟨S4x32x3x8x8, .f32⟩
  | 22 => ⟨S_, .f32⟩
  | 23 => ⟨S4x32x1x1x1, .f32⟩
  | 24 => ⟨S4x32x1x1x1, .f32⟩
  | 25 => ⟨S4x32x1x1x1, .f32⟩
  | 26 => ⟨S4x32x3x8x8, .f32⟩
  | 27 => ⟨S4x32x3x8x8, .f32⟩
  | 28 => ⟨S4x96x8x8, .f32⟩
  | 29 => ⟨S1x96x1x1, .f32⟩
  | 30 => ⟨S4x96x8x8, .f32⟩
  | 31 => ⟨S4x96x8x8, .f32⟩
  | 32 => ⟨S1x96x1x1, .f32⟩
  | 33 => ⟨S4x96x8x8, .f32⟩
  | 34 => ⟨S4x96x8x8, .f32⟩
  | 35 => ⟨S4x96x8x8, .f32⟩
  | 36 => ⟨S4x96x8x8, .f32⟩
  | 37 => ⟨S_, .f32⟩
  | 38 => ⟨S4x96x8x8, .f32⟩
  | 39 => ⟨S4x96x8x8, .f32⟩
  | 40 => ⟨S_, .f32⟩
  | 41 => ⟨S4x96x8x8, .f32⟩
  | 42 => ⟨S4x96x8x8, .f32⟩
  | 43 => ⟨S4x96x8x8, .f32⟩
  | 44 => ⟨S5x96, .f32⟩
  | 45 => ⟨S5x4x8x8, .f32⟩
  | 46 => ⟨S4x5x8x8, .f32⟩
  | 47 => ⟨S1x5x1x1, .f32⟩
  | 48 => ⟨S4x5x8x8, .f32⟩
  | 49 => ⟨S4x5x8x8, .f32⟩
  | 50 => ⟨S4x80x64, .f32⟩
  | 51 => ⟨S4x4x8x8, .f32⟩
  | 52 => ⟨S_, .f32⟩
  | 53 => ⟨S4x4x8x8, .f32⟩
  | 54 => ⟨S4x4x8x8, .f32⟩
  | 55 => ⟨S_, .f32⟩
  | 56 => ⟨S4x4x8x8, .f32⟩
  | 57 => ⟨S4x4x8x8, .f32⟩
  | 58 => ⟨S4x4x64, .f32⟩
  | 59 => ⟨S4x1x8x8, .f32⟩
  | 60 => ⟨S4x1x64, .f32⟩
  | 61 => ⟨S_, .i32⟩
  | 62 => ⟨S_, .f32⟩
  | 63 => ⟨S4x96x6x6, .f32⟩
  | 64 => ⟨S96x96x1x1, .f32⟩
  | 65 => ⟨S96x96, .f32⟩
  | 66 => ⟨S4x96x4x4, .f32⟩
  | 67 => ⟨S96x4x4x4, .f32⟩
  | 68 => ⟨S96x96x1x1, .f32⟩
  | 69 => ⟨S96x96, .f32⟩
  | 70 => ⟨S4x96x4x4, .f32⟩
  | 71 => ⟨S96x4x4x4, .f32⟩
  | 72 => ⟨S96x4x4x4, .f32⟩
  | 73 => ⟨S96x96x1x1, .f32⟩
  | 74 => ⟨S96x96, .f32⟩
  | 75 => ⟨S4x96x4x4, .f32⟩
  | 76 => ⟨S96x4x4x4, .f32⟩
  | 77 => ⟨S96x4x4x4, .f32⟩
  | 78 => ⟨S96x96x1x1, .f32⟩
  | 79 => ⟨S96x96, .f32⟩
  | 80 => ⟨S4x96x4x4, .f32⟩
  | 81 => ⟨S96x4x4x4, .f32⟩
  | 82 => ⟨S96x4x4x4, .f32⟩
  | 83 => ⟨S96x96x1x1, .f32⟩
  | 84 => ⟨S96x96, .f32⟩
  | 85 => ⟨S4x96x4x4, .f32⟩
  | 86 => ⟨S96x4x4x4, .f32⟩
  | 87 => ⟨S96x4x4x4, .f32⟩
  | 88 => ⟨S96x96x1x1, .f32⟩
  | 89 => ⟨S96x96, .f32⟩
  | 90 => ⟨S4x96x4x4, .f32⟩
  | 91 => ⟨S96x4x4x4, .f32⟩
  | 92 => ⟨S96x4x4x4, .f32⟩
  | 93 => ⟨S96x96x1x1, .f32⟩
  | 94 => ⟨S96x96, .f32⟩
  | 95 => ⟨S4x96x4x4, .f32⟩
  | 96 => ⟨S96x4x4x4, .f32⟩
  | 97 => ⟨S96x4x4x4, .f32⟩
  | 98 => ⟨S96x96x1x1, .f32⟩
  | 99 => ⟨S96x96, .f32⟩
  | 100 => ⟨S4x96x4x4, .f32⟩
  | 101 => ⟨S96x4x4x4, .f32⟩
  | 102 => ⟨S96x4x4x4, .f32⟩
  | 103 => ⟨S96x96x1x1, .f32⟩
  | 104 => ⟨S96x96, .f32⟩
  | 105 => ⟨S4x96x4x4, .f32⟩
  | 106 => ⟨S96x4x4x4, .f32⟩
  | 107 => ⟨S96x4x4x4, .f32⟩
  | 108 => ⟨S4x96x4x4, .f32⟩
  | 109 => ⟨S1x96x1x1, .f32⟩
  | 110 => ⟨S4x96x4x4, .f32⟩
  | 111 => ⟨S4x96x4x4, .f32⟩
  | 112 => ⟨S4x32x3x4x4, .f32⟩
  | 113 => ⟨S_, .f32⟩
  | 114 => ⟨S4x32, .f32⟩
  | 115 => ⟨S4x32x1x1x1, .f32⟩
  | 116 => ⟨S_, .f32⟩
  | 117 => ⟨S4x32x1x1x1, .f32⟩
  | 118 => ⟨S4x32x1x1x1, .f32⟩
  | 119 => ⟨S_, .i32⟩
  | 120 => ⟨S_, .f32⟩
  | 121 => ⟨S4x32, .f32⟩
  | 122 => ⟨S4x32x1x1x1, .f32⟩
  | 123 => ⟨S_, .f32⟩
  | 124 => ⟨S4x32x1x1x1, .f32⟩
  | 125 => ⟨S4x32x1x1x1, .f32⟩
  | 126 => ⟨S4x32x3x4x4, .f32⟩
  | 127 => ⟨S4x32x3x4x4, .f32⟩
  | _ => ⟨S4x96x64x64, .f32⟩

abbrev hbmTy0_8 (i : Nat) : BufTy := match i % 128 with
  | 0 => ⟨S4x32x3x4x4, .f32⟩
  | 1 => ⟨S_, .f32⟩
  | 2 => ⟨S_, .f32⟩
  | 3 => ⟨S_, .f32⟩
  | 4 => ⟨S_, .f32⟩
  | 5 => ⟨S4x32, .f32⟩
  | 6 => ⟨S4x32x1x1x1, .f32⟩
  | 7 => ⟨S4x32x1x1x1, .f32⟩
  | 8 => ⟨S4x32x1x1x1, .f32⟩
  | 9 => ⟨S_, .f32⟩
  | 10 => ⟨S_, .i1⟩
  | 11 => ⟨S_, .f32⟩
  | 12 => ⟨S_, .f32⟩
  | 13 => ⟨S4x32x1x1x1, .f32⟩
  | 14 => ⟨S4x32x1x1x1, .f32⟩
  | 15 => ⟨S4x32x3x4x4, .f32⟩
  | 16 => ⟨S4x32x3x4x4, .f32⟩
  | 17 => ⟨S_, .f32⟩
  | 18 => ⟨S4x32x1x1x1, .f32⟩
  | 19 => ⟨S4x32x1x1x1, .f32⟩
  | 20 => ⟨S4x32x1x1x1, .f32⟩
  | 21 => ⟨S4x32x3x4x4, .f32⟩
  | 22 => ⟨S4x32x3x4x4, .f32⟩
  | 23 => ⟨S4x96x4x4, .f32⟩
  | 24 => ⟨S1x96x1x1, .f32⟩
  | 25 => ⟨S4x96x4x4, .f32⟩
  | 26 => ⟨S4x96x4x4, .f32⟩
  | 27 => ⟨S1x96x1x1, .f32⟩
  | 28 => ⟨S4x96x4x4, .f32⟩
  | 29 => ⟨S4x96x4x4, .f32⟩
  | 30 => ⟨S4x96x4x4, .f32⟩
  | 31 => ⟨S4x96x4x4, .f32⟩
  | 32 => ⟨S_, .f32⟩
  | 33 => ⟨S4x96x4x4, .f32⟩
  | 34 => ⟨S4x96x4x4, .f32⟩
  | 35 => ⟨S_, .f32⟩
  | 36 => ⟨S4x96x4x4, .f32⟩
  | 37 => ⟨S4x96x4x4, .f32⟩
  | 38 => ⟨S4x96x4x4, .f32⟩
  | 39 => ⟨S80x96, .f32⟩
  | 40 => ⟨S80x4x4x4, .f32⟩
  | 41 => ⟨S4x80x4x4, .f32⟩
  | 42 => ⟨S1x80x1x1, .f32⟩
  | 43 => ⟨S4x80x4x4, .f32⟩
  | 44 => ⟨S4x80x4x4, .f32⟩
  | 45 => ⟨S_, .i32⟩
  | 46 => ⟨S_, .f32⟩
  | 47 => ⟨S4x96x6x6, .f32⟩
  | 48 => ⟨S96x96x1x1, .f32⟩
  | 49 => ⟨S96x96, .f32⟩
  | 50 => ⟨S4x96x4x4, .f32⟩
  | 51 => ⟨S96x4x4x4, .f32⟩
  | 52 => ⟨S96x96x1x1, .f32⟩
  | 53 => ⟨S96x96, .f32⟩
  | 54 => ⟨S4x96x4x4, .f32⟩
  | 55 => ⟨S96x4x4x4, .f32⟩
  | 56 => ⟨S96x4x4x4, .f32⟩
  | 57 => ⟨S96x96x1x1, .f32⟩
  | 58 => ⟨S96x96, .f32⟩
  | 59 => ⟨S4x96x4x4, .f32⟩
  | 60 => ⟨S96x4x4x4, .f32⟩
  | 61 => ⟨S96x4x4x4, .f32⟩
  | 62 => ⟨S96x96x1x1, .f32⟩
  | 63 => ⟨S96x96, .f32⟩
  | 64 => ⟨S4x96x4x4, .f32⟩
  | 65 => ⟨S96x4x4x4, .f32⟩
  | 66 => ⟨S96x4x4x4, .f32⟩
  | 67 => ⟨S96x96x1x1, .f32⟩
  | 68 => ⟨S96x96, .f32⟩
  | 69 => ⟨S4x96x4x4, .f32⟩
  | 70 => ⟨S96x4x4x4, .f32⟩
  | 71 => ⟨S96x4x4x4, .f32⟩
  | 72 => ⟨S96x96x1x1, .f32⟩
  | 73 => ⟨S96x96, .f32⟩
  | 74 => ⟨S4x96x4x4, .f32⟩
  | 75 => ⟨S96x4x4x4, .f32⟩
  | 76 => ⟨S96x4x4x4, .f32⟩
  | 77 => ⟨S96x96x1x1, .f32⟩
  | 78 => ⟨S96x96, .f32⟩
  | 79 => ⟨S4x96x4x4, .f32⟩
  | 80 => ⟨S96x4x4x4, .f32⟩
  | 81 => ⟨S96x4x4x4, .f32⟩
  | 82 => ⟨S96x96x1x1, .f32⟩
  | 83 => ⟨S96x96, .f32⟩
  | 84 => ⟨S4x96x4x4, .f32⟩
  | 85 => ⟨S96x4x4x4, .f32⟩
  | 86 => ⟨S96x4x4x4, .f32⟩
  | 87 => ⟨S96x96x1x1, .f32⟩
  | 88 => ⟨S96x96, .f32⟩
  | 89 => ⟨S4x96x4x4, .f32⟩
  | 90 => ⟨S96x4x4x4, .f32⟩
  | 91 => ⟨S96x4x4x4, .f32⟩
  | 92 => ⟨S4x96x4x4, .f32⟩
  | 93 => ⟨S1x96x1x1, .f32⟩
  | 94 => ⟨S4x96x4x4, .f32⟩
  | 95 => ⟨S4x96x4x4, .f32⟩
  | 96 => ⟨S4x32x3x4x4, .f32⟩
  | 97 => ⟨S_, .f32⟩
  | 98 => ⟨S4x32, .f32⟩
  | 99 => ⟨S4x32x1x1x1, .f32⟩
  | 100 => ⟨S_, .f32⟩
  | 101 => ⟨S4x32x1x1x1, .f32⟩
  | 102 => ⟨S4x32x1x1x1, .f32⟩
  | 103 => ⟨S_, .i32⟩
  | 104 => ⟨S_, .f32⟩
  | 105 => ⟨S4x32, .f32⟩
  | 106 => ⟨S4x32x1x1x1, .f32⟩
  | 107 => ⟨S_, .f32⟩
  | 108 => ⟨S4x32x1x1x1, .f32⟩
  | 109 => ⟨S4x32x1x1x1, .f32⟩
  | 110 => ⟨S4x32x3x4x4, .f32⟩
  | 111 => ⟨S4x32x3x4x4, .f32⟩
  | 112 => ⟨S4x32x3x4x4, .f32⟩
  | 113 => ⟨S_, .f32⟩
  | 114 => ⟨S_, .f32⟩
  | 115 => ⟨S_, .f32⟩
  | 116 => ⟨S_, .f32⟩
  | 117 => ⟨S4x32, .f32⟩
  | 118 => ⟨S4x32x1x1x1, .f32⟩
  | 119 => ⟨S4x32x1x1x1, .f32⟩
  | 120 => ⟨S4x32x1x1x1, .f32⟩
  | 121 => ⟨S_, .f32⟩
  | 122 => ⟨S_, .i1⟩
  | 123 => ⟨S_, .f32⟩
  | 124 => ⟨S_, .f32⟩
  | 125 => ⟨S4x32x1x1x1, .f32⟩
  | 126 => ⟨S4x32x1x1x1, .f32⟩
  | 127 => ⟨S4x32x3x4x4, .f32⟩
  | _ => ⟨S4x96x64x64, .f32⟩

abbrev hbmTy0_9 (i : Nat) : BufTy := match i % 128 with
  | 0 => ⟨S4x32x3x4x4, .f32⟩
  | 1 => ⟨S_, .f32⟩
  | 2 => ⟨S4x32x1x1x1, .f32⟩
  | 3 => ⟨S4x32x1x1x1, .f32⟩
  | 4 => ⟨S4x32x1x1x1, .f32⟩
  | 5 => ⟨S4x32x3x4x4, .f32⟩
  | 6 => ⟨S4x32x3x4x4, .f32⟩
  | 7 => ⟨S4x96x4x4, .f32⟩
  | 8 => ⟨S1x96x1x1, .f32⟩
  | 9 => ⟨S4x96x4x4, .f32⟩
  | 10 => ⟨S4x96x4x4, .f32⟩
  | 11 => ⟨S1x96x1x1, .f32⟩
  | 12 => ⟨S4x96x4x4, .f32⟩
  | 13 => ⟨S4x96x4x4, .f32⟩
  | 14 => ⟨S4x96x4x4, .f32⟩
  | 15 => ⟨S4x96x4x4, .f32⟩
  | 16 => ⟨S_, .f32⟩
  | 17 => ⟨S4x96x4x4, .f32⟩
  | 18 => ⟨S4x96x4x4, .f32⟩
  | 19 => ⟨S_, .f32⟩
  | 20 => ⟨S4x96x4x4, .f32⟩
  | 21 => ⟨S4x96x4x4, .f32⟩
  | 22 => ⟨S4x96x4x4, .f32⟩
  | 23 => ⟨S5x96, .f32⟩
  | 24 => ⟨S5x4x4x4, .f32⟩
  | 25 => ⟨S4x5x4x4, .f32⟩
  | 26 => ⟨S1x5x1x1, .f32⟩
  | 27 => ⟨S4x5x4x4, .f32⟩
  | 28 => ⟨S4x5x4x4, .f32⟩
  | 29 => ⟨S4x80x16, .f32⟩
  | 30 => ⟨S4x4x4x4, .f32⟩
  | 31 => ⟨S_, .f32⟩
  | 32 => ⟨S4x4x4x4, .f32⟩
  | 33 => ⟨S4x4x4x4, .f32⟩
  | 34 => ⟨S_, .f32⟩
  | 35 => ⟨S4x4x4x4, .f32⟩
  | 36 => ⟨S4x4x4x4, .f32⟩
  | 37 => ⟨S4x4x16, .f32⟩
  | 38 => ⟨S4x1x4x4, .f32⟩
  | 39 => ⟨S4x1x16, .f32⟩
  | _ => ⟨S4x96x64x64, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | _ => ⟨S4x96x64x64, .f32⟩

abbrev bufTy : (tb : Table) → Fin (tcTables nBuf tb) → BufTy
  | .hbm, ⟨i, _⟩ => hbmTy i
  | _, _ => ⟨S4x96x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_c : Ref sig .tc := ⟨.hbm, 17, rfl⟩
abbrev main_call0_v0 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst : Ref sig .tc := ⟨.hbm, 69, rfl⟩
abbrev main_v50 : Ref sig .tc := ⟨.hbm, 70, rfl⟩
abbrev main_v51 : Ref sig .tc := ⟨.hbm, 71, rfl⟩
abbrev main_cst_0 : Ref sig .tc := ⟨.hbm, 72, rfl⟩
abbrev main_v52 : Ref sig .tc := ⟨.hbm, 73, rfl⟩
abbrev main_v53 : Ref sig .tc := ⟨.hbm, 74, rfl⟩
abbrev main_c_1 : Ref sig .tc := ⟨.hbm, 75, rfl⟩
abbrev main_call1_cst : Ref sig .tc := ⟨.hbm, 76, rfl⟩
abbrev main_call1_v0 : Ref sig .tc := ⟨.hbm, 77, rfl⟩
abbrev main_call1_v1 : Ref sig .tc := ⟨.hbm, 78, rfl⟩
abbrev main_call1_cst_0 : Ref sig .tc := ⟨.hbm, 79, rfl⟩
abbrev main_call1_v2 : Ref sig .tc := ⟨.hbm, 80, rfl⟩
abbrev main_call1_v3 : Ref sig .tc := ⟨.hbm, 81, rfl⟩
abbrev main_call1_v4 : Ref sig .tc := ⟨.hbm, 82, rfl⟩
abbrev main_call1_v5 : Ref sig .tc := ⟨.hbm, 83, rfl⟩
abbrev main_call1_v6 : Ref sig .tc := ⟨.hbm, 84, rfl⟩
abbrev main_call1_v7 : Ref sig .tc := ⟨.hbm, 85, rfl⟩
abbrev main_call1_cst_1 : Ref sig .tc := ⟨.hbm, 86, rfl⟩
abbrev main_call1_v8 : Ref sig .tc := ⟨.hbm, 87, rfl⟩
abbrev main_call1_cst_2 : Ref sig .tc := ⟨.hbm, 88, rfl⟩
abbrev main_call1_v9 : Ref sig .tc := ⟨.hbm, 89, rfl⟩
abbrev main_call1_v10 : Ref sig .tc := ⟨.hbm, 90, rfl⟩
abbrev main_call1_v11 : Ref sig .tc := ⟨.hbm, 91, rfl⟩
abbrev main_call1_v12 : Ref sig .tc := ⟨.hbm, 92, rfl⟩
abbrev main_call1_cst_3 : Ref sig .tc := ⟨.hbm, 93, rfl⟩
abbrev main_call1_v13 : Ref sig .tc := ⟨.hbm, 94, rfl⟩
abbrev main_call1_cst_4 : Ref sig .tc := ⟨.hbm, 95, rfl⟩
abbrev main_call1_call0_v0 : Ref sig .tc := ⟨.hbm, 96, rfl⟩
abbrev main_call1_call0_v1 : Ref sig .tc := ⟨.hbm, 97, rfl⟩
abbrev main_v54 : Ref sig .tc := ⟨.hbm, 98, rfl⟩
abbrev main_v55 : Ref sig .tc := ⟨.hbm, 99, rfl⟩
abbrev main_v56 : Ref sig .tc := ⟨.hbm, 100, rfl⟩
abbrev main_cst_2 : Ref sig .tc := ⟨.hbm, 101, rfl⟩
abbrev main_v57 : Ref sig .tc := ⟨.hbm, 102, rfl⟩
abbrev main_v58 : Ref sig .tc := ⟨.hbm, 103, rfl⟩
abbrev main_v59 : Ref sig .tc := ⟨.hbm, 104, rfl⟩
abbrev main_v60 : Ref sig .tc := ⟨.hbm, 105, rfl⟩
abbrev main_v61 : Ref sig .tc := ⟨.hbm, 106, rfl⟩
abbrev main_v62 : Ref sig .tc := ⟨.hbm, 107, rfl⟩
abbrev main_v63 : Ref sig .tc := ⟨.hbm, 108, rfl⟩
abbrev main_v64 : Ref sig .tc := ⟨.hbm, 109, rfl⟩
abbrev main_v65 : Ref sig .tc := ⟨.hbm, 110, rfl⟩
abbrev main_v66 : Ref sig .tc := ⟨.hbm, 111, rfl⟩
abbrev main_v67 : Ref sig .tc := ⟨.hbm, 112, rfl⟩
abbrev main_v68 : Ref sig .tc := ⟨.hbm, 113, rfl⟩
abbrev main_v69 : Ref sig .tc := ⟨.hbm, 114, rfl⟩
abbrev main_v70 : Ref sig .tc := ⟨.hbm, 115, rfl⟩
abbrev main_cst_3 : Ref sig .tc := ⟨.hbm, 116, rfl⟩
abbrev main_v71 : Ref sig .tc := ⟨.hbm, 117, rfl⟩
abbrev main_v72 : Ref sig .tc := ⟨.hbm, 118, rfl⟩
abbrev main_cst_4 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_c_5 : Ref sig .tc := ⟨.hbm, 129, rfl⟩
abbrev main_call2_v0 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_v110 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_v116 : Ref sig .tc := ⟨.hbm, 165, rfl⟩
abbrev main_v117 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_cst_6 : Ref sig .tc := ⟨.hbm, 181, rfl⟩
abbrev main_v132 : Ref sig .tc := ⟨.hbm, 182, rfl⟩
abbrev main_v133 : Ref sig .tc := ⟨.hbm, 183, rfl⟩
abbrev main_cst_7 : Ref sig .tc := ⟨.hbm, 184, rfl⟩
abbrev main_v134 : Ref sig .tc := ⟨.hbm, 185, rfl⟩
abbrev main_v135 : Ref sig .tc := ⟨.hbm, 186, rfl⟩
abbrev main_c_8 : Ref sig .tc := ⟨.hbm, 187, rfl⟩
abbrev main_call3_cst : Ref sig .tc := ⟨.hbm, 188, rfl⟩
abbrev main_call3_v0 : Ref sig .tc := ⟨.hbm, 189, rfl⟩
abbrev main_call3_v1 : Ref sig .tc := ⟨.hbm, 190, rfl⟩
abbrev main_call3_cst_0 : Ref sig .tc := ⟨.hbm, 191, rfl⟩
abbrev main_call3_v2 : Ref sig .tc := ⟨.hbm, 192, rfl⟩
abbrev main_call3_v3 : Ref sig .tc := ⟨.hbm, 193, rfl⟩
abbrev main_call3_v4 : Ref sig .tc := ⟨.hbm, 194, rfl⟩
abbrev main_call3_v5 : Ref sig .tc := ⟨.hbm, 195, rfl⟩
abbrev main_call3_v6 : Ref sig .tc := ⟨.hbm, 196, rfl⟩
abbrev main_call3_v7 : Ref sig .tc := ⟨.hbm, 197, rfl⟩
abbrev main_call3_cst_1 : Ref sig .tc := ⟨.hbm, 198, rfl⟩
abbrev main_call3_v8 : Ref sig .tc := ⟨.hbm, 199, rfl⟩
abbrev main_call3_cst_2 : Ref sig .tc := ⟨.hbm, 200, rfl⟩
abbrev main_call3_v9 : Ref sig .tc := ⟨.hbm, 201, rfl⟩
abbrev main_call3_v10 : Ref sig .tc := ⟨.hbm, 202, rfl⟩
abbrev main_call3_v11 : Ref sig .tc := ⟨.hbm, 203, rfl⟩
abbrev main_call3_v12 : Ref sig .tc := ⟨.hbm, 204, rfl⟩
abbrev main_call3_cst_3 : Ref sig .tc := ⟨.hbm, 205, rfl⟩
abbrev main_call3_v13 : Ref sig .tc := ⟨.hbm, 206, rfl⟩
abbrev main_call3_cst_4 : Ref sig .tc := ⟨.hbm, 207, rfl⟩
abbrev main_call3_call0_v0 : Ref sig .tc := ⟨.hbm, 208, rfl⟩
abbrev main_call3_call0_v1 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_cst_9 : Ref sig .tc := ⟨.hbm, 213, rfl⟩
abbrev main_v139 : Ref sig .tc := ⟨.hbm, 214, rfl⟩
abbrev main_v140 : Ref sig .tc := ⟨.hbm, 215, rfl⟩
abbrev main_v141 : Ref sig .tc := ⟨.hbm, 216, rfl⟩
abbrev main_v142 : Ref sig .tc := ⟨.hbm, 217, rfl⟩
abbrev main_v143 : Ref sig .tc := ⟨.hbm, 218, rfl⟩
abbrev main_v144 : Ref sig .tc := ⟨.hbm, 219, rfl⟩
abbrev main_v145 : Ref sig .tc := ⟨.hbm, 220, rfl⟩
abbrev main_v146 : Ref sig .tc := ⟨.hbm, 221, rfl⟩
abbrev main_v147 : Ref sig .tc := ⟨.hbm, 222, rfl⟩
abbrev main_v148 : Ref sig .tc := ⟨.hbm, 223, rfl⟩
abbrev main_v149 : Ref sig .tc := ⟨.hbm, 224, rfl⟩
abbrev main_v150 : Ref sig .tc := ⟨.hbm, 225, rfl⟩
abbrev main_v151 : Ref sig .tc := ⟨.hbm, 226, rfl⟩
abbrev main_v152 : Ref sig .tc := ⟨.hbm, 227, rfl⟩
abbrev main_cst_10 : Ref sig .tc := ⟨.hbm, 228, rfl⟩
abbrev main_v153 : Ref sig .tc := ⟨.hbm, 229, rfl⟩
abbrev main_v154 : Ref sig .tc := ⟨.hbm, 230, rfl⟩
abbrev main_cst_11 : Ref sig .tc := ⟨.hbm, 231, rfl⟩
abbrev main_v155 : Ref sig .tc := ⟨.hbm, 232, rfl⟩
abbrev main_v156 : Ref sig .tc := ⟨.hbm, 233, rfl⟩
abbrev main_v157 : Ref sig .tc := ⟨.hbm, 234, rfl⟩
abbrev main_v158 : Ref sig .tc := ⟨.hbm, 235, rfl⟩
abbrev main_v159 : Ref sig .tc := ⟨.hbm, 236, rfl⟩
abbrev main_v160 : Ref sig .tc := ⟨.hbm, 237, rfl⟩
abbrev main_v161 : Ref sig .tc := ⟨.hbm, 238, rfl⟩
abbrev main_v162 : Ref sig .tc := ⟨.hbm, 239, rfl⟩
abbrev main_v163 : Ref sig .tc := ⟨.hbm, 240, rfl⟩
abbrev main_v164 : Ref sig .tc := ⟨.hbm, 241, rfl⟩
abbrev main_v165 : Ref sig .tc := ⟨.hbm, 242, rfl⟩
abbrev main_cst_12 : Ref sig .tc := ⟨.hbm, 243, rfl⟩
abbrev main_v166 : Ref sig .tc := ⟨.hbm, 244, rfl⟩
abbrev main_v167 : Ref sig .tc := ⟨.hbm, 245, rfl⟩
abbrev main_call4_cst : Ref sig .tc := ⟨.hbm, 246, rfl⟩
abbrev main_call4_v0 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_v171 : Ref sig .tc := ⟨.hbm, 251, rfl⟩
abbrev main_c_13 : Ref sig .tc := ⟨.hbm, 252, rfl⟩
abbrev main_call5_v0 : Ref sig .tc := ⟨.hbm, 253, rfl⟩
abbrev main_v172 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_v179 : Ref sig .tc := ⟨.hbm, 261, rfl⟩
abbrev main_v180 : Ref sig .tc := ⟨.hbm, 262, rfl⟩
abbrev main_v181 : Ref sig .tc := ⟨.hbm, 263, rfl⟩
abbrev main_v182 : Ref sig .tc := ⟨.hbm, 264, rfl⟩
abbrev main_v183 : Ref sig .tc := ⟨.hbm, 265, rfl⟩
abbrev main_v184 : Ref sig .tc := ⟨.hbm, 266, rfl⟩
abbrev main_v185 : Ref sig .tc := ⟨.hbm, 267, rfl⟩
abbrev main_v186 : Ref sig .tc := ⟨.hbm, 268, rfl⟩
abbrev main_v187 : Ref sig .tc := ⟨.hbm, 269, rfl⟩
abbrev main_v188 : Ref sig .tc := ⟨.hbm, 270, rfl⟩
abbrev main_v189 : Ref sig .tc := ⟨.hbm, 271, rfl⟩
abbrev main_v190 : Ref sig .tc := ⟨.hbm, 272, rfl⟩
abbrev main_v191 : Ref sig .tc := ⟨.hbm, 273, rfl⟩
abbrev main_v192 : Ref sig .tc := ⟨.hbm, 274, rfl⟩
abbrev main_v193 : Ref sig .tc := ⟨.hbm, 275, rfl⟩
abbrev main_v194 : Ref sig .tc := ⟨.hbm, 276, rfl⟩
abbrev main_v195 : Ref sig .tc := ⟨.hbm, 277, rfl⟩
abbrev main_v196 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_v201 : Ref sig .tc := ⟨.hbm, 283, rfl⟩
abbrev main_v202 : Ref sig .tc := ⟨.hbm, 284, rfl⟩
abbrev main_v203 : Ref sig .tc := ⟨.hbm, 285, rfl⟩
abbrev main_v204 : Ref sig .tc := ⟨.hbm, 286, rfl⟩
abbrev main_v205 : Ref sig .tc := ⟨.hbm, 287, rfl⟩
abbrev main_v206 : Ref sig .tc := ⟨.hbm, 288, rfl⟩
abbrev main_v207 : Ref sig .tc := ⟨.hbm, 289, rfl⟩
abbrev main_v208 : Ref sig .tc := ⟨.hbm, 290, rfl⟩
abbrev main_v209 : Ref sig .tc := ⟨.hbm, 291, rfl⟩
abbrev main_v210 : Ref sig .tc := ⟨.hbm, 292, rfl⟩
abbrev main_v211 : Ref sig .tc := ⟨.hbm, 293, rfl⟩
abbrev main_v212 : Ref sig .tc := ⟨.hbm, 294, rfl⟩
abbrev main_v213 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_cst_14 : Ref sig .tc := ⟨.hbm, 304, rfl⟩
abbrev main_v222 : Ref sig .tc := ⟨.hbm, 305, rfl⟩
abbrev main_v223 : Ref sig .tc := ⟨.hbm, 306, rfl⟩
abbrev main_cst_15 : Ref sig .tc := ⟨.hbm, 307, rfl⟩
abbrev main_v224 : Ref sig .tc := ⟨.hbm, 308, rfl⟩
abbrev main_v225 : Ref sig .tc := ⟨.hbm, 309, rfl⟩
abbrev main_c_16 : Ref sig .tc := ⟨.hbm, 310, rfl⟩
abbrev main_call6_cst : Ref sig .tc := ⟨.hbm, 311, rfl⟩
abbrev main_call6_v0 : Ref sig .tc := ⟨.hbm, 312, rfl⟩
abbrev main_call6_v1 : Ref sig .tc := ⟨.hbm, 313, rfl⟩
abbrev main_call6_cst_0 : Ref sig .tc := ⟨.hbm, 314, rfl⟩
abbrev main_call6_v2 : Ref sig .tc := ⟨.hbm, 315, rfl⟩
abbrev main_call6_v3 : Ref sig .tc := ⟨.hbm, 316, rfl⟩
abbrev main_call6_v4 : Ref sig .tc := ⟨.hbm, 317, rfl⟩
abbrev main_call6_v5 : Ref sig .tc := ⟨.hbm, 318, rfl⟩
abbrev main_call6_v6 : Ref sig .tc := ⟨.hbm, 319, rfl⟩
abbrev main_call6_v7 : Ref sig .tc := ⟨.hbm, 320, rfl⟩
abbrev main_call6_cst_1 : Ref sig .tc := ⟨.hbm, 321, rfl⟩
abbrev main_call6_v8 : Ref sig .tc := ⟨.hbm, 322, rfl⟩
abbrev main_call6_cst_2 : Ref sig .tc := ⟨.hbm, 323, rfl⟩
abbrev main_call6_v9 : Ref sig .tc := ⟨.hbm, 324, rfl⟩
abbrev main_call6_v10 : Ref sig .tc := ⟨.hbm, 325, rfl⟩
abbrev main_call6_v11 : Ref sig .tc := ⟨.hbm, 326, rfl⟩
abbrev main_call6_v12 : Ref sig .tc := ⟨.hbm, 327, rfl⟩
abbrev main_call6_cst_3 : Ref sig .tc := ⟨.hbm, 328, rfl⟩
abbrev main_call6_v13 : Ref sig .tc := ⟨.hbm, 329, rfl⟩
abbrev main_call6_cst_4 : Ref sig .tc := ⟨.hbm, 330, rfl⟩
abbrev main_call6_call0_v0 : Ref sig .tc := ⟨.hbm, 331, rfl⟩
abbrev main_call6_call0_v1 : Ref sig .tc := ⟨.hbm, 332, rfl⟩
abbrev main_v226 : Ref sig .tc := ⟨.hbm, 333, rfl⟩
abbrev main_v227 : Ref sig .tc := ⟨.hbm, 334, rfl⟩
abbrev main_v228 : Ref sig .tc := ⟨.hbm, 335, rfl⟩
abbrev main_cst_17 : Ref sig .tc := ⟨.hbm, 336, rfl⟩
abbrev main_v229 : Ref sig .tc := ⟨.hbm, 337, rfl⟩
abbrev main_v230 : Ref sig .tc := ⟨.hbm, 338, rfl⟩
abbrev main_v231 : Ref sig .tc := ⟨.hbm, 339, rfl⟩
abbrev main_v232 : Ref sig .tc := ⟨.hbm, 340, rfl⟩
abbrev main_v233 : Ref sig .tc := ⟨.hbm, 341, rfl⟩
abbrev main_v234 : Ref sig .tc := ⟨.hbm, 342, rfl⟩
abbrev main_v235 : Ref sig .tc := ⟨.hbm, 343, rfl⟩
abbrev main_v236 : Ref sig .tc := ⟨.hbm, 344, rfl⟩
abbrev main_v237 : Ref sig .tc := ⟨.hbm, 345, rfl⟩
abbrev main_v238 : Ref sig .tc := ⟨.hbm, 346, rfl⟩
abbrev main_v239 : Ref sig .tc := ⟨.hbm, 347, rfl⟩
abbrev main_v240 : Ref sig .tc := ⟨.hbm, 348, rfl⟩
abbrev main_v241 : Ref sig .tc := ⟨.hbm, 349, rfl⟩
abbrev main_v242 : Ref sig .tc := ⟨.hbm, 350, rfl⟩
abbrev main_cst_18 : Ref sig .tc := ⟨.hbm, 351, rfl⟩
abbrev main_v243 : Ref sig .tc := ⟨.hbm, 352, rfl⟩
abbrev main_v244 : Ref sig .tc := ⟨.hbm, 353, rfl⟩
abbrev main_cst_19 : Ref sig .tc := ⟨.hbm, 354, rfl⟩
abbrev main_v245 : Ref sig .tc := ⟨.hbm, 355, rfl⟩
abbrev main_v246 : Ref sig .tc := ⟨.hbm, 356, rfl⟩
abbrev main_v247 : Ref sig .tc := ⟨.hbm, 357, rfl⟩
abbrev main_v248 : Ref sig .tc := ⟨.hbm, 358, rfl⟩
abbrev main_v249 : Ref sig .tc := ⟨.hbm, 359, rfl⟩
abbrev main_v250 : Ref sig .tc := ⟨.hbm, 360, rfl⟩
abbrev main_v251 : Ref sig .tc := ⟨.hbm, 361, rfl⟩
abbrev main_v252 : Ref sig .tc := ⟨.hbm, 362, rfl⟩
abbrev main_v253 : Ref sig .tc := ⟨.hbm, 363, rfl⟩
abbrev main_c_20 : Ref sig .tc := ⟨.hbm, 364, rfl⟩
abbrev main_call7_v0 : Ref sig .tc := ⟨.hbm, 365, rfl⟩
abbrev main_v254 : Ref sig .tc := ⟨.hbm, 366, rfl⟩
abbrev main_v255 : Ref sig .tc := ⟨.hbm, 367, rfl⟩
abbrev main_v256 : Ref sig .tc := ⟨.hbm, 368, rfl⟩
abbrev main_v257 : Ref sig .tc := ⟨.hbm, 369, rfl⟩
abbrev main_v258 : Ref sig .tc := ⟨.hbm, 370, rfl⟩
abbrev main_v259 : Ref sig .tc := ⟨.hbm, 371, rfl⟩
abbrev main_v260 : Ref sig .tc := ⟨.hbm, 372, rfl⟩
abbrev main_v261 : Ref sig .tc := ⟨.hbm, 373, rfl⟩
abbrev main_v262 : Ref sig .tc := ⟨.hbm, 374, rfl⟩
abbrev main_v263 : Ref sig .tc := ⟨.hbm, 375, rfl⟩
abbrev main_v264 : Ref sig .tc := ⟨.hbm, 376, rfl⟩
abbrev main_v265 : Ref sig .tc := ⟨.hbm, 377, rfl⟩
abbrev main_v266 : Ref sig .tc := ⟨.hbm, 378, rfl⟩
abbrev main_v267 : Ref sig .tc := ⟨.hbm, 379, rfl⟩
abbrev main_v268 : Ref sig .tc := ⟨.hbm, 380, rfl⟩
abbrev main_v269 : Ref sig .tc := ⟨.hbm, 381, rfl⟩
abbrev main_v270 : Ref sig .tc := ⟨.hbm, 382, rfl⟩
abbrev main_v271 : Ref sig .tc := ⟨.hbm, 383, rfl⟩
abbrev main_v272 : Ref sig .tc := ⟨.hbm, 384, rfl⟩
abbrev main_v273 : Ref sig .tc := ⟨.hbm, 385, rfl⟩
abbrev main_v274 : Ref sig .tc := ⟨.hbm, 386, rfl⟩
abbrev main_v275 : Ref sig .tc := ⟨.hbm, 387, rfl⟩
abbrev main_v276 : Ref sig .tc := ⟨.hbm, 388, rfl⟩
abbrev main_v277 : Ref sig .tc := ⟨.hbm, 389, rfl⟩
abbrev main_v278 : Ref sig .tc := ⟨.hbm, 390, rfl⟩
abbrev main_v279 : Ref sig .tc := ⟨.hbm, 391, rfl⟩
abbrev main_v280 : Ref sig .tc := ⟨.hbm, 392, rfl⟩
abbrev main_v281 : Ref sig .tc := ⟨.hbm, 393, rfl⟩
abbrev main_v282 : Ref sig .tc := ⟨.hbm, 394, rfl⟩
abbrev main_v283 : Ref sig .tc := ⟨.hbm, 395, rfl⟩
abbrev main_v284 : Ref sig .tc := ⟨.hbm, 396, rfl⟩
abbrev main_v285 : Ref sig .tc := ⟨.hbm, 397, rfl⟩
abbrev main_v286 : Ref sig .tc := ⟨.hbm, 398, rfl⟩
abbrev main_v287 : Ref sig .tc := ⟨.hbm, 399, rfl⟩
abbrev main_v288 : Ref sig .tc := ⟨.hbm, 400, rfl⟩
abbrev main_v289 : Ref sig .tc := ⟨.hbm, 401, rfl⟩
abbrev main_v290 : Ref sig .tc := ⟨.hbm, 402, rfl⟩
abbrev main_v291 : Ref sig .tc := ⟨.hbm, 403, rfl⟩
abbrev main_v292 : Ref sig .tc := ⟨.hbm, 404, rfl⟩
abbrev main_v293 : Ref sig .tc := ⟨.hbm, 405, rfl⟩
abbrev main_v294 : Ref sig .tc := ⟨.hbm, 406, rfl⟩
abbrev main_v295 : Ref sig .tc := ⟨.hbm, 407, rfl⟩
abbrev main_v296 : Ref sig .tc := ⟨.hbm, 408, rfl⟩
abbrev main_v297 : Ref sig .tc := ⟨.hbm, 409, rfl⟩
abbrev main_v298 : Ref sig .tc := ⟨.hbm, 410, rfl⟩
abbrev main_v299 : Ref sig .tc := ⟨.hbm, 411, rfl⟩
abbrev main_v300 : Ref sig .tc := ⟨.hbm, 412, rfl⟩
abbrev main_v301 : Ref sig .tc := ⟨.hbm, 413, rfl⟩
abbrev main_v302 : Ref sig .tc := ⟨.hbm, 414, rfl⟩
abbrev main_v303 : Ref sig .tc := ⟨.hbm, 415, rfl⟩
abbrev main_cst_21 : Ref sig .tc := ⟨.hbm, 416, rfl⟩
abbrev main_v304 : Ref sig .tc := ⟨.hbm, 417, rfl⟩
abbrev main_v305 : Ref sig .tc := ⟨.hbm, 418, rfl⟩
abbrev main_cst_22 : Ref sig .tc := ⟨.hbm, 419, rfl⟩
abbrev main_v306 : Ref sig .tc := ⟨.hbm, 420, rfl⟩
abbrev main_v307 : Ref sig .tc := ⟨.hbm, 421, rfl⟩
abbrev main_c_23 : Ref sig .tc := ⟨.hbm, 422, rfl⟩
abbrev main_call8_cst : Ref sig .tc := ⟨.hbm, 423, rfl⟩
abbrev main_call8_v0 : Ref sig .tc := ⟨.hbm, 424, rfl⟩
abbrev main_call8_v1 : Ref sig .tc := ⟨.hbm, 425, rfl⟩
abbrev main_call8_cst_0 : Ref sig .tc := ⟨.hbm, 426, rfl⟩
abbrev main_call8_v2 : Ref sig .tc := ⟨.hbm, 427, rfl⟩
abbrev main_call8_v3 : Ref sig .tc := ⟨.hbm, 428, rfl⟩
abbrev main_call8_v4 : Ref sig .tc := ⟨.hbm, 429, rfl⟩
abbrev main_call8_v5 : Ref sig .tc := ⟨.hbm, 430, rfl⟩
abbrev main_call8_v6 : Ref sig .tc := ⟨.hbm, 431, rfl⟩
abbrev main_call8_v7 : Ref sig .tc := ⟨.hbm, 432, rfl⟩
abbrev main_call8_cst_1 : Ref sig .tc := ⟨.hbm, 433, rfl⟩
abbrev main_call8_v8 : Ref sig .tc := ⟨.hbm, 434, rfl⟩
abbrev main_call8_cst_2 : Ref sig .tc := ⟨.hbm, 435, rfl⟩
abbrev main_call8_v9 : Ref sig .tc := ⟨.hbm, 436, rfl⟩
abbrev main_call8_v10 : Ref sig .tc := ⟨.hbm, 437, rfl⟩
abbrev main_call8_v11 : Ref sig .tc := ⟨.hbm, 438, rfl⟩
abbrev main_call8_v12 : Ref sig .tc := ⟨.hbm, 439, rfl⟩
abbrev main_call8_cst_3 : Ref sig .tc := ⟨.hbm, 440, rfl⟩
abbrev main_call8_v13 : Ref sig .tc := ⟨.hbm, 441, rfl⟩
abbrev main_call8_cst_4 : Ref sig .tc := ⟨.hbm, 442, rfl⟩
abbrev main_call8_call0_v0 : Ref sig .tc := ⟨.hbm, 443, rfl⟩
abbrev main_call8_call0_v1 : Ref sig .tc := ⟨.hbm, 444, rfl⟩
abbrev main_v308 : Ref sig .tc := ⟨.hbm, 445, rfl⟩
abbrev main_v309 : Ref sig .tc := ⟨.hbm, 446, rfl⟩
abbrev main_v310 : Ref sig .tc := ⟨.hbm, 447, rfl⟩
abbrev main_cst_24 : Ref sig .tc := ⟨.hbm, 448, rfl⟩
abbrev main_v311 : Ref sig .tc := ⟨.hbm, 449, rfl⟩
abbrev main_v312 : Ref sig .tc := ⟨.hbm, 450, rfl⟩
abbrev main_v313 : Ref sig .tc := ⟨.hbm, 451, rfl⟩
abbrev main_v314 : Ref sig .tc := ⟨.hbm, 452, rfl⟩
abbrev main_v315 : Ref sig .tc := ⟨.hbm, 453, rfl⟩
abbrev main_v316 : Ref sig .tc := ⟨.hbm, 454, rfl⟩
abbrev main_v317 : Ref sig .tc := ⟨.hbm, 455, rfl⟩
abbrev main_v318 : Ref sig .tc := ⟨.hbm, 456, rfl⟩
abbrev main_v319 : Ref sig .tc := ⟨.hbm, 457, rfl⟩
abbrev main_v320 : Ref sig .tc := ⟨.hbm, 458, rfl⟩
abbrev main_v321 : Ref sig .tc := ⟨.hbm, 459, rfl⟩
abbrev main_v322 : Ref sig .tc := ⟨.hbm, 460, rfl⟩
abbrev main_v323 : Ref sig .tc := ⟨.hbm, 461, rfl⟩
abbrev main_v324 : Ref sig .tc := ⟨.hbm, 462, rfl⟩
abbrev main_cst_25 : Ref sig .tc := ⟨.hbm, 463, rfl⟩
abbrev main_v325 : Ref sig .tc := ⟨.hbm, 464, rfl⟩
abbrev main_v326 : Ref sig .tc := ⟨.hbm, 465, rfl⟩
abbrev main_cst_26 : Ref sig .tc := ⟨.hbm, 466, rfl⟩
abbrev main_v327 : Ref sig .tc := ⟨.hbm, 467, rfl⟩
abbrev main_v328 : Ref sig .tc := ⟨.hbm, 468, rfl⟩
abbrev main_v329 : Ref sig .tc := ⟨.hbm, 469, rfl⟩
abbrev main_v330 : Ref sig .tc := ⟨.hbm, 470, rfl⟩
abbrev main_v331 : Ref sig .tc := ⟨.hbm, 471, rfl⟩
abbrev main_v332 : Ref sig .tc := ⟨.hbm, 472, rfl⟩
abbrev main_v333 : Ref sig .tc := ⟨.hbm, 473, rfl⟩
abbrev main_v334 : Ref sig .tc := ⟨.hbm, 474, rfl⟩
abbrev main_v335 : Ref sig .tc := ⟨.hbm, 475, rfl⟩
abbrev main_v336 : Ref sig .tc := ⟨.hbm, 476, rfl⟩
abbrev main_v337 : Ref sig .tc := ⟨.hbm, 477, rfl⟩
abbrev main_cst_27 : Ref sig .tc := ⟨.hbm, 478, rfl⟩
abbrev main_v338 : Ref sig .tc := ⟨.hbm, 479, rfl⟩
abbrev main_v339 : Ref sig .tc := ⟨.hbm, 480, rfl⟩
abbrev main_call9_cst : Ref sig .tc := ⟨.hbm, 481, rfl⟩
abbrev main_call9_v0 : Ref sig .tc := ⟨.hbm, 482, rfl⟩
abbrev main_v340 : Ref sig .tc := ⟨.hbm, 483, rfl⟩
abbrev main_v341 : Ref sig .tc := ⟨.hbm, 484, rfl⟩
abbrev main_v342 : Ref sig .tc := ⟨.hbm, 485, rfl⟩
abbrev main_v343 : Ref sig .tc := ⟨.hbm, 486, rfl⟩
abbrev main_c_28 : Ref sig .tc := ⟨.hbm, 487, rfl⟩
abbrev main_call10_v0 : Ref sig .tc := ⟨.hbm, 488, rfl⟩
abbrev main_v344 : Ref sig .tc := ⟨.hbm, 489, rfl⟩
abbrev main_v345 : Ref sig .tc := ⟨.hbm, 490, rfl⟩
abbrev main_v346 : Ref sig .tc := ⟨.hbm, 491, rfl⟩
abbrev main_v347 : Ref sig .tc := ⟨.hbm, 492, rfl⟩
abbrev main_v348 : Ref sig .tc := ⟨.hbm, 493, rfl⟩
abbrev main_v349 : Ref sig .tc := ⟨.hbm, 494, rfl⟩
abbrev main_v350 : Ref sig .tc := ⟨.hbm, 495, rfl⟩
abbrev main_v351 : Ref sig .tc := ⟨.hbm, 496, rfl⟩
abbrev main_v352 : Ref sig .tc := ⟨.hbm, 497, rfl⟩
abbrev main_v353 : Ref sig .tc := ⟨.hbm, 498, rfl⟩
abbrev main_v354 : Ref sig .tc := ⟨.hbm, 499, rfl⟩
abbrev main_v355 : Ref sig .tc := ⟨.hbm, 500, rfl⟩
abbrev main_v356 : Ref sig .tc := ⟨.hbm, 501, rfl⟩
abbrev main_v357 : Ref sig .tc := ⟨.hbm, 502, rfl⟩
abbrev main_v358 : Ref sig .tc := ⟨.hbm, 503, rfl⟩
abbrev main_v359 : Ref sig .tc := ⟨.hbm, 504, rfl⟩
abbrev main_v360 : Ref sig .tc := ⟨.hbm, 505, rfl⟩
abbrev main_v361 : Ref sig .tc := ⟨.hbm, 506, rfl⟩
abbrev main_v362 : Ref sig .tc := ⟨.hbm, 507, rfl⟩
abbrev main_v363 : Ref sig .tc := ⟨.hbm, 508, rfl⟩
abbrev main_v364 : Ref sig .tc := ⟨.hbm, 509, rfl⟩
abbrev main_v365 : Ref sig .tc := ⟨.hbm, 510, rfl⟩
abbrev main_v366 : Ref sig .tc := ⟨.hbm, 511, rfl⟩
abbrev main_v367 : Ref sig .tc := ⟨.hbm, 512, rfl⟩
abbrev main_v368 : Ref sig .tc := ⟨.hbm, 513, rfl⟩
abbrev main_v369 : Ref sig .tc := ⟨.hbm, 514, rfl⟩
abbrev main_v370 : Ref sig .tc := ⟨.hbm, 515, rfl⟩
abbrev main_v371 : Ref sig .tc := ⟨.hbm, 516, rfl⟩
abbrev main_v372 : Ref sig .tc := ⟨.hbm, 517, rfl⟩
abbrev main_v373 : Ref sig .tc := ⟨.hbm, 518, rfl⟩
abbrev main_v374 : Ref sig .tc := ⟨.hbm, 519, rfl⟩
abbrev main_v375 : Ref sig .tc := ⟨.hbm, 520, rfl⟩
abbrev main_v376 : Ref sig .tc := ⟨.hbm, 521, rfl⟩
abbrev main_v377 : Ref sig .tc := ⟨.hbm, 522, rfl⟩
abbrev main_v378 : Ref sig .tc := ⟨.hbm, 523, rfl⟩
abbrev main_v379 : Ref sig .tc := ⟨.hbm, 524, rfl⟩
abbrev main_v380 : Ref sig .tc := ⟨.hbm, 525, rfl⟩
abbrev main_v381 : Ref sig .tc := ⟨.hbm, 526, rfl⟩
abbrev main_v382 : Ref sig .tc := ⟨.hbm, 527, rfl⟩
abbrev main_v383 : Ref sig .tc := ⟨.hbm, 528, rfl⟩
abbrev main_v384 : Ref sig .tc := ⟨.hbm, 529, rfl⟩
abbrev main_v385 : Ref sig .tc := ⟨.hbm, 530, rfl⟩
abbrev main_v386 : Ref sig .tc := ⟨.hbm, 531, rfl⟩
abbrev main_v387 : Ref sig .tc := ⟨.hbm, 532, rfl⟩
abbrev main_v388 : Ref sig .tc := ⟨.hbm, 533, rfl⟩
abbrev main_v389 : Ref sig .tc := ⟨.hbm, 534, rfl⟩
abbrev main_v390 : Ref sig .tc := ⟨.hbm, 535, rfl⟩
abbrev main_v391 : Ref sig .tc := ⟨.hbm, 536, rfl⟩
abbrev main_v392 : Ref sig .tc := ⟨.hbm, 537, rfl⟩
abbrev main_v393 : Ref sig .tc := ⟨.hbm, 538, rfl⟩
abbrev main_cst_29 : Ref sig .tc := ⟨.hbm, 539, rfl⟩
abbrev main_v394 : Ref sig .tc := ⟨.hbm, 540, rfl⟩
abbrev main_v395 : Ref sig .tc := ⟨.hbm, 541, rfl⟩
abbrev main_cst_30 : Ref sig .tc := ⟨.hbm, 542, rfl⟩
abbrev main_v396 : Ref sig .tc := ⟨.hbm, 543, rfl⟩
abbrev main_v397 : Ref sig .tc := ⟨.hbm, 544, rfl⟩
abbrev main_c_31 : Ref sig .tc := ⟨.hbm, 545, rfl⟩
abbrev main_call11_cst : Ref sig .tc := ⟨.hbm, 546, rfl⟩
abbrev main_call11_v0 : Ref sig .tc := ⟨.hbm, 547, rfl⟩
abbrev main_call11_v1 : Ref sig .tc := ⟨.hbm, 548, rfl⟩
abbrev main_call11_cst_0 : Ref sig .tc := ⟨.hbm, 549, rfl⟩
abbrev main_call11_v2 : Ref sig .tc := ⟨.hbm, 550, rfl⟩
abbrev main_call11_v3 : Ref sig .tc := ⟨.hbm, 551, rfl⟩
abbrev main_call11_v4 : Ref sig .tc := ⟨.hbm, 552, rfl⟩
abbrev main_call11_v5 : Ref sig .tc := ⟨.hbm, 553, rfl⟩
abbrev main_call11_v6 : Ref sig .tc := ⟨.hbm, 554, rfl⟩
abbrev main_call11_v7 : Ref sig .tc := ⟨.hbm, 555, rfl⟩
abbrev main_call11_cst_1 : Ref sig .tc := ⟨.hbm, 556, rfl⟩
abbrev main_call11_v8 : Ref sig .tc := ⟨.hbm, 557, rfl⟩
abbrev main_call11_cst_2 : Ref sig .tc := ⟨.hbm, 558, rfl⟩
abbrev main_call11_v9 : Ref sig .tc := ⟨.hbm, 559, rfl⟩
abbrev main_call11_v10 : Ref sig .tc := ⟨.hbm, 560, rfl⟩
abbrev main_call11_v11 : Ref sig .tc := ⟨.hbm, 561, rfl⟩
abbrev main_call11_v12 : Ref sig .tc := ⟨.hbm, 562, rfl⟩
abbrev main_call11_cst_3 : Ref sig .tc := ⟨.hbm, 563, rfl⟩
abbrev main_call11_v13 : Ref sig .tc := ⟨.hbm, 564, rfl⟩
abbrev main_call11_cst_4 : Ref sig .tc := ⟨.hbm, 565, rfl⟩
abbrev main_call11_call0_v0 : Ref sig .tc := ⟨.hbm, 566, rfl⟩
abbrev main_call11_call0_v1 : Ref sig .tc := ⟨.hbm, 567, rfl⟩
abbrev main_v398 : Ref sig .tc := ⟨.hbm, 568, rfl⟩
abbrev main_v399 : Ref sig .tc := ⟨.hbm, 569, rfl⟩
abbrev main_v400 : Ref sig .tc := ⟨.hbm, 570, rfl⟩
abbrev main_cst_32 : Ref sig .tc := ⟨.hbm, 571, rfl⟩
abbrev main_v401 : Ref sig .tc := ⟨.hbm, 572, rfl⟩
abbrev main_v402 : Ref sig .tc := ⟨.hbm, 573, rfl⟩
abbrev main_v403 : Ref sig .tc := ⟨.hbm, 574, rfl⟩
abbrev main_v404 : Ref sig .tc := ⟨.hbm, 575, rfl⟩
abbrev main_v405 : Ref sig .tc := ⟨.hbm, 576, rfl⟩
abbrev main_v406 : Ref sig .tc := ⟨.hbm, 577, rfl⟩
abbrev main_v407 : Ref sig .tc := ⟨.hbm, 578, rfl⟩
abbrev main_v408 : Ref sig .tc := ⟨.hbm, 579, rfl⟩
abbrev main_v409 : Ref sig .tc := ⟨.hbm, 580, rfl⟩
abbrev main_v410 : Ref sig .tc := ⟨.hbm, 581, rfl⟩
abbrev main_v411 : Ref sig .tc := ⟨.hbm, 582, rfl⟩
abbrev main_v412 : Ref sig .tc := ⟨.hbm, 583, rfl⟩
abbrev main_v413 : Ref sig .tc := ⟨.hbm, 584, rfl⟩
abbrev main_v414 : Ref sig .tc := ⟨.hbm, 585, rfl⟩
abbrev main_cst_33 : Ref sig .tc := ⟨.hbm, 586, rfl⟩
abbrev main_v415 : Ref sig .tc := ⟨.hbm, 587, rfl⟩
abbrev main_v416 : Ref sig .tc := ⟨.hbm, 588, rfl⟩
abbrev main_cst_34 : Ref sig .tc := ⟨.hbm, 589, rfl⟩
abbrev main_v417 : Ref sig .tc := ⟨.hbm, 590, rfl⟩
abbrev main_v418 : Ref sig .tc := ⟨.hbm, 591, rfl⟩
abbrev main_v419 : Ref sig .tc := ⟨.hbm, 592, rfl⟩
abbrev main_v420 : Ref sig .tc := ⟨.hbm, 593, rfl⟩
abbrev main_v421 : Ref sig .tc := ⟨.hbm, 594, rfl⟩
abbrev main_v422 : Ref sig .tc := ⟨.hbm, 595, rfl⟩
abbrev main_v423 : Ref sig .tc := ⟨.hbm, 596, rfl⟩
abbrev main_v424 : Ref sig .tc := ⟨.hbm, 597, rfl⟩
abbrev main_v425 : Ref sig .tc := ⟨.hbm, 598, rfl⟩
abbrev main_c_35 : Ref sig .tc := ⟨.hbm, 599, rfl⟩
abbrev main_call12_v0 : Ref sig .tc := ⟨.hbm, 600, rfl⟩
abbrev main_v426 : Ref sig .tc := ⟨.hbm, 601, rfl⟩
abbrev main_v427 : Ref sig .tc := ⟨.hbm, 602, rfl⟩
abbrev main_v428 : Ref sig .tc := ⟨.hbm, 603, rfl⟩
abbrev main_v429 : Ref sig .tc := ⟨.hbm, 604, rfl⟩
abbrev main_v430 : Ref sig .tc := ⟨.hbm, 605, rfl⟩
abbrev main_v431 : Ref sig .tc := ⟨.hbm, 606, rfl⟩
abbrev main_v432 : Ref sig .tc := ⟨.hbm, 607, rfl⟩
abbrev main_v433 : Ref sig .tc := ⟨.hbm, 608, rfl⟩
abbrev main_v434 : Ref sig .tc := ⟨.hbm, 609, rfl⟩
abbrev main_v435 : Ref sig .tc := ⟨.hbm, 610, rfl⟩
abbrev main_v436 : Ref sig .tc := ⟨.hbm, 611, rfl⟩
abbrev main_v437 : Ref sig .tc := ⟨.hbm, 612, rfl⟩
abbrev main_v438 : Ref sig .tc := ⟨.hbm, 613, rfl⟩
abbrev main_v439 : Ref sig .tc := ⟨.hbm, 614, rfl⟩
abbrev main_v440 : Ref sig .tc := ⟨.hbm, 615, rfl⟩
abbrev main_v441 : Ref sig .tc := ⟨.hbm, 616, rfl⟩
abbrev main_v442 : Ref sig .tc := ⟨.hbm, 617, rfl⟩
abbrev main_v443 : Ref sig .tc := ⟨.hbm, 618, rfl⟩
abbrev main_v444 : Ref sig .tc := ⟨.hbm, 619, rfl⟩
abbrev main_v445 : Ref sig .tc := ⟨.hbm, 620, rfl⟩
abbrev main_v446 : Ref sig .tc := ⟨.hbm, 621, rfl⟩
abbrev main_v447 : Ref sig .tc := ⟨.hbm, 622, rfl⟩
abbrev main_v448 : Ref sig .tc := ⟨.hbm, 623, rfl⟩
abbrev main_v449 : Ref sig .tc := ⟨.hbm, 624, rfl⟩
abbrev main_v450 : Ref sig .tc := ⟨.hbm, 625, rfl⟩
abbrev main_v451 : Ref sig .tc := ⟨.hbm, 626, rfl⟩
abbrev main_v452 : Ref sig .tc := ⟨.hbm, 627, rfl⟩
abbrev main_v453 : Ref sig .tc := ⟨.hbm, 628, rfl⟩
abbrev main_v454 : Ref sig .tc := ⟨.hbm, 629, rfl⟩
abbrev main_v455 : Ref sig .tc := ⟨.hbm, 630, rfl⟩
abbrev main_v456 : Ref sig .tc := ⟨.hbm, 631, rfl⟩
abbrev main_v457 : Ref sig .tc := ⟨.hbm, 632, rfl⟩
abbrev main_v458 : Ref sig .tc := ⟨.hbm, 633, rfl⟩
abbrev main_v459 : Ref sig .tc := ⟨.hbm, 634, rfl⟩
abbrev main_v460 : Ref sig .tc := ⟨.hbm, 635, rfl⟩
abbrev main_v461 : Ref sig .tc := ⟨.hbm, 636, rfl⟩
abbrev main_v462 : Ref sig .tc := ⟨.hbm, 637, rfl⟩
abbrev main_v463 : Ref sig .tc := ⟨.hbm, 638, rfl⟩
abbrev main_v464 : Ref sig .tc := ⟨.hbm, 639, rfl⟩
abbrev main_v465 : Ref sig .tc := ⟨.hbm, 640, rfl⟩
abbrev main_v466 : Ref sig .tc := ⟨.hbm, 641, rfl⟩
abbrev main_v467 : Ref sig .tc := ⟨.hbm, 642, rfl⟩
abbrev main_v468 : Ref sig .tc := ⟨.hbm, 643, rfl⟩
abbrev main_v469 : Ref sig .tc := ⟨.hbm, 644, rfl⟩
abbrev main_v470 : Ref sig .tc := ⟨.hbm, 645, rfl⟩
abbrev main_v471 : Ref sig .tc := ⟨.hbm, 646, rfl⟩
abbrev main_v472 : Ref sig .tc := ⟨.hbm, 647, rfl⟩
abbrev main_v473 : Ref sig .tc := ⟨.hbm, 648, rfl⟩
abbrev main_v474 : Ref sig .tc := ⟨.hbm, 649, rfl⟩
abbrev main_v475 : Ref sig .tc := ⟨.hbm, 650, rfl⟩
abbrev main_cst_36 : Ref sig .tc := ⟨.hbm, 651, rfl⟩
abbrev main_v476 : Ref sig .tc := ⟨.hbm, 652, rfl⟩
abbrev main_v477 : Ref sig .tc := ⟨.hbm, 653, rfl⟩
abbrev main_cst_37 : Ref sig .tc := ⟨.hbm, 654, rfl⟩
abbrev main_v478 : Ref sig .tc := ⟨.hbm, 655, rfl⟩
abbrev main_v479 : Ref sig .tc := ⟨.hbm, 656, rfl⟩
abbrev main_c_38 : Ref sig .tc := ⟨.hbm, 657, rfl⟩
abbrev main_call13_cst : Ref sig .tc := ⟨.hbm, 658, rfl⟩
abbrev main_call13_v0 : Ref sig .tc := ⟨.hbm, 659, rfl⟩
abbrev main_call13_v1 : Ref sig .tc := ⟨.hbm, 660, rfl⟩
abbrev main_call13_cst_0 : Ref sig .tc := ⟨.hbm, 661, rfl⟩
abbrev main_call13_v2 : Ref sig .tc := ⟨.hbm, 662, rfl⟩
abbrev main_call13_v3 : Ref sig .tc := ⟨.hbm, 663, rfl⟩
abbrev main_call13_v4 : Ref sig .tc := ⟨.hbm, 664, rfl⟩
abbrev main_call13_v5 : Ref sig .tc := ⟨.hbm, 665, rfl⟩
abbrev main_call13_v6 : Ref sig .tc := ⟨.hbm, 666, rfl⟩
abbrev main_call13_v7 : Ref sig .tc := ⟨.hbm, 667, rfl⟩
abbrev main_call13_cst_1 : Ref sig .tc := ⟨.hbm, 668, rfl⟩
abbrev main_call13_v8 : Ref sig .tc := ⟨.hbm, 669, rfl⟩
abbrev main_call13_cst_2 : Ref sig .tc := ⟨.hbm, 670, rfl⟩
abbrev main_call13_v9 : Ref sig .tc := ⟨.hbm, 671, rfl⟩
abbrev main_call13_v10 : Ref sig .tc := ⟨.hbm, 672, rfl⟩
abbrev main_call13_v11 : Ref sig .tc := ⟨.hbm, 673, rfl⟩
abbrev main_call13_v12 : Ref sig .tc := ⟨.hbm, 674, rfl⟩
abbrev main_call13_cst_3 : Ref sig .tc := ⟨.hbm, 675, rfl⟩
abbrev main_call13_v13 : Ref sig .tc := ⟨.hbm, 676, rfl⟩
abbrev main_call13_cst_4 : Ref sig .tc := ⟨.hbm, 677, rfl⟩
abbrev main_call13_call0_v0 : Ref sig .tc := ⟨.hbm, 678, rfl⟩
abbrev main_call13_call0_v1 : Ref sig .tc := ⟨.hbm, 679, rfl⟩
abbrev main_v480 : Ref sig .tc := ⟨.hbm, 680, rfl⟩
abbrev main_v481 : Ref sig .tc := ⟨.hbm, 681, rfl⟩
abbrev main_v482 : Ref sig .tc := ⟨.hbm, 682, rfl⟩
abbrev main_cst_39 : Ref sig .tc := ⟨.hbm, 683, rfl⟩
abbrev main_v483 : Ref sig .tc := ⟨.hbm, 684, rfl⟩
abbrev main_v484 : Ref sig .tc := ⟨.hbm, 685, rfl⟩
abbrev main_v485 : Ref sig .tc := ⟨.hbm, 686, rfl⟩
abbrev main_v486 : Ref sig .tc := ⟨.hbm, 687, rfl⟩
abbrev main_v487 : Ref sig .tc := ⟨.hbm, 688, rfl⟩
abbrev main_v488 : Ref sig .tc := ⟨.hbm, 689, rfl⟩
abbrev main_v489 : Ref sig .tc := ⟨.hbm, 690, rfl⟩
abbrev main_v490 : Ref sig .tc := ⟨.hbm, 691, rfl⟩
abbrev main_v491 : Ref sig .tc := ⟨.hbm, 692, rfl⟩
abbrev main_v492 : Ref sig .tc := ⟨.hbm, 693, rfl⟩
abbrev main_v493 : Ref sig .tc := ⟨.hbm, 694, rfl⟩
abbrev main_v494 : Ref sig .tc := ⟨.hbm, 695, rfl⟩
abbrev main_v495 : Ref sig .tc := ⟨.hbm, 696, rfl⟩
abbrev main_v496 : Ref sig .tc := ⟨.hbm, 697, rfl⟩
abbrev main_cst_40 : Ref sig .tc := ⟨.hbm, 698, rfl⟩
abbrev main_v497 : Ref sig .tc := ⟨.hbm, 699, rfl⟩
abbrev main_v498 : Ref sig .tc := ⟨.hbm, 700, rfl⟩
abbrev main_cst_41 : Ref sig .tc := ⟨.hbm, 701, rfl⟩
abbrev main_v499 : Ref sig .tc := ⟨.hbm, 702, rfl⟩
abbrev main_v500 : Ref sig .tc := ⟨.hbm, 703, rfl⟩
abbrev main_v501 : Ref sig .tc := ⟨.hbm, 704, rfl⟩
abbrev main_v502 : Ref sig .tc := ⟨.hbm, 705, rfl⟩
abbrev main_v503 : Ref sig .tc := ⟨.hbm, 706, rfl⟩
abbrev main_v504 : Ref sig .tc := ⟨.hbm, 707, rfl⟩
abbrev main_v505 : Ref sig .tc := ⟨.hbm, 708, rfl⟩
abbrev main_v506 : Ref sig .tc := ⟨.hbm, 709, rfl⟩
abbrev main_v507 : Ref sig .tc := ⟨.hbm, 710, rfl⟩
abbrev main_v508 : Ref sig .tc := ⟨.hbm, 711, rfl⟩
abbrev main_v509 : Ref sig .tc := ⟨.hbm, 712, rfl⟩
abbrev main_cst_42 : Ref sig .tc := ⟨.hbm, 713, rfl⟩
abbrev main_v510 : Ref sig .tc := ⟨.hbm, 714, rfl⟩
abbrev main_v511 : Ref sig .tc := ⟨.hbm, 715, rfl⟩
abbrev main_call14_cst : Ref sig .tc := ⟨.hbm, 716, rfl⟩
abbrev main_call14_v0 : Ref sig .tc := ⟨.hbm, 717, rfl⟩
abbrev main_v512 : Ref sig .tc := ⟨.hbm, 718, rfl⟩
abbrev main_v513 : Ref sig .tc := ⟨.hbm, 719, rfl⟩
abbrev main_v514 : Ref sig .tc := ⟨.hbm, 720, rfl⟩
abbrev main_v515 : Ref sig .tc := ⟨.hbm, 721, rfl⟩
abbrev main_c_43 : Ref sig .tc := ⟨.hbm, 722, rfl⟩
abbrev main_call15_v0 : Ref sig .tc := ⟨.hbm, 723, rfl⟩
abbrev main_v516 : Ref sig .tc := ⟨.hbm, 724, rfl⟩
abbrev main_v517 : Ref sig .tc := ⟨.hbm, 725, rfl⟩
abbrev main_v518 : Ref sig .tc := ⟨.hbm, 726, rfl⟩
abbrev main_v519 : Ref sig .tc := ⟨.hbm, 727, rfl⟩
abbrev main_v520 : Ref sig .tc := ⟨.hbm, 728, rfl⟩
abbrev main_v521 : Ref sig .tc := ⟨.hbm, 729, rfl⟩
abbrev main_v522 : Ref sig .tc := ⟨.hbm, 730, rfl⟩
abbrev main_v523 : Ref sig .tc := ⟨.hbm, 731, rfl⟩
abbrev main_v524 : Ref sig .tc := ⟨.hbm, 732, rfl⟩
abbrev main_v525 : Ref sig .tc := ⟨.hbm, 733, rfl⟩
abbrev main_v526 : Ref sig .tc := ⟨.hbm, 734, rfl⟩
abbrev main_v527 : Ref sig .tc := ⟨.hbm, 735, rfl⟩
abbrev main_v528 : Ref sig .tc := ⟨.hbm, 736, rfl⟩
abbrev main_v529 : Ref sig .tc := ⟨.hbm, 737, rfl⟩
abbrev main_v530 : Ref sig .tc := ⟨.hbm, 738, rfl⟩
abbrev main_v531 : Ref sig .tc := ⟨.hbm, 739, rfl⟩
abbrev main_v532 : Ref sig .tc := ⟨.hbm, 740, rfl⟩
abbrev main_v533 : Ref sig .tc := ⟨.hbm, 741, rfl⟩
abbrev main_v534 : Ref sig .tc := ⟨.hbm, 742, rfl⟩
abbrev main_v535 : Ref sig .tc := ⟨.hbm, 743, rfl⟩
abbrev main_v536 : Ref sig .tc := ⟨.hbm, 744, rfl⟩
abbrev main_v537 : Ref sig .tc := ⟨.hbm, 745, rfl⟩
abbrev main_v538 : Ref sig .tc := ⟨.hbm, 746, rfl⟩
abbrev main_v539 : Ref sig .tc := ⟨.hbm, 747, rfl⟩
abbrev main_v540 : Ref sig .tc := ⟨.hbm, 748, rfl⟩
abbrev main_v541 : Ref sig .tc := ⟨.hbm, 749, rfl⟩
abbrev main_v542 : Ref sig .tc := ⟨.hbm, 750, rfl⟩
abbrev main_v543 : Ref sig .tc := ⟨.hbm, 751, rfl⟩
abbrev main_v544 : Ref sig .tc := ⟨.hbm, 752, rfl⟩
abbrev main_v545 : Ref sig .tc := ⟨.hbm, 753, rfl⟩
abbrev main_v546 : Ref sig .tc := ⟨.hbm, 754, rfl⟩
abbrev main_v547 : Ref sig .tc := ⟨.hbm, 755, rfl⟩
abbrev main_v548 : Ref sig .tc := ⟨.hbm, 756, rfl⟩
abbrev main_v549 : Ref sig .tc := ⟨.hbm, 757, rfl⟩
abbrev main_v550 : Ref sig .tc := ⟨.hbm, 758, rfl⟩
abbrev main_v551 : Ref sig .tc := ⟨.hbm, 759, rfl⟩
abbrev main_v552 : Ref sig .tc := ⟨.hbm, 760, rfl⟩
abbrev main_v553 : Ref sig .tc := ⟨.hbm, 761, rfl⟩
abbrev main_v554 : Ref sig .tc := ⟨.hbm, 762, rfl⟩
abbrev main_v555 : Ref sig .tc := ⟨.hbm, 763, rfl⟩
abbrev main_v556 : Ref sig .tc := ⟨.hbm, 764, rfl⟩
abbrev main_v557 : Ref sig .tc := ⟨.hbm, 765, rfl⟩
abbrev main_v558 : Ref sig .tc := ⟨.hbm, 766, rfl⟩
abbrev main_v559 : Ref sig .tc := ⟨.hbm, 767, rfl⟩
abbrev main_v560 : Ref sig .tc := ⟨.hbm, 768, rfl⟩
abbrev main_v561 : Ref sig .tc := ⟨.hbm, 769, rfl⟩
abbrev main_v562 : Ref sig .tc := ⟨.hbm, 770, rfl⟩
abbrev main_v563 : Ref sig .tc := ⟨.hbm, 771, rfl⟩
abbrev main_v564 : Ref sig .tc := ⟨.hbm, 772, rfl⟩
abbrev main_v565 : Ref sig .tc := ⟨.hbm, 773, rfl⟩
abbrev main_cst_44 : Ref sig .tc := ⟨.hbm, 774, rfl⟩
abbrev main_v566 : Ref sig .tc := ⟨.hbm, 775, rfl⟩
abbrev main_v567 : Ref sig .tc := ⟨.hbm, 776, rfl⟩
abbrev main_cst_45 : Ref sig .tc := ⟨.hbm, 777, rfl⟩
abbrev main_v568 : Ref sig .tc := ⟨.hbm, 778, rfl⟩
abbrev main_v569 : Ref sig .tc := ⟨.hbm, 779, rfl⟩
abbrev main_c_46 : Ref sig .tc := ⟨.hbm, 780, rfl⟩
abbrev main_call16_cst : Ref sig .tc := ⟨.hbm, 781, rfl⟩
abbrev main_call16_v0 : Ref sig .tc := ⟨.hbm, 782, rfl⟩
abbrev main_call16_v1 : Ref sig .tc := ⟨.hbm, 783, rfl⟩
abbrev main_call16_cst_0 : Ref sig .tc := ⟨.hbm, 784, rfl⟩
abbrev main_call16_v2 : Ref sig .tc := ⟨.hbm, 785, rfl⟩
abbrev main_call16_v3 : Ref sig .tc := ⟨.hbm, 786, rfl⟩
abbrev main_call16_v4 : Ref sig .tc := ⟨.hbm, 787, rfl⟩
abbrev main_call16_v5 : Ref sig .tc := ⟨.hbm, 788, rfl⟩
abbrev main_call16_v6 : Ref sig .tc := ⟨.hbm, 789, rfl⟩
abbrev main_call16_v7 : Ref sig .tc := ⟨.hbm, 790, rfl⟩
abbrev main_call16_cst_1 : Ref sig .tc := ⟨.hbm, 791, rfl⟩
abbrev main_call16_v8 : Ref sig .tc := ⟨.hbm, 792, rfl⟩
abbrev main_call16_cst_2 : Ref sig .tc := ⟨.hbm, 793, rfl⟩
abbrev main_call16_v9 : Ref sig .tc := ⟨.hbm, 794, rfl⟩
abbrev main_call16_v10 : Ref sig .tc := ⟨.hbm, 795, rfl⟩
abbrev main_call16_v11 : Ref sig .tc := ⟨.hbm, 796, rfl⟩
abbrev main_call16_v12 : Ref sig .tc := ⟨.hbm, 797, rfl⟩
abbrev main_call16_cst_3 : Ref sig .tc := ⟨.hbm, 798, rfl⟩
abbrev main_call16_v13 : Ref sig .tc := ⟨.hbm, 799, rfl⟩
abbrev main_call16_cst_4 : Ref sig .tc := ⟨.hbm, 800, rfl⟩
abbrev main_call16_call0_v0 : Ref sig .tc := ⟨.hbm, 801, rfl⟩
abbrev main_call16_call0_v1 : Ref sig .tc := ⟨.hbm, 802, rfl⟩
abbrev main_v570 : Ref sig .tc := ⟨.hbm, 803, rfl⟩
abbrev main_v571 : Ref sig .tc := ⟨.hbm, 804, rfl⟩
abbrev main_v572 : Ref sig .tc := ⟨.hbm, 805, rfl⟩
abbrev main_cst_47 : Ref sig .tc := ⟨.hbm, 806, rfl⟩
abbrev main_v573 : Ref sig .tc := ⟨.hbm, 807, rfl⟩
abbrev main_v574 : Ref sig .tc := ⟨.hbm, 808, rfl⟩
abbrev main_v575 : Ref sig .tc := ⟨.hbm, 809, rfl⟩
abbrev main_v576 : Ref sig .tc := ⟨.hbm, 810, rfl⟩
abbrev main_v577 : Ref sig .tc := ⟨.hbm, 811, rfl⟩
abbrev main_v578 : Ref sig .tc := ⟨.hbm, 812, rfl⟩
abbrev main_v579 : Ref sig .tc := ⟨.hbm, 813, rfl⟩
abbrev main_v580 : Ref sig .tc := ⟨.hbm, 814, rfl⟩
abbrev main_v581 : Ref sig .tc := ⟨.hbm, 815, rfl⟩
abbrev main_v582 : Ref sig .tc := ⟨.hbm, 816, rfl⟩
abbrev main_v583 : Ref sig .tc := ⟨.hbm, 817, rfl⟩
abbrev main_v584 : Ref sig .tc := ⟨.hbm, 818, rfl⟩
abbrev main_v585 : Ref sig .tc := ⟨.hbm, 819, rfl⟩
abbrev main_v586 : Ref sig .tc := ⟨.hbm, 820, rfl⟩
abbrev main_cst_48 : Ref sig .tc := ⟨.hbm, 821, rfl⟩
abbrev main_v587 : Ref sig .tc := ⟨.hbm, 822, rfl⟩
abbrev main_v588 : Ref sig .tc := ⟨.hbm, 823, rfl⟩
abbrev main_cst_49 : Ref sig .tc := ⟨.hbm, 824, rfl⟩
abbrev main_v589 : Ref sig .tc := ⟨.hbm, 825, rfl⟩
abbrev main_v590 : Ref sig .tc := ⟨.hbm, 826, rfl⟩
abbrev main_v591 : Ref sig .tc := ⟨.hbm, 827, rfl⟩
abbrev main_v592 : Ref sig .tc := ⟨.hbm, 828, rfl⟩
abbrev main_v593 : Ref sig .tc := ⟨.hbm, 829, rfl⟩
abbrev main_v594 : Ref sig .tc := ⟨.hbm, 830, rfl⟩
abbrev main_v595 : Ref sig .tc := ⟨.hbm, 831, rfl⟩
abbrev main_v596 : Ref sig .tc := ⟨.hbm, 832, rfl⟩
abbrev main_v597 : Ref sig .tc := ⟨.hbm, 833, rfl⟩
abbrev main_c_50 : Ref sig .tc := ⟨.hbm, 834, rfl⟩
abbrev main_call17_v0 : Ref sig .tc := ⟨.hbm, 835, rfl⟩
abbrev main_v598 : Ref sig .tc := ⟨.hbm, 836, rfl⟩
abbrev main_v599 : Ref sig .tc := ⟨.hbm, 837, rfl⟩
abbrev main_v600 : Ref sig .tc := ⟨.hbm, 838, rfl⟩
abbrev main_v601 : Ref sig .tc := ⟨.hbm, 839, rfl⟩
abbrev main_v602 : Ref sig .tc := ⟨.hbm, 840, rfl⟩
abbrev main_v603 : Ref sig .tc := ⟨.hbm, 841, rfl⟩
abbrev main_v604 : Ref sig .tc := ⟨.hbm, 842, rfl⟩
abbrev main_v605 : Ref sig .tc := ⟨.hbm, 843, rfl⟩
abbrev main_v606 : Ref sig .tc := ⟨.hbm, 844, rfl⟩
abbrev main_v607 : Ref sig .tc := ⟨.hbm, 845, rfl⟩
abbrev main_v608 : Ref sig .tc := ⟨.hbm, 846, rfl⟩
abbrev main_v609 : Ref sig .tc := ⟨.hbm, 847, rfl⟩
abbrev main_v610 : Ref sig .tc := ⟨.hbm, 848, rfl⟩
abbrev main_v611 : Ref sig .tc := ⟨.hbm, 849, rfl⟩
abbrev main_v612 : Ref sig .tc := ⟨.hbm, 850, rfl⟩
abbrev main_v613 : Ref sig .tc := ⟨.hbm, 851, rfl⟩
abbrev main_v614 : Ref sig .tc := ⟨.hbm, 852, rfl⟩
abbrev main_v615 : Ref sig .tc := ⟨.hbm, 853, rfl⟩
abbrev main_v616 : Ref sig .tc := ⟨.hbm, 854, rfl⟩
abbrev main_v617 : Ref sig .tc := ⟨.hbm, 855, rfl⟩
abbrev main_v618 : Ref sig .tc := ⟨.hbm, 856, rfl⟩
abbrev main_v619 : Ref sig .tc := ⟨.hbm, 857, rfl⟩
abbrev main_v620 : Ref sig .tc := ⟨.hbm, 858, rfl⟩
abbrev main_v621 : Ref sig .tc := ⟨.hbm, 859, rfl⟩
abbrev main_v622 : Ref sig .tc := ⟨.hbm, 860, rfl⟩
abbrev main_v623 : Ref sig .tc := ⟨.hbm, 861, rfl⟩
abbrev main_v624 : Ref sig .tc := ⟨.hbm, 862, rfl⟩
abbrev main_v625 : Ref sig .tc := ⟨.hbm, 863, rfl⟩
abbrev main_v626 : Ref sig .tc := ⟨.hbm, 864, rfl⟩
abbrev main_v627 : Ref sig .tc := ⟨.hbm, 865, rfl⟩
abbrev main_v628 : Ref sig .tc := ⟨.hbm, 866, rfl⟩
abbrev main_v629 : Ref sig .tc := ⟨.hbm, 867, rfl⟩
abbrev main_v630 : Ref sig .tc := ⟨.hbm, 868, rfl⟩
abbrev main_v631 : Ref sig .tc := ⟨.hbm, 869, rfl⟩
abbrev main_v632 : Ref sig .tc := ⟨.hbm, 870, rfl⟩
abbrev main_v633 : Ref sig .tc := ⟨.hbm, 871, rfl⟩
abbrev main_v634 : Ref sig .tc := ⟨.hbm, 872, rfl⟩
abbrev main_v635 : Ref sig .tc := ⟨.hbm, 873, rfl⟩
abbrev main_v636 : Ref sig .tc := ⟨.hbm, 874, rfl⟩
abbrev main_v637 : Ref sig .tc := ⟨.hbm, 875, rfl⟩
abbrev main_v638 : Ref sig .tc := ⟨.hbm, 876, rfl⟩
abbrev main_v639 : Ref sig .tc := ⟨.hbm, 877, rfl⟩
abbrev main_v640 : Ref sig .tc := ⟨.hbm, 878, rfl⟩
abbrev main_v641 : Ref sig .tc := ⟨.hbm, 879, rfl⟩
abbrev main_v642 : Ref sig .tc := ⟨.hbm, 880, rfl⟩
abbrev main_v643 : Ref sig .tc := ⟨.hbm, 881, rfl⟩
abbrev main_v644 : Ref sig .tc := ⟨.hbm, 882, rfl⟩
abbrev main_v645 : Ref sig .tc := ⟨.hbm, 883, rfl⟩
abbrev main_v646 : Ref sig .tc := ⟨.hbm, 884, rfl⟩
abbrev main_v647 : Ref sig .tc := ⟨.hbm, 885, rfl⟩
abbrev main_cst_51 : Ref sig .tc := ⟨.hbm, 886, rfl⟩
abbrev main_v648 : Ref sig .tc := ⟨.hbm, 887, rfl⟩
abbrev main_v649 : Ref sig .tc := ⟨.hbm, 888, rfl⟩
abbrev main_cst_52 : Ref sig .tc := ⟨.hbm, 889, rfl⟩
abbrev main_v650 : Ref sig .tc := ⟨.hbm, 890, rfl⟩
abbrev main_v651 : Ref sig .tc := ⟨.hbm, 891, rfl⟩
abbrev main_c_53 : Ref sig .tc := ⟨.hbm, 892, rfl⟩
abbrev main_call18_cst : Ref sig .tc := ⟨.hbm, 893, rfl⟩
abbrev main_call18_v0 : Ref sig .tc := ⟨.hbm, 894, rfl⟩
abbrev main_call18_v1 : Ref sig .tc := ⟨.hbm, 895, rfl⟩
abbrev main_call18_cst_0 : Ref sig .tc := ⟨.hbm, 896, rfl⟩
abbrev main_call18_v2 : Ref sig .tc := ⟨.hbm, 897, rfl⟩
abbrev main_call18_v3 : Ref sig .tc := ⟨.hbm, 898, rfl⟩
abbrev main_call18_v4 : Ref sig .tc := ⟨.hbm, 899, rfl⟩
abbrev main_call18_v5 : Ref sig .tc := ⟨.hbm, 900, rfl⟩
abbrev main_call18_v6 : Ref sig .tc := ⟨.hbm, 901, rfl⟩
abbrev main_call18_v7 : Ref sig .tc := ⟨.hbm, 902, rfl⟩
abbrev main_call18_cst_1 : Ref sig .tc := ⟨.hbm, 903, rfl⟩
abbrev main_call18_v8 : Ref sig .tc := ⟨.hbm, 904, rfl⟩
abbrev main_call18_cst_2 : Ref sig .tc := ⟨.hbm, 905, rfl⟩
abbrev main_call18_v9 : Ref sig .tc := ⟨.hbm, 906, rfl⟩
abbrev main_call18_v10 : Ref sig .tc := ⟨.hbm, 907, rfl⟩
abbrev main_call18_v11 : Ref sig .tc := ⟨.hbm, 908, rfl⟩
abbrev main_call18_v12 : Ref sig .tc := ⟨.hbm, 909, rfl⟩
abbrev main_call18_cst_3 : Ref sig .tc := ⟨.hbm, 910, rfl⟩
abbrev main_call18_v13 : Ref sig .tc := ⟨.hbm, 911, rfl⟩
abbrev main_call18_cst_4 : Ref sig .tc := ⟨.hbm, 912, rfl⟩
abbrev main_call18_call0_v0 : Ref sig .tc := ⟨.hbm, 913, rfl⟩
abbrev main_call18_call0_v1 : Ref sig .tc := ⟨.hbm, 914, rfl⟩
abbrev main_v652 : Ref sig .tc := ⟨.hbm, 915, rfl⟩
abbrev main_v653 : Ref sig .tc := ⟨.hbm, 916, rfl⟩
abbrev main_v654 : Ref sig .tc := ⟨.hbm, 917, rfl⟩
abbrev main_cst_54 : Ref sig .tc := ⟨.hbm, 918, rfl⟩
abbrev main_v655 : Ref sig .tc := ⟨.hbm, 919, rfl⟩
abbrev main_v656 : Ref sig .tc := ⟨.hbm, 920, rfl⟩
abbrev main_v657 : Ref sig .tc := ⟨.hbm, 921, rfl⟩
abbrev main_v658 : Ref sig .tc := ⟨.hbm, 922, rfl⟩
abbrev main_v659 : Ref sig .tc := ⟨.hbm, 923, rfl⟩
abbrev main_v660 : Ref sig .tc := ⟨.hbm, 924, rfl⟩
abbrev main_v661 : Ref sig .tc := ⟨.hbm, 925, rfl⟩
abbrev main_v662 : Ref sig .tc := ⟨.hbm, 926, rfl⟩
abbrev main_v663 : Ref sig .tc := ⟨.hbm, 927, rfl⟩
abbrev main_v664 : Ref sig .tc := ⟨.hbm, 928, rfl⟩
abbrev main_v665 : Ref sig .tc := ⟨.hbm, 929, rfl⟩
abbrev main_v666 : Ref sig .tc := ⟨.hbm, 930, rfl⟩
abbrev main_v667 : Ref sig .tc := ⟨.hbm, 931, rfl⟩
abbrev main_v668 : Ref sig .tc := ⟨.hbm, 932, rfl⟩
abbrev main_cst_55 : Ref sig .tc := ⟨.hbm, 933, rfl⟩
abbrev main_v669 : Ref sig .tc := ⟨.hbm, 934, rfl⟩
abbrev main_v670 : Ref sig .tc := ⟨.hbm, 935, rfl⟩
abbrev main_cst_56 : Ref sig .tc := ⟨.hbm, 936, rfl⟩
abbrev main_v671 : Ref sig .tc := ⟨.hbm, 937, rfl⟩
abbrev main_v672 : Ref sig .tc := ⟨.hbm, 938, rfl⟩
abbrev main_v673 : Ref sig .tc := ⟨.hbm, 939, rfl⟩
abbrev main_v674 : Ref sig .tc := ⟨.hbm, 940, rfl⟩
abbrev main_v675 : Ref sig .tc := ⟨.hbm, 941, rfl⟩
abbrev main_v676 : Ref sig .tc := ⟨.hbm, 942, rfl⟩
abbrev main_v677 : Ref sig .tc := ⟨.hbm, 943, rfl⟩
abbrev main_v678 : Ref sig .tc := ⟨.hbm, 944, rfl⟩
abbrev main_v679 : Ref sig .tc := ⟨.hbm, 945, rfl⟩
abbrev main_v680 : Ref sig .tc := ⟨.hbm, 946, rfl⟩
abbrev main_v681 : Ref sig .tc := ⟨.hbm, 947, rfl⟩
abbrev main_cst_57 : Ref sig .tc := ⟨.hbm, 948, rfl⟩
abbrev main_v682 : Ref sig .tc := ⟨.hbm, 949, rfl⟩
abbrev main_v683 : Ref sig .tc := ⟨.hbm, 950, rfl⟩
abbrev main_call19_cst : Ref sig .tc := ⟨.hbm, 951, rfl⟩
abbrev main_call19_v0 : Ref sig .tc := ⟨.hbm, 952, rfl⟩
abbrev main_v684 : Ref sig .tc := ⟨.hbm, 953, rfl⟩
abbrev main_v685 : Ref sig .tc := ⟨.hbm, 954, rfl⟩
abbrev main_v686 : Ref sig .tc := ⟨.hbm, 955, rfl⟩
abbrev main_v687 : Ref sig .tc := ⟨.hbm, 956, rfl⟩
abbrev main_c_58 : Ref sig .tc := ⟨.hbm, 957, rfl⟩
abbrev main_call20_v0 : Ref sig .tc := ⟨.hbm, 958, rfl⟩
abbrev main_v688 : Ref sig .tc := ⟨.hbm, 959, rfl⟩
abbrev main_v689 : Ref sig .tc := ⟨.hbm, 960, rfl⟩
abbrev main_v690 : Ref sig .tc := ⟨.hbm, 961, rfl⟩
abbrev main_v691 : Ref sig .tc := ⟨.hbm, 962, rfl⟩
abbrev main_v692 : Ref sig .tc := ⟨.hbm, 963, rfl⟩
abbrev main_v693 : Ref sig .tc := ⟨.hbm, 964, rfl⟩
abbrev main_v694 : Ref sig .tc := ⟨.hbm, 965, rfl⟩
abbrev main_v695 : Ref sig .tc := ⟨.hbm, 966, rfl⟩
abbrev main_v696 : Ref sig .tc := ⟨.hbm, 967, rfl⟩
abbrev main_v697 : Ref sig .tc := ⟨.hbm, 968, rfl⟩
abbrev main_v698 : Ref sig .tc := ⟨.hbm, 969, rfl⟩
abbrev main_v699 : Ref sig .tc := ⟨.hbm, 970, rfl⟩
abbrev main_v700 : Ref sig .tc := ⟨.hbm, 971, rfl⟩
abbrev main_v701 : Ref sig .tc := ⟨.hbm, 972, rfl⟩
abbrev main_v702 : Ref sig .tc := ⟨.hbm, 973, rfl⟩
abbrev main_v703 : Ref sig .tc := ⟨.hbm, 974, rfl⟩
abbrev main_v704 : Ref sig .tc := ⟨.hbm, 975, rfl⟩
abbrev main_v705 : Ref sig .tc := ⟨.hbm, 976, rfl⟩
abbrev main_v706 : Ref sig .tc := ⟨.hbm, 977, rfl⟩
abbrev main_v707 : Ref sig .tc := ⟨.hbm, 978, rfl⟩
abbrev main_v708 : Ref sig .tc := ⟨.hbm, 979, rfl⟩
abbrev main_v709 : Ref sig .tc := ⟨.hbm, 980, rfl⟩
abbrev main_v710 : Ref sig .tc := ⟨.hbm, 981, rfl⟩
abbrev main_v711 : Ref sig .tc := ⟨.hbm, 982, rfl⟩
abbrev main_v712 : Ref sig .tc := ⟨.hbm, 983, rfl⟩
abbrev main_v713 : Ref sig .tc := ⟨.hbm, 984, rfl⟩
abbrev main_v714 : Ref sig .tc := ⟨.hbm, 985, rfl⟩
abbrev main_v715 : Ref sig .tc := ⟨.hbm, 986, rfl⟩
abbrev main_v716 : Ref sig .tc := ⟨.hbm, 987, rfl⟩
abbrev main_v717 : Ref sig .tc := ⟨.hbm, 988, rfl⟩
abbrev main_v718 : Ref sig .tc := ⟨.hbm, 989, rfl⟩
abbrev main_v719 : Ref sig .tc := ⟨.hbm, 990, rfl⟩
abbrev main_v720 : Ref sig .tc := ⟨.hbm, 991, rfl⟩
abbrev main_v721 : Ref sig .tc := ⟨.hbm, 992, rfl⟩
abbrev main_v722 : Ref sig .tc := ⟨.hbm, 993, rfl⟩
abbrev main_v723 : Ref sig .tc := ⟨.hbm, 994, rfl⟩
abbrev main_v724 : Ref sig .tc := ⟨.hbm, 995, rfl⟩
abbrev main_v725 : Ref sig .tc := ⟨.hbm, 996, rfl⟩
abbrev main_v726 : Ref sig .tc := ⟨.hbm, 997, rfl⟩
abbrev main_v727 : Ref sig .tc := ⟨.hbm, 998, rfl⟩
abbrev main_v728 : Ref sig .tc := ⟨.hbm, 999, rfl⟩
abbrev main_v729 : Ref sig .tc := ⟨.hbm, 1000, rfl⟩
abbrev main_v730 : Ref sig .tc := ⟨.hbm, 1001, rfl⟩
abbrev main_v731 : Ref sig .tc := ⟨.hbm, 1002, rfl⟩
abbrev main_v732 : Ref sig .tc := ⟨.hbm, 1003, rfl⟩
abbrev main_v733 : Ref sig .tc := ⟨.hbm, 1004, rfl⟩
abbrev main_v734 : Ref sig .tc := ⟨.hbm, 1005, rfl⟩
abbrev main_v735 : Ref sig .tc := ⟨.hbm, 1006, rfl⟩
abbrev main_v736 : Ref sig .tc := ⟨.hbm, 1007, rfl⟩
abbrev main_v737 : Ref sig .tc := ⟨.hbm, 1008, rfl⟩
abbrev main_cst_59 : Ref sig .tc := ⟨.hbm, 1009, rfl⟩
abbrev main_v738 : Ref sig .tc := ⟨.hbm, 1010, rfl⟩
abbrev main_v739 : Ref sig .tc := ⟨.hbm, 1011, rfl⟩
abbrev main_cst_60 : Ref sig .tc := ⟨.hbm, 1012, rfl⟩
abbrev main_v740 : Ref sig .tc := ⟨.hbm, 1013, rfl⟩
abbrev main_v741 : Ref sig .tc := ⟨.hbm, 1014, rfl⟩
abbrev main_c_61 : Ref sig .tc := ⟨.hbm, 1015, rfl⟩
abbrev main_call21_cst : Ref sig .tc := ⟨.hbm, 1016, rfl⟩
abbrev main_call21_v0 : Ref sig .tc := ⟨.hbm, 1017, rfl⟩
abbrev main_call21_v1 : Ref sig .tc := ⟨.hbm, 1018, rfl⟩
abbrev main_call21_cst_0 : Ref sig .tc := ⟨.hbm, 1019, rfl⟩
abbrev main_call21_v2 : Ref sig .tc := ⟨.hbm, 1020, rfl⟩
abbrev main_call21_v3 : Ref sig .tc := ⟨.hbm, 1021, rfl⟩
abbrev main_call21_v4 : Ref sig .tc := ⟨.hbm, 1022, rfl⟩
abbrev main_call21_v5 : Ref sig .tc := ⟨.hbm, 1023, rfl⟩
abbrev main_call21_v6 : Ref sig .tc := ⟨.hbm, 1024, rfl⟩
abbrev main_call21_v7 : Ref sig .tc := ⟨.hbm, 1025, rfl⟩
abbrev main_call21_cst_1 : Ref sig .tc := ⟨.hbm, 1026, rfl⟩
abbrev main_call21_v8 : Ref sig .tc := ⟨.hbm, 1027, rfl⟩
abbrev main_call21_cst_2 : Ref sig .tc := ⟨.hbm, 1028, rfl⟩
abbrev main_call21_v9 : Ref sig .tc := ⟨.hbm, 1029, rfl⟩
abbrev main_call21_v10 : Ref sig .tc := ⟨.hbm, 1030, rfl⟩
abbrev main_call21_v11 : Ref sig .tc := ⟨.hbm, 1031, rfl⟩
abbrev main_call21_v12 : Ref sig .tc := ⟨.hbm, 1032, rfl⟩
abbrev main_call21_cst_3 : Ref sig .tc := ⟨.hbm, 1033, rfl⟩
abbrev main_call21_v13 : Ref sig .tc := ⟨.hbm, 1034, rfl⟩
abbrev main_call21_cst_4 : Ref sig .tc := ⟨.hbm, 1035, rfl⟩
abbrev main_call21_call0_v0 : Ref sig .tc := ⟨.hbm, 1036, rfl⟩
abbrev main_call21_call0_v1 : Ref sig .tc := ⟨.hbm, 1037, rfl⟩
abbrev main_v742 : Ref sig .tc := ⟨.hbm, 1038, rfl⟩
abbrev main_v743 : Ref sig .tc := ⟨.hbm, 1039, rfl⟩
abbrev main_v744 : Ref sig .tc := ⟨.hbm, 1040, rfl⟩
abbrev main_cst_62 : Ref sig .tc := ⟨.hbm, 1041, rfl⟩
abbrev main_v745 : Ref sig .tc := ⟨.hbm, 1042, rfl⟩
abbrev main_v746 : Ref sig .tc := ⟨.hbm, 1043, rfl⟩
abbrev main_v747 : Ref sig .tc := ⟨.hbm, 1044, rfl⟩
abbrev main_v748 : Ref sig .tc := ⟨.hbm, 1045, rfl⟩
abbrev main_v749 : Ref sig .tc := ⟨.hbm, 1046, rfl⟩
abbrev main_v750 : Ref sig .tc := ⟨.hbm, 1047, rfl⟩
abbrev main_v751 : Ref sig .tc := ⟨.hbm, 1048, rfl⟩
abbrev main_v752 : Ref sig .tc := ⟨.hbm, 1049, rfl⟩
abbrev main_v753 : Ref sig .tc := ⟨.hbm, 1050, rfl⟩
abbrev main_v754 : Ref sig .tc := ⟨.hbm, 1051, rfl⟩
abbrev main_v755 : Ref sig .tc := ⟨.hbm, 1052, rfl⟩
abbrev main_v756 : Ref sig .tc := ⟨.hbm, 1053, rfl⟩
abbrev main_v757 : Ref sig .tc := ⟨.hbm, 1054, rfl⟩
abbrev main_v758 : Ref sig .tc := ⟨.hbm, 1055, rfl⟩
abbrev main_cst_63 : Ref sig .tc := ⟨.hbm, 1056, rfl⟩
abbrev main_v759 : Ref sig .tc := ⟨.hbm, 1057, rfl⟩
abbrev main_v760 : Ref sig .tc := ⟨.hbm, 1058, rfl⟩
abbrev main_cst_64 : Ref sig .tc := ⟨.hbm, 1059, rfl⟩
abbrev main_v761 : Ref sig .tc := ⟨.hbm, 1060, rfl⟩
abbrev main_v762 : Ref sig .tc := ⟨.hbm, 1061, rfl⟩
abbrev main_v763 : Ref sig .tc := ⟨.hbm, 1062, rfl⟩
abbrev main_v764 : Ref sig .tc := ⟨.hbm, 1063, rfl⟩
abbrev main_v765 : Ref sig .tc := ⟨.hbm, 1064, rfl⟩
abbrev main_v766 : Ref sig .tc := ⟨.hbm, 1065, rfl⟩
abbrev main_v767 : Ref sig .tc := ⟨.hbm, 1066, rfl⟩
abbrev main_v768 : Ref sig .tc := ⟨.hbm, 1067, rfl⟩
abbrev main_v769 : Ref sig .tc := ⟨.hbm, 1068, rfl⟩
abbrev main_c_65 : Ref sig .tc := ⟨.hbm, 1069, rfl⟩
abbrev main_call22_v0 : Ref sig .tc := ⟨.hbm, 1070, rfl⟩
abbrev main_v770 : Ref sig .tc := ⟨.hbm, 1071, rfl⟩
abbrev main_v771 : Ref sig .tc := ⟨.hbm, 1072, rfl⟩
abbrev main_v772 : Ref sig .tc := ⟨.hbm, 1073, rfl⟩
abbrev main_v773 : Ref sig .tc := ⟨.hbm, 1074, rfl⟩
abbrev main_v774 : Ref sig .tc := ⟨.hbm, 1075, rfl⟩
abbrev main_v775 : Ref sig .tc := ⟨.hbm, 1076, rfl⟩
abbrev main_v776 : Ref sig .tc := ⟨.hbm, 1077, rfl⟩
abbrev main_v777 : Ref sig .tc := ⟨.hbm, 1078, rfl⟩
abbrev main_v778 : Ref sig .tc := ⟨.hbm, 1079, rfl⟩
abbrev main_v779 : Ref sig .tc := ⟨.hbm, 1080, rfl⟩
abbrev main_v780 : Ref sig .tc := ⟨.hbm, 1081, rfl⟩
abbrev main_v781 : Ref sig .tc := ⟨.hbm, 1082, rfl⟩
abbrev main_v782 : Ref sig .tc := ⟨.hbm, 1083, rfl⟩
abbrev main_v783 : Ref sig .tc := ⟨.hbm, 1084, rfl⟩
abbrev main_v784 : Ref sig .tc := ⟨.hbm, 1085, rfl⟩
abbrev main_v785 : Ref sig .tc := ⟨.hbm, 1086, rfl⟩
abbrev main_v786 : Ref sig .tc := ⟨.hbm, 1087, rfl⟩
abbrev main_v787 : Ref sig .tc := ⟨.hbm, 1088, rfl⟩
abbrev main_v788 : Ref sig .tc := ⟨.hbm, 1089, rfl⟩
abbrev main_v789 : Ref sig .tc := ⟨.hbm, 1090, rfl⟩
abbrev main_v790 : Ref sig .tc := ⟨.hbm, 1091, rfl⟩
abbrev main_v791 : Ref sig .tc := ⟨.hbm, 1092, rfl⟩
abbrev main_v792 : Ref sig .tc := ⟨.hbm, 1093, rfl⟩
abbrev main_v793 : Ref sig .tc := ⟨.hbm, 1094, rfl⟩
abbrev main_v794 : Ref sig .tc := ⟨.hbm, 1095, rfl⟩
abbrev main_v795 : Ref sig .tc := ⟨.hbm, 1096, rfl⟩
abbrev main_v796 : Ref sig .tc := ⟨.hbm, 1097, rfl⟩
abbrev main_v797 : Ref sig .tc := ⟨.hbm, 1098, rfl⟩
abbrev main_v798 : Ref sig .tc := ⟨.hbm, 1099, rfl⟩
abbrev main_v799 : Ref sig .tc := ⟨.hbm, 1100, rfl⟩
abbrev main_v800 : Ref sig .tc := ⟨.hbm, 1101, rfl⟩
abbrev main_v801 : Ref sig .tc := ⟨.hbm, 1102, rfl⟩
abbrev main_v802 : Ref sig .tc := ⟨.hbm, 1103, rfl⟩
abbrev main_v803 : Ref sig .tc := ⟨.hbm, 1104, rfl⟩
abbrev main_v804 : Ref sig .tc := ⟨.hbm, 1105, rfl⟩
abbrev main_v805 : Ref sig .tc := ⟨.hbm, 1106, rfl⟩
abbrev main_v806 : Ref sig .tc := ⟨.hbm, 1107, rfl⟩
abbrev main_v807 : Ref sig .tc := ⟨.hbm, 1108, rfl⟩
abbrev main_v808 : Ref sig .tc := ⟨.hbm, 1109, rfl⟩
abbrev main_v809 : Ref sig .tc := ⟨.hbm, 1110, rfl⟩
abbrev main_v810 : Ref sig .tc := ⟨.hbm, 1111, rfl⟩
abbrev main_v811 : Ref sig .tc := ⟨.hbm, 1112, rfl⟩
abbrev main_v812 : Ref sig .tc := ⟨.hbm, 1113, rfl⟩
abbrev main_v813 : Ref sig .tc := ⟨.hbm, 1114, rfl⟩
abbrev main_v814 : Ref sig .tc := ⟨.hbm, 1115, rfl⟩
abbrev main_v815 : Ref sig .tc := ⟨.hbm, 1116, rfl⟩
abbrev main_v816 : Ref sig .tc := ⟨.hbm, 1117, rfl⟩
abbrev main_v817 : Ref sig .tc := ⟨.hbm, 1118, rfl⟩
abbrev main_v818 : Ref sig .tc := ⟨.hbm, 1119, rfl⟩
abbrev main_v819 : Ref sig .tc := ⟨.hbm, 1120, rfl⟩
abbrev main_cst_66 : Ref sig .tc := ⟨.hbm, 1121, rfl⟩
abbrev main_v820 : Ref sig .tc := ⟨.hbm, 1122, rfl⟩
abbrev main_v821 : Ref sig .tc := ⟨.hbm, 1123, rfl⟩
abbrev main_cst_67 : Ref sig .tc := ⟨.hbm, 1124, rfl⟩
abbrev main_v822 : Ref sig .tc := ⟨.hbm, 1125, rfl⟩
abbrev main_v823 : Ref sig .tc := ⟨.hbm, 1126, rfl⟩
abbrev main_c_68 : Ref sig .tc := ⟨.hbm, 1127, rfl⟩
abbrev main_call23_cst : Ref sig .tc := ⟨.hbm, 1128, rfl⟩
abbrev main_call23_v0 : Ref sig .tc := ⟨.hbm, 1129, rfl⟩
abbrev main_call23_v1 : Ref sig .tc := ⟨.hbm, 1130, rfl⟩
abbrev main_call23_cst_0 : Ref sig .tc := ⟨.hbm, 1131, rfl⟩
abbrev main_call23_v2 : Ref sig .tc := ⟨.hbm, 1132, rfl⟩
abbrev main_call23_v3 : Ref sig .tc := ⟨.hbm, 1133, rfl⟩
abbrev main_call23_v4 : Ref sig .tc := ⟨.hbm, 1134, rfl⟩
abbrev main_call23_v5 : Ref sig .tc := ⟨.hbm, 1135, rfl⟩
abbrev main_call23_v6 : Ref sig .tc := ⟨.hbm, 1136, rfl⟩
abbrev main_call23_v7 : Ref sig .tc := ⟨.hbm, 1137, rfl⟩
abbrev main_call23_cst_1 : Ref sig .tc := ⟨.hbm, 1138, rfl⟩
abbrev main_call23_v8 : Ref sig .tc := ⟨.hbm, 1139, rfl⟩
abbrev main_call23_cst_2 : Ref sig .tc := ⟨.hbm, 1140, rfl⟩
abbrev main_call23_v9 : Ref sig .tc := ⟨.hbm, 1141, rfl⟩
abbrev main_call23_v10 : Ref sig .tc := ⟨.hbm, 1142, rfl⟩
abbrev main_call23_v11 : Ref sig .tc := ⟨.hbm, 1143, rfl⟩
abbrev main_call23_v12 : Ref sig .tc := ⟨.hbm, 1144, rfl⟩
abbrev main_call23_cst_3 : Ref sig .tc := ⟨.hbm, 1145, rfl⟩
abbrev main_call23_v13 : Ref sig .tc := ⟨.hbm, 1146, rfl⟩
abbrev main_call23_cst_4 : Ref sig .tc := ⟨.hbm, 1147, rfl⟩
abbrev main_call23_call0_v0 : Ref sig .tc := ⟨.hbm, 1148, rfl⟩
abbrev main_call23_call0_v1 : Ref sig .tc := ⟨.hbm, 1149, rfl⟩
abbrev main_v824 : Ref sig .tc := ⟨.hbm, 1150, rfl⟩
abbrev main_v825 : Ref sig .tc := ⟨.hbm, 1151, rfl⟩
abbrev main_v826 : Ref sig .tc := ⟨.hbm, 1152, rfl⟩
abbrev main_cst_69 : Ref sig .tc := ⟨.hbm, 1153, rfl⟩
abbrev main_v827 : Ref sig .tc := ⟨.hbm, 1154, rfl⟩
abbrev main_v828 : Ref sig .tc := ⟨.hbm, 1155, rfl⟩
abbrev main_v829 : Ref sig .tc := ⟨.hbm, 1156, rfl⟩
abbrev main_v830 : Ref sig .tc := ⟨.hbm, 1157, rfl⟩
abbrev main_v831 : Ref sig .tc := ⟨.hbm, 1158, rfl⟩
abbrev main_v832 : Ref sig .tc := ⟨.hbm, 1159, rfl⟩
abbrev main_v833 : Ref sig .tc := ⟨.hbm, 1160, rfl⟩
abbrev main_v834 : Ref sig .tc := ⟨.hbm, 1161, rfl⟩
abbrev main_v835 : Ref sig .tc := ⟨.hbm, 1162, rfl⟩
abbrev main_v836 : Ref sig .tc := ⟨.hbm, 1163, rfl⟩
abbrev main_v837 : Ref sig .tc := ⟨.hbm, 1164, rfl⟩
abbrev main_v838 : Ref sig .tc := ⟨.hbm, 1165, rfl⟩
abbrev main_v839 : Ref sig .tc := ⟨.hbm, 1166, rfl⟩
abbrev main_v840 : Ref sig .tc := ⟨.hbm, 1167, rfl⟩
abbrev main_cst_70 : Ref sig .tc := ⟨.hbm, 1168, rfl⟩
abbrev main_v841 : Ref sig .tc := ⟨.hbm, 1169, rfl⟩
abbrev main_v842 : Ref sig .tc := ⟨.hbm, 1170, rfl⟩
abbrev main_cst_71 : Ref sig .tc := ⟨.hbm, 1171, rfl⟩
abbrev main_v843 : Ref sig .tc := ⟨.hbm, 1172, rfl⟩
abbrev main_v844 : Ref sig .tc := ⟨.hbm, 1173, rfl⟩
abbrev main_v845 : Ref sig .tc := ⟨.hbm, 1174, rfl⟩
abbrev main_v846 : Ref sig .tc := ⟨.hbm, 1175, rfl⟩
abbrev main_v847 : Ref sig .tc := ⟨.hbm, 1176, rfl⟩
abbrev main_v848 : Ref sig .tc := ⟨.hbm, 1177, rfl⟩
abbrev main_v849 : Ref sig .tc := ⟨.hbm, 1178, rfl⟩
abbrev main_v850 : Ref sig .tc := ⟨.hbm, 1179, rfl⟩
abbrev main_v851 : Ref sig .tc := ⟨.hbm, 1180, rfl⟩
abbrev main_v852 : Ref sig .tc := ⟨.hbm, 1181, rfl⟩
abbrev main_v853 : Ref sig .tc := ⟨.hbm, 1182, rfl⟩
abbrev main_cst_72 : Ref sig .tc := ⟨.hbm, 1183, rfl⟩
abbrev main_v854 : Ref sig .tc := ⟨.hbm, 1184, rfl⟩
abbrev main_v855 : Ref sig .tc := ⟨.hbm, 1185, rfl⟩
abbrev main_call24_cst : Ref sig .tc := ⟨.hbm, 1186, rfl⟩
abbrev main_call24_v0 : Ref sig .tc := ⟨.hbm, 1187, rfl⟩
abbrev main_v856 : Ref sig .tc := ⟨.hbm, 1188, rfl⟩
abbrev main_v857 : Ref sig .tc := ⟨.hbm, 1189, rfl⟩
abbrev main_v858 : Ref sig .tc := ⟨.hbm, 1190, rfl⟩
abbrev main_v859 : Ref sig .tc := ⟨.hbm, 1191, rfl⟩

abbrev nD : Nat := 1
abbrev τ : Topo := Topo.v7x

variable {F : FTy → Type} [FloatOps F]
-- ==== Proof.Level.lean ====
/- What the kernel computes at one level, over symbolic sizes: `S = W * W` positions in rows of `W`. Each stage is a
   definition in the operations the kernel is written in, so that the kernel's five levels are five instances of it
   (Proof/Kernel.lean). -/
module

public import Idealize.ShloMosaic.PureOps
public import Idealize.ShloMosaic.Lib.MatmulPlain
public import Idealize.ShloMosaic.Lib.Pipeline.Value

@[expose] public section

noncomputable section

namespace Cert.Head

open Idealize.ShloMosaic

variable {F : FTy → Type} [FloatOps F] {α : Type}

/-- The shape of a matrix. -/
abbrev M (a b : ℕ) : Shape := ⟨2, ![a, b]⟩

theorem slices_M {a b a' b' o p : ℕ} (h : o + a' ≤ a ∧ p + b' ≤ b) : (M a b).Slices ![o, p] (M a' b') :=
  ⟨rfl, fun c => match c with | ⟨0, _⟩ => h.1 | ⟨1, _⟩ => h.2⟩

theorem concat1_M {a b b₁ b₂ : ℕ} (h : b₁ + b₂ = b) : Shape.Concatenates [M a b₁, M a b₂] (M a b) 1 :=
  ⟨le_refl _, by
    intro s hs
    rcases List.mem_cons.1 hs with rfl | hs
    · exact ⟨rfl, fun c hc => match c, hc with | ⟨0, _⟩, _ => rfl | ⟨1, _⟩, hc => absurd rfl hc⟩
    · obtain rfl := List.mem_singleton.1 hs
      exact ⟨rfl, fun c hc => match c, hc with | ⟨0, _⟩, _ => rfl | ⟨1, _⟩, hc => absurd rfl hc⟩,
    by simpa using h⟩

theorem concat0_M {a b a₁ a₂ : ℕ} (h : a₁ + a₂ = a) : Shape.Concatenates [M a₁ b, M a₂ b] (M a b) 0 :=
  ⟨le_refl _, by
    intro s hs
    rcases List.mem_cons.1 hs with rfl | hs
    · exact ⟨rfl, fun c hc => match c, hc with | ⟨1, _⟩, _ => rfl | ⟨0, _⟩, hc => absurd rfl hc⟩
    · obtain rfl := List.mem_singleton.1 hs
      exact ⟨rfl, fun c hc => match c, hc with | ⟨1, _⟩, _ => rfl | ⟨0, _⟩, hc => absurd rfl hc⟩,
    by simpa using h⟩

theorem concatN_M {a b n : ℕ} (k : ℕ) (hk : 2 ≤ k) (h : k * a = n) :
    Shape.Concatenates (List.replicate k (M a b)) (M n b) 0 :=
  ⟨by simpa using hk, by
    intro s hs
    obtain rfl := List.eq_of_mem_replicate hs
    exact ⟨rfl, fun c hc => match c, hc with | ⟨1, _⟩, _ => rfl | ⟨0, _⟩, hc => absurd rfl hc⟩,
    by simp [h]⟩

theorem bcast_row {a b : ℕ} : (M 1 b).Broadcasts (M a b) :=
  ⟨le_refl _, fun c => match c with
    | ⟨0, _⟩ => .inl rfl
    | ⟨1, _⟩ => .inr fun _ => rfl⟩

theorem bcast_col {a b : ℕ} : (M a 1).Broadcasts (M a b) :=
  ⟨le_refl _, fun c => match c with
    | ⟨0, _⟩ => .inr fun _ => rfl
    | ⟨1, _⟩ => .inl rfl⟩

theorem iotas_M {a b : ℕ} (d : Fin 2) : (M a b).Iotas .tc 32 [d] :=
  ⟨List.nodup_singleton d, fun _ => ⟨.inr rfl, le_refl _⟩, fun h => absurd rfl h⟩

theorem reduces_M {a b : ℕ} : (M a b).Reduces [1] ⟨1, ![a]⟩ :=
  ⟨rfl, Nat.one_pos, fun c => match c with | ⟨0, _⟩ => rfl⟩

theorem casts_col {a : ℕ} : Shape.ShapeCasts ⟨1, ![a]⟩ (M a 1) := by
  simp [Shape.ShapeCasts, Shape.numel]

/-- A block of a matrix. -/
def blk {a b : ℕ} (a' b' o p : ℕ) (h : o + a' ≤ a ∧ p + b' ≤ b) (x : (M a b).Idx → α) : (M a' b').Idx → α :=
  extractStridedSlice (M a' b') ![o, p] x (slices_M h)

/-- The columns rotated left by `k`. -/
def roll {a S : ℕ} (k : ℕ) (hk : k ≤ S) (x : (M a S).Idx → α) : (M a S).Idx → α :=
  concatenate (M a S) 1 [⟨M a (S - k), blk a (S - k) 0 k (by omega) x⟩, ⟨M a k, blk a k 0 0 (by omega) x⟩]
    (concat1_M (by omega))

/-- The rows rotated up by `k`. -/
def rollRows {a S : ℕ} (k : ℕ) (hk : k ≤ a) (x : (M a S).Idx → α) : (M a S).Idx → α :=
  concatenate (M a S) 0 [⟨M (a - k) S, blk (a - k) S k 0 (by omega) x⟩, ⟨M k S, blk k S 0 0 (by omega) x⟩]
    (concat0_M (by omega))

/-- One matrix on another. -/
def stack {a b S : ℕ} (n : ℕ) (h : a + b = n) (x : (M a S).Idx → α) (y : (M b S).Idx → α) : (M n S).Idx → α :=
  concatenate (M n S) 0 [⟨M a S, x⟩, ⟨M b S, y⟩] (concat0_M h)

/-! ## The nine shifted images -/

/-- The column of each position. -/
def colOf (S W : ℕ) : IVec (M 1 S) 32 := andi (iota .tc (M 1 S) 32 [1] (iotas_M 1)) (broadcast (M 1 S) (BitVec.ofNat 32 (W - 1)))

/-- The row of each position. -/
def rowOf (S lw : ℕ) : IVec (M 1 S) 32 := shrsi (iota .tc (M 1 S) 32 [1] (iotas_M 1)) (broadcast (M 1 S) (BitVec.ofNat 32 lw))

/-- Where the coordinate `v` moved by `d` is inside `[0, W)`. -/
def inside (S W : ℕ) (d : BitVec 32) (v : IVec (M 1 S) 32) : IVec (M 1 S) 1 :=
  andi (cmpi .sge (addi v (broadcast (M 1 S) d)) (broadcast (M 1 S) 0#32))
    (cmpi .slt (addi v (broadcast (M 1 S) d)) (broadcast (M 1 S) (BitVec.ofNat 32 W)))

/-- A shifted image, zero where the shift leaves the image. -/
def tap (S W lw : ℕ) (dy dx : BitVec 32) (x : FVec F (M 96 S) .bf16) : FVec F (M 96 S) .bf16 :=
  select (broadcastTo (M 96 S) (shapeCast (M 1 S) (andi (inside S W dy (rowOf S lw)) (inside S W dx (colOf S W))) rfl) bcast_row)
    x (broadcast (M 96 S) (Scalar.ofBits .bf16 0x0000#16))

/-- The first four taps, stacked. -/
def tapsA (S W lw : ℕ) (hW : W + 1 ≤ S) (x : FVec F (M 96 S) .bf16) : FVec F (M 384 S) .bf16 :=
  concatenate (M 384 S) 0
    [⟨M 96 S, tap S W lw 4294967295#32 4294967295#32 (roll (S - (W + 1)) (by omega) x)⟩,
     ⟨M 96 S, tap S W lw 4294967295#32 0#32 (roll (S - W) (by omega) x)⟩,
     ⟨M 96 S, tap S W lw 4294967295#32 1#32 (roll (S - (W - 1)) (by omega) x)⟩,
     ⟨M 96 S, tap S W lw 0#32 4294967295#32 (roll (S - 1) (by omega) x)⟩] (concatN_M 4 (by omega) rfl)

/-- The last five taps, stacked. -/
def tapsB (S W lw : ℕ) (hW : W + 1 ≤ S) (x : FVec F (M 96 S) .bf16) : FVec F (M 480 S) .bf16 :=
  concatenate (M 480 S) 0
    [⟨M 96 S, tap S W lw 0#32 0#32 x⟩,
     ⟨M 96 S, tap S W lw 0#32 1#32 (roll 1 (by omega) x)⟩,
     ⟨M 96 S, tap S W lw 1#32 4294967295#32 (roll (W - 1) (by omega) x)⟩,
     ⟨M 96 S, tap S W lw 1#32 0#32 (roll W (by omega) x)⟩,
     ⟨M 96 S, tap S W lw 1#32 1#32 (roll (W + 1) hW x)⟩] (concatN_M 5 (by omega) rfl)

/-- The 3x3 convolution without its bias, both heads' channels one on another. -/
def conv (S W lw : ℕ) (hW : W + 1 ≤ S) (x : FVec F (M 96 S) .bf16) (wa : FVec F (M 192 384) .bf16)
    (wb : FVec F (M 192 480) .bf16) : FVec F (M 192 S) .f32 :=
  addf
    (matmul (DotDims.plain 192 384 S) none (shapeCast (M 192 384) wa rfl) (tapsA S W lw hW x) (constant (M 192 S) .f32 0x00000000#32))
    (matmul (DotDims.plain 192 480 S) none (shapeCast (M 192 480) wb rfl) (tapsB S W lw hW x) (constant (M 192 S) .f32 0x00000000#32))

/-! ## The sums along the positions -/

/-- The sum of each row, as a column. -/
def rowSum (S : ℕ) (x : FVec F (M 192 S) .f32) : FVec F (M 192 1) .f32 :=
  shapeCast (M 192 1) (multiReduction .add [1] ⟨1, ![192]⟩ x 0x00000000#32 reduces_M (.inl rfl) rfl) casts_col

/-- A balanced tree of sums. -/
def tree {s : Shape} : (k : ℕ) → (Fin (2 ^ k) → FVec F s .f32) → FVec F s .f32
  | 0, f => f ⟨0, Nat.one_pos⟩
  | k + 1, f => addf (tree k fun i => f ⟨i.val, by have := i.isLt; omega⟩)
      (tree k fun i => f ⟨2 ^ k + i.val, by have := i.isLt; omega⟩)

/-- Stretch `i` of 128 positions. -/
def lane (S k : ℕ) (hS : 2 ^ k * 128 = S) (h : FVec F (M 192 S) .f32) (i : Fin (2 ^ k)) : FVec F (M 192 128) .f32 :=
  blk 192 128 0 (128 * i.val) ⟨by omega, by
    have h1 := i.isLt
    have h2 : (i.val + 1) * 128 ≤ 2 ^ k * 128 := Nat.mul_le_mul_right _ h1
    omega⟩ h

/-- The sums of the rows by stretches of 128 positions. -/
def laneSum (S k : ℕ) (hS : 2 ^ k * 128 = S) (h : FVec F (M 192 S) .f32) : FVec F (M 192 1) .f32 :=
  rowSum 128 (tree k (lane S k hS h))

/-- The sums of the squares by stretches of 128 positions. -/
def laneSqSum (S k : ℕ) (hS : 2 ^ k * 128 = S) (h : FVec F (M 192 S) .f32) : FVec F (M 192 1) .f32 :=
  rowSum 128 (tree k fun i => mulf (lane S k hS h i) (lane S k hS h i))

/-! ## The group statistics -/

/-- The two sums of each channel with its bias, one on another. -/
def stats (n : F .f32) (b3 s1 s2 : FVec F (M 192 1) .f32) : FVec F (M 384 1) .f32 :=
  stack 384 rfl (addf s1 (mulf (broadcast (M 192 1) n) b3))
    (addf (addf s2 (mulf (mulf (broadcast (M 192 1) (Scalar.ofBits .f32 0x40000000#32)) b3) s1))
      (mulf (mulf (broadcast (M 192 1) n) b3) b3))

/-- The word a remainder by three is taken with. -/
def three : BitVec 32 := Scalar.select (Scalar.cmpi .eq 3#32 0#32) 1#32 3#32

/-- The rows whose number is a multiple of three. -/
def firsts : IVec (M 384 1) 1 :=
  cmpi .eq
    (select
      (andi
        (xori (cmpi .slt (remsi (iota .tc (M 384 1) 32 [0] (iotas_M 0)) (broadcast (M 384 1) three)) (broadcast (M 384 1) 0#32))
          (broadcastTo (M 384 1) (broadcast (M 384 1) (Scalar.cmpi .slt three 0#32)) bcast_col))
        (cmpi .ne (remsi (iota .tc (M 384 1) 32 [0] (iotas_M 0)) (broadcast (M 384 1) three)) (broadcast (M 384 1) 0#32)))
      (addi (remsi (iota .tc (M 384 1) 32 [0] (iotas_M 0)) (broadcast (M 384 1) three)) (broadcast (M 384 1) three))
      (remsi (iota .tc (M 384 1) 32 [0] (iotas_M 0)) (broadcast (M 384 1) three)))
    (broadcast (M 384 1) 0#32)

/-- The sum of three rows at a time at the first of the three, zero at the other two. -/
def heads (st : FVec F (M 384 1) .f32) : FVec F (M 384 1) .f32 :=
  select firsts (addf (addf st (rollRows 1 (by omega) st)) (rollRows 2 (by omega) st))
    (broadcast (M 384 1) (Scalar.ofBits .f32 0x00000000#32))

/-- The sum of three rows at a time at each of the three. -/
def spread (g : FVec F (M 384 1) .f32) : FVec F (M 384 1) .f32 :=
  addf (addf g (rollRows 383 (by omega) g)) (rollRows 382 (by omega) g)

/-- The mean of each channel's group. -/
def meanOf (cnt : F .f32) (gs : FVec F (M 384 1) .f32) : FVec F (M 192 1) .f32 :=
  mulf (blk 192 1 0 0 (by omega) gs) (broadcast (M 192 1) cnt)

/-- The factor of each channel. -/
def scaleOf (cnt : F .f32) (gam : FVec F (M 192 1) .f32) (gs : FVec F (M 384 1) .f32) : FVec F (M 192 1) .f32 :=
  mulf (rsqrt (addf (subf (mulf (blk 192 1 192 0 (by omega) gs) (broadcast (M 192 1) cnt)) (mulf (meanOf cnt gs) (meanOf cnt gs)))
    (broadcast (M 192 1) (Scalar.ofBits .f32 0x3727C5AC#32)))) gam

/-- The normalised channels. -/
def normed (S : ℕ) (cnt : F .f32) (b3 gam bet : FVec F (M 192 1) .f32) (gs : FVec F (M 384 1) .f32) (h : FVec F (M 192 S) .f32) :
    FVec F (M 192 S) .f32 :=
  addf (mulf h (broadcastTo (M 192 S) (scaleOf cnt gam gs) bcast_col))
    (broadcastTo (M 192 S) (addf bet (mulf (subf b3 (meanOf cnt gs)) (scaleOf cnt gam gs))) bcast_col)

/-- `x * (tanh (x / 2) / 2 + 1 / 2)`. -/
def act (S : ℕ) (x : FVec F (M 192 S) .f32) : FVec F (M 192 S) .f32 :=
  mulf x (addf (mulf (broadcast (M 192 S) (Scalar.ofBits .f32 0x3F000000#32))
      (tanh (mulf x (broadcast (M 192 S) (Scalar.ofBits .f32 0x3F000000#32)))))
    (broadcast (M 192 S) (Scalar.ofBits .f32 0x3F000000#32)))

/-- The 1x1 convolution of both heads. -/
def outs (S : ℕ) (wf : FVec F (M 88 192) .bf16) (fb : FVec F (M 88 1) .f32) (a : FVec F (M 192 S) .f32) : FVec F (M 88 S) .f32 :=
  addf (matmul (DotDims.plain 88 192 S) none (shapeCast (M 88 192) wf rfl) (truncf .bf16 a (by decide)) (constant (M 88 S) .f32 0x00000000#32))
    (broadcastTo (M 88 S) (shapeCast (M 88 1) fb rfl) bcast_col)

/-- All of it, given the two sums of each channel. -/
def body (S : ℕ) (n cnt : F .f32) (b3 gam bet : FVec F (M 192 1) .f32) (wf : FVec F (M 88 192) .bf16) (fb : FVec F (M 88 1) .f32)
    (s1 s2 : FVec F (M 192 1) .f32) (h : FVec F (M 192 S) .f32) : FVec F (M 88 S) .f32 :=
  outs S wf fb (act S (normed S cnt b3 gam bet (spread (heads (stats n b3 s1 s2))) h))

/-- The last eight rows, those of the box head scaled and cut below at zero. -/
def boxes (S : ℕ) (stride : F .f32) (y : FVec F (M 88 S) .f32) : FVec F (M 8 S) .f32 :=
  select (broadcastTo (M 8 S) (shapeCast (M 8 1) (andi (cmpi .sge (iota .tc (M 8 1) 32 [0] (iotas_M 0)) (broadcast (M 8 1) 1#32))
      (cmpi .slt (iota .tc (M 8 1) 32 [0] (iotas_M 0)) (broadcast (M 8 1) 5#32))) rfl) bcast_col)
    (maximumf (mulf (blk 8 S 80 0 (by omega) y) (broadcast (M 8 S) stride)) (broadcast (M 8 S) (Scalar.ofBits .f32 0x00000000#32)))
    (blk 8 S 80 0 (by omega) y)

theorem casts_lead {a b : ℕ} : (M a b).ShapeCasts ⟨3, ![1, a, b]⟩ := by
  simp [Shape.ShapeCasts, Shape.numel, Fin.prod_univ_succ]

/-- A result's block: rows of a matrix behind a leading axis of one. -/
def result {a S : ℕ} (a' o : ℕ) (h : o + a' ≤ a) (y : (M a S).Idx → α) : (⟨3, ![1, a', S]⟩ : Shape).Idx → α :=
  shapeCast ⟨3, ![1, a', S]⟩ (blk a' S o 0 (by omega) y) casts_lead

end Cert.Head

end
-- ==== Proof.RefLevel.lean ====
/- What the reference computes at one level, over the symbolic row length `W`: each stage is a definition in the operations
   the reference is written in, so that its five levels are five instances of it (Proof/Reference.lean). -/
module

public import proofs.«01_k».proof.Proof.Level

@[expose] public section

noncomputable section

namespace Cert.Head

open Idealize.ShloMosaic

variable {F : FTy → Type} [FloatOps F] {α : Type}

/-- The shape of images: four of `a`, or `a` of four, of size `W` by `W`. -/
abbrev T4 (a b W V : ℕ) : Shape := ⟨4, ![a, b, W, V]⟩

/-- The shape of images by groups of three. -/
abbrev T5 (W : ℕ) : Shape := ⟨5, ![4, 32, 3, W, W]⟩

/-- The shape of one number per image and group. -/
abbrev G5 : Shape := ⟨5, ![4, 32, 1, 1, 1]⟩

/-- The shape of a scalar. -/
abbrev T0 : Shape := ⟨0, ![]⟩

theorem pads_T {W : ℕ} : (T4 4 96 W W).Pads (![0, 0, 1, 1] : Fin 4 → ℕ) ![0, 0, 1, 1] ![0, 0, 0, 0] (T4 4 96 (W + 2) (W + 2)) :=
  ⟨rfl, fun a => match a with
    | ⟨0, _⟩ => rfl
    | ⟨1, _⟩ => rfl
    | ⟨2, _⟩ => show W + 2 = 1 + W + 0 * (W - 1) + 1 by omega
    | ⟨3, _⟩ => show W + 2 = 1 + W + 0 * (W - 1) + 1 by omega⟩

theorem slices_T {a b c d a' b' c' d' o p q r : ℕ} (h : (o + a' ≤ a ∧ p + b' ≤ b) ∧ (q + c' ≤ c ∧ r + d' ≤ d)) :
    (T4 a b c d).Slices ![o, p, q, r] (T4 a' b' c' d') :=
  ⟨rfl, fun x => match x with
    | ⟨0, _⟩ => h.1.1
    | ⟨1, _⟩ => h.1.2
    | ⟨2, _⟩ => h.2.1
    | ⟨3, _⟩ => h.2.2⟩

theorem casts_one {a b : ℕ} : (T4 a b 1 1).ShapeCasts (M a b) := by
  simp [Shape.ShapeCasts, Shape.numel, Fin.prod_univ_succ]

theorem casts_groups {W : ℕ} : (T4 4 96 W W).ShapeCasts (T5 W) := by
  simp [Shape.ShapeCasts, Shape.numel, Fin.prod_univ_succ]
  ring

theorem casts_ungroup {W : ℕ} : (T5 W).ShapeCasts (T4 4 96 W W) := by
  simp [Shape.ShapeCasts, Shape.numel, Fin.prod_univ_succ]
  ring

theorem casts_flat {a b W S : ℕ} (hS : S = W * W) : (T4 a b W W).ShapeCasts ⟨3, ![a, b, S]⟩ := by
  subst hS
  simp [Shape.ShapeCasts, Shape.numel, Fin.prod_univ_succ]

theorem transposes_T {a b W V : ℕ} : (T4 a b W V).Transposes [1, 0, 2, 3] (T4 b a W V) :=
  ⟨by simpa [List.finRange] using List.Perm.swap 0 1 [2, 3], rfl, fun x => match x with
    | ⟨0, _⟩ => rfl
    | ⟨1, _⟩ => rfl
    | ⟨2, _⟩ => rfl
    | ⟨3, _⟩ => rfl⟩

theorem inj_T : Function.Injective (![0, 1, 2, 3] : Fin 4 → Fin 4) := by decide

theorem inj_five : Function.Injective (![0, 1, 2, 3, 4] : Fin 5 → Fin 5) := by decide

theorem bcast_bias {b : ℕ} : Shape.BroadcastsInDim ⟨1, ![b]⟩ (T4 1 b 1 1) (![1] : Fin 1 → Fin 4) :=
  ⟨fun x y _ => Subsingleton.elim x y, fun x => match x with | ⟨0, _⟩ => .inr rfl⟩

theorem bcast_chan {a b W V : ℕ} : (T4 1 b 1 1).BroadcastsInDim (T4 a b W V) (![0, 1, 2, 3] : Fin 4 → Fin 4) :=
  ⟨inj_T, fun x => match x with
    | ⟨0, _⟩ => .inl rfl
    | ⟨1, _⟩ => .inr rfl
    | ⟨2, _⟩ => .inl rfl
    | ⟨3, _⟩ => .inl rfl⟩

theorem bcast_scalar {t : Shape} : T0.BroadcastsInDim t (![] : Fin 0 → Fin t.rank) :=
  ⟨fun x => x.elim0, fun x => x.elim0⟩

theorem bcast_group : Shape.BroadcastsInDim ⟨2, ![4, 32]⟩ G5 (![0, 1] : Fin 2 → Fin 5) := by decide

theorem bcast_spread {W : ℕ} : G5.BroadcastsInDim (T5 W) (![0, 1, 2, 3, 4] : Fin 5 → Fin 5) :=
  ⟨inj_five, fun x => match x with
    | ⟨0, _⟩ => .inr rfl
    | ⟨1, _⟩ => .inr rfl
    | ⟨2, _⟩ => .inl rfl
    | ⟨3, _⟩ => .inl rfl
    | ⟨4, _⟩ => .inl rfl⟩

theorem reduces_T {W : ℕ} : (T5 W).ReducesTo [2, 3, 4] ⟨2, ![4, 32]⟩ :=
  ⟨rfl, fun x => match x with
    | ⟨0, _⟩ => rfl
    | ⟨1, _⟩ => rfl⟩

theorem perm_four : List.Perm ([0, 2, 3, 1] : List (Fin 4)) (List.finRange 4) := by decide

/-- The product over channels of a matrix and images. -/
def dotR (o W : ℕ) : DotDims (M o 96) (T4 4 96 W W) (T4 o 4 W W) where
  lhsContracting := [1]
  rhsContracting := [1]
  lhsNonContracting := [0]
  rhsNonContracting := [0, 2, 3]
  lhsBatch := []
  rhsBatch := []
  wf := ⟨rfl, by simp, rfl, by simp, by simp, by simp, by simp [List.finRange], perm_four,
    rfl, Nat.succ_pos 3, fun b => by fin_cases b <;> rfl⟩

/-- The images in a frame of zeros. -/
def rPad (W : ℕ) (x : FVec F (T4 4 96 W W) .f32) : FVec F (T4 4 96 (W + 2) (W + 2)) .f32 :=
  pad (T4 4 96 (W + 2) (W + 2)) ![0, 0, 1, 1] ![0, 0, 1, 1] ![0, 0, 0, 0] x (sitofp .f32 (constantI T0 32 0#32)) pads_T (by decide)

/-- One tap of the 3x3 window: its matrix times the framed images from the tap on. -/
def rTap (W ky kx : ℕ) (h : ky + 1 ≤ 3 ∧ kx + 1 ≤ 3) (w : FVec F (T4 96 96 3 3) .f32) (x : FVec F (T4 4 96 (W + 2) (W + 2)) .f32) :
    FVec F (T4 96 4 W W) .f32 :=
  Host.dotGeneral (dotR 96 W) none
    (shapeCast (M 96 96) (extractStridedSlice (T4 96 96 1 1) ![0, 0, ky, kx] w (slices_T ⟨⟨by omega, by omega⟩, h⟩)) casts_one)
    (extractStridedSlice (T4 4 96 W W) ![0, 0, ky, kx] x (slices_T ⟨⟨by omega, by omega⟩, by omega, by omega⟩))

/-- One number per channel, on images. -/
def rChan (c W : ℕ) (b : FVec F ⟨1, ![c]⟩ .f32) : FVec F (T4 4 c W W) .f32 :=
  broadcastInDim (T4 4 c W W) ![0, 1, 2, 3] bcast_chan (broadcastInDim (T4 1 c 1 1) ![1] bcast_bias b)

/-- The 3x3 convolution with its bias, by groups. -/
def rConv (W : ℕ) (x : FVec F (T4 4 96 W W) .f32) (w : FVec F (T4 96 96 3 3) .f32) (b : FVec F ⟨1, ![96]⟩ .f32) : FVec F (T5 W) .f32 :=
  shapeCast (T5 W) (addf (transpose (T4 4 96 W W) [1, 0, 2, 3]
    (addf (addf (addf (addf (addf (addf (addf (addf (rTap W 0 0 (by omega) w (rPad W x)) (rTap W 0 1 (by omega) w (rPad W x)))
      (rTap W 0 2 (by omega) w (rPad W x))) (rTap W 1 0 (by omega) w (rPad W x))) (rTap W 1 1 (by omega) w (rPad W x)))
      (rTap W 1 2 (by omega) w (rPad W x))) (rTap W 2 0 (by omega) w (rPad W x))) (rTap W 2 1 (by omega) w (rPad W x)))
      (rTap W 2 2 (by omega) w (rPad W x))) transposes_T) (rChan 96 W b)) casts_groups

/-- A scalar on one number per image and group. -/
def rNum (x : FVec F T0 .f32) : FVec F G5 .f32 := broadcastInDim G5 ![] bcast_scalar x

/-- One number per image and group, on the images. -/
def rSpread (W : ℕ) (x : FVec F G5 .f32) : FVec F (T5 W) .f32 := broadcastInDim (T5 W) ![0, 1, 2, 3, 4] bcast_spread x

/-- The sums by image and group. -/
def rTotal (W : ℕ) (h : FVec F (T5 W) .f32) : FVec F G5 .f32 :=
  broadcastInDim G5 ![0, 1] bcast_group (Host.reduceAdd h (constant T0 .f32 0x00000000#32) reduces_T (by decide))

/-- The difference from the group's mean. -/
def rDev (W : ℕ) (N : BitVec 32) (h : FVec F (T5 W) .f32) : FVec F (T5 W) .f32 :=
  subf h (rSpread W (Host.divf (rTotal W h) (rNum (constant T0 .f32 N))))

/-- The number a variance is divided by. -/
def rCount (N : BitVec 32) : FVec F T0 .f32 := subf (constant T0 .f32 N) (sitofp .f32 (constantI T0 32 0#32))

/-- The group's variance. -/
def rVariance (W : ℕ) (N : BitVec 32) (h : FVec F (T5 W) .f32) : FVec F G5 .f32 :=
  select (broadcastInDim G5 ![] bcast_scalar (cmpf .ogt (rCount N : FVec F T0 .f32) (constant T0 .f32 0x00000000#32)))
    (Host.divf (rTotal W (mulf (rDev W N h) (rDev W N h))) (rNum (rCount N))) (rNum (constant T0 .f32 0x7FC00000#32) : FVec F G5 .f32)

/-- The normalised images. -/
def rNormed (W : ℕ) (N : BitVec 32) (gam bet : FVec F ⟨1, ![96]⟩ .f32) (h : FVec F (T5 W) .f32) : FVec F (T4 4 96 W W) .f32 :=
  addf (mulf (shapeCast (T4 4 96 W W) (Host.divf (rDev W N h)
    (rSpread W (Host.sqrt (addf (rVariance W N h) (rNum (constant T0 .f32 0x3727C5AC#32)))))) casts_ungroup) (rChan 96 W gam)) (rChan 96 W bet)

/-- `x * sigmoid x`. -/
def rAct (W : ℕ) (x : FVec F (T4 4 96 W W) .f32) : FVec F (T4 4 96 W W) .f32 :=
  mulf x (Host.divf (broadcastInDim (T4 4 96 W W) ![] bcast_scalar (constant T0 .f32 0x3F800000#32))
    (addf (broadcastInDim (T4 4 96 W W) ![] bcast_scalar (constant T0 .f32 0x3F800000#32)) (Host.exp (Host.negf x))))

/-- A head of `o` channels. -/
def rHead (o W : ℕ) (N : BitVec 32) (x : FVec F (T4 4 96 W W) .f32) (w : FVec F (T4 96 96 3 3) .f32) (b gam bet : FVec F ⟨1, ![96]⟩ .f32)
    (fw : FVec F (T4 o 96 1 1) .f32) (fb : FVec F ⟨1, ![o]⟩ .f32) : FVec F (T4 4 o W W) .f32 :=
  addf (transpose (T4 4 o W W) [1, 0, 2, 3] (Host.dotGeneral (dotR o W) none (shapeCast (M o 96) fw casts_one)
    (rAct W (rNormed W N gam bet (rConv W x w b)))) transposes_T) (rChan o W fb)

/-- The class result. -/
def rCls (W S : ℕ) (hS : S = W * W) (y : FVec F (T4 4 80 W W) .f32) : FVec F ⟨3, ![4, 80, S]⟩ .f32 :=
  shapeCast ⟨3, ![4, 80, S]⟩ y (casts_flat hS)

/-- The box result. -/
def rReg (W S : ℕ) (hS : S = W * W) (stride : BitVec 32) (y : FVec F (T4 4 5 W W) .f32) : FVec F ⟨3, ![4, 4, S]⟩ .f32 :=
  shapeCast ⟨3, ![4, 4, S]⟩ (maximumf (mulf (extractStridedSlice (T4 4 4 W W) ![0, 1, 0, 0] y (slices_T ⟨⟨by omega, by omega⟩, by omega, by omega⟩))
    (broadcastInDim (T4 4 4 W W) ![] bcast_scalar (constant T0 .f32 stride)))
    (broadcastInDim (T4 4 4 W W) ![] bcast_scalar (constant T0 .f32 0x00000000#32))) (casts_flat hS)

/-- The centerness result. -/
def rCent (W S : ℕ) (hS : S = W * W) (y : FVec F (T4 4 5 W W) .f32) : FVec F ⟨3, ![4, 1, S]⟩ .f32 :=
  shapeCast ⟨3, ![4, 1, S]⟩ (extractStridedSlice (T4 4 1 W W) ![0, 0, 0, 0] y (slices_T ⟨⟨by omega, by omega⟩, by omega, by omega⟩)) (casts_flat hS)

end Cert.Head

end
-- ==== Proof.Read.lean ====
/- The operations of Proof/Level.lean on matrices given by a function of the two numbers of an entry: each one is such a
   matrix again, and each lemma states its function. -/
module

public import proofs.«01_k».proof.Proof.Level
public import Idealize.ShloMosaic.PureOps.Ideal.Laws

public import Idealize.ShloMosaic.Lib.Pointwise.Reduce

@[expose] public section

noncomputable section

namespace Cert.Head

open Idealize.ShloMosaic
open scoped BigOperators

variable {α : Type}

/-- The matrix of a function of the row and the column. -/
def mk2 {a b : ℕ} (f : ℕ → ℕ → α) : (M a b).Idx → α := fun j => f (j 0).val (j 1).val

/-- Two functions that agree on the entries give one matrix. -/
theorem mk2_congr {a b : ℕ} {f g : ℕ → ℕ → α} (h : ∀ r p, r < a → p < b → f r p = g r p) : (mk2 f : (M a b).Idx → α) = mk2 g :=
  funext fun j => h _ _ (j 0).isLt (j 1).isLt

/-- Every matrix is one of a function. -/
theorem eq_mk2 {a b : ℕ} (x : (M a b).Idx → α) (f : ℕ → ℕ → α) (h : ∀ (r : Fin a) (p : Fin b), x (ix2 r p) = f r.val p.val) :
    x = mk2 f := by
  funext j
  rw [eq_ix2 j]
  exact h _ _

/-- The same, entry by entry. -/
theorem of_entries {a b : ℕ} (x : (M a b).Idx → α) (f : ℕ → ℕ → α) (h : ∀ r p (hr : r < a) (hp : p < b), x (ix2 ⟨r, hr⟩ ⟨p, hp⟩) = f r p) :
    x = mk2 f := eq_mk2 x f fun r p => h _ _ r.isLt p.isLt

theorem blk_mk2 {a b a' b' o p : ℕ} (h : o + a' ≤ a ∧ p + b' ≤ b) (f : ℕ → ℕ → α) :
    blk a' b' o p h (mk2 f : (M a b).Idx → α) = mk2 fun r q => f (o + r) (p + q) := by
  funext j
  have h0 := (j 0).isLt
  have h1 := (j 1).isLt
  refine (extractStridedSlice_apply _ _ _ j (ix2 ⟨o + (j 0).val, ?_⟩ ⟨p + (j 1).val, ?_⟩) ?_).trans rfl
  · exact lt_of_lt_of_le (Nat.add_lt_add_left h0 o) h.1
  · exact lt_of_lt_of_le (Nat.add_lt_add_left h1 p) h.2
  · intro c
    match c with
    | ⟨0, _⟩ => rfl
    | ⟨1, _⟩ => rfl

theorem concat1_mk2 {a b b₁ b₂ : ℕ} (h : b₁ + b₂ = b) (f g : ℕ → ℕ → α) :
    concatenate (M a b) 1 [⟨M a b₁, mk2 f⟩, ⟨M a b₂, mk2 g⟩] (concat1_M h) = mk2 fun r p => if p < b₁ then f r p else g r (p - b₁) := by
  funext j
  have h1 : (j 1).val < b := (j 1).isLt
  by_cases hp : (j 1).val < b₁
  · refine (concatenate_pair_apply_left (s₁ := M a b₁) _ _ _ _ j rfl (ix2 (n0 := a) (n1 := b₁) ⟨(j 0).val, (j 0).isLt⟩ ⟨(j 1).val, hp⟩) ?_).trans ?_
    · intro c
      match c with
      | ⟨0, _⟩ => rfl
      | ⟨1, _⟩ => rfl
    · simp only [mk2]
      rw [if_pos hp]; rfl
  · refine (concatenate_pair_apply_right (s₁ := M a b₁) (s₂ := M a b₂) _ _ _ _ j rfl rfl (ix2 (n0 := a) (n1 := b₂) ⟨(j 0).val, (j 0).isLt⟩ ⟨(j 1).val - b₁, by omega⟩) ?_ ?_).trans ?_
    · intro c hc
      match c, hc with
      | ⟨0, _⟩, _ => rfl
      | ⟨1, _⟩, hc => exact absurd rfl hc
    · show (j 1).val - b₁ + b₁ = (j 1).val
      omega
    · simp only [mk2]
      rw [if_neg hp]; rfl

theorem concat0_mk2 {a b a₁ a₂ : ℕ} (h : a₁ + a₂ = a) (f g : ℕ → ℕ → α) :
    concatenate (M a b) 0 [⟨M a₁ b, mk2 f⟩, ⟨M a₂ b, mk2 g⟩] (concat0_M h) = mk2 fun r p => if r < a₁ then f r p else g (r - a₁) p := by
  funext j
  have h1 : (j 0).val < a := (j 0).isLt
  by_cases hp : (j 0).val < a₁
  · refine (concatenate_pair_apply_left (s₁ := M a₁ b) _ _ _ _ j rfl (ix2 (n0 := a₁) (n1 := b) ⟨(j 0).val, hp⟩ ⟨(j 1).val, (j 1).isLt⟩) ?_).trans ?_
    · intro c
      match c with
      | ⟨0, _⟩ => rfl
      | ⟨1, _⟩ => rfl
    · simp only [mk2]
      rw [if_pos hp]; rfl
  · refine (concatenate_pair_apply_right (s₁ := M a₁ b) (s₂ := M a₂ b) _ _ _ _ j rfl rfl (ix2 (n0 := a₂) (n1 := b) ⟨(j 0).val - a₁, by omega⟩ ⟨(j 1).val, (j 1).isLt⟩) ?_ ?_).trans ?_
    · intro c hc
      match c, hc with
      | ⟨1, _⟩, _ => rfl
      | ⟨0, _⟩, hc => exact absurd rfl hc
    · show (j 0).val - a₁ + a₁ = (j 0).val
      omega
    · simp only [mk2]
      rw [if_neg hp]; rfl

theorem stack_mk2 {a b S n : ℕ} (h : a + b = n) (f g : ℕ → ℕ → α) :
    stack n h (mk2 f : (M a S).Idx → α) (mk2 g : (M b S).Idx → α) = mk2 fun r p => if r < a then f r p else g (r - a) p :=
  concat0_mk2 h f g

theorem roll_mk2 {a S k : ℕ} (hk : k ≤ S) (f : ℕ → ℕ → α) :
    roll k hk (mk2 f : (M a S).Idx → α) = mk2 fun r p => f r ((p + k) % S) := by
  unfold roll
  rw [blk_mk2, blk_mk2, concat1_mk2 (Nat.sub_add_cancel hk)]
  refine mk2_congr fun r p _ hp => ?_
  by_cases h : p < S - k
  · rw [if_pos h, Nat.mod_eq_of_lt (by omega : p + k < S), Nat.zero_add, Nat.add_comm]
  · rw [if_neg h, Nat.mod_eq_sub_mod (by omega : S ≤ p + k), Nat.mod_eq_of_lt (by omega : p + k - S < S), Nat.zero_add, Nat.zero_add]
    congr 1
    omega

theorem rollRows_mk2 {a S k : ℕ} (hk : k ≤ a) (f : ℕ → ℕ → α) :
    rollRows k hk (mk2 f : (M a S).Idx → α) = mk2 fun r p => f ((r + k) % a) p := by
  unfold rollRows
  rw [blk_mk2, blk_mk2, concat0_mk2 (Nat.sub_add_cancel hk)]
  refine mk2_congr fun r p hr _ => ?_
  by_cases h : r < a - k
  · rw [if_pos h, Nat.mod_eq_of_lt (by omega : r + k < a), Nat.zero_add, Nat.add_comm]
  · rw [if_neg h, Nat.mod_eq_sub_mod (by omega : a ≤ r + k), Nat.mod_eq_of_lt (by omega : r + k - a < a), Nat.zero_add, Nat.zero_add]
    congr 1
    omega

theorem bcast_row_mk2 {a b : ℕ} (f : ℕ → ℕ → α) :
    broadcastTo (M a b) (mk2 f : (M 1 b).Idx → α) bcast_row = mk2 fun _ p => f 0 p := by
  funext j
  have h1 : (j 1).val < b := (j 1).isLt
  refine (broadcastTo_apply _ _ j (ix2 ⟨0, Nat.one_pos⟩ ⟨(j 1).val, h1⟩) ?_).trans rfl
  intro c
  match c with
  | ⟨0, _⟩ => rfl
  | ⟨1, _⟩ =>
    show (j 1).val = if b = 1 then 0 else (j 1).val
    split
    · omega
    · rfl

theorem bcast_col_mk2 {a b : ℕ} (f : ℕ → ℕ → α) :
    broadcastTo (M a b) (mk2 f : (M a 1).Idx → α) bcast_col = mk2 fun r _ => f r 0 := by
  funext j
  have h1 : (j 0).val < a := (j 0).isLt
  refine (broadcastTo_apply _ _ j (ix2 ⟨(j 0).val, h1⟩ ⟨0, Nat.one_pos⟩) ?_).trans rfl
  intro c
  match c with
  | ⟨1, _⟩ => rfl
  | ⟨0, _⟩ =>
    show (j 0).val = if a = 1 then 0 else (j 0).val
    split
    · omega
    · rfl

theorem iota1_mk2 {a b : ℕ} : iota .tc (M a b) 32 [1] (iotas_M 1) = mk2 fun _ p => BitVec.ofNat 32 p :=
  funext fun j => iota_single_apply _ _ _ _ _ j

theorem iota0_mk2 {a b : ℕ} : iota .tc (M a b) 32 [0] (iotas_M 0) = mk2 fun r _ => BitVec.ofNat 32 r :=
  funext fun j => iota_single_apply _ _ _ _ _ j

theorem addf_mk2 {a b : ℕ} (f g : ℕ → ℕ → EReal) :
    (addf (F := Ideal) (φ := .f32) (mk2 f : (M a b).Idx → EReal) (mk2 g) : FVec Ideal (M a b) .f32) = mk2 fun r p => f r p + g r p := rfl

theorem subf_mk2 {a b : ℕ} (f g : ℕ → ℕ → EReal) :
    (subf (F := Ideal) (φ := .f32) (mk2 f : (M a b).Idx → EReal) (mk2 g) : FVec Ideal (M a b) .f32) = mk2 fun r p => f r p - g r p := rfl

theorem mulf_mk2 {a b : ℕ} (f g : ℕ → ℕ → EReal) :
    (mulf (F := Ideal) (φ := .f32) (mk2 f : (M a b).Idx → EReal) (mk2 g) : FVec Ideal (M a b) .f32) = mk2 fun r p => f r p * g r p := rfl

theorem broadcast_mk2 {a b : ℕ} (x : α) : broadcast (M a b) x = mk2 fun _ _ => x := rfl

/-- A reshape to the same shape changes nothing. -/
theorem cast_self {s : Shape} (x : s.Idx → α) (h : s.ShapeCasts s) : shapeCast s x h = x :=
  funext fun j => shapeCast_apply x h j j rfl

theorem matmul_mk2 {m k n : ℕ} {φ₁ φ₂ : FTy} (f g : ℕ → ℕ → EReal) :
    matmul (F := Ideal) (φ₁ := φ₁) (φ₂ := φ₂) (DotDims.plain m k n) none (mk2 f) (mk2 g) (constant (M m n) .f32 0x00000000#32)
      = mk2 fun r p => ∑ q ∈ Finset.range k, f r q * g q p := by
  refine eq_mk2 _ _ fun r p => ?_
  refine (Ideal.matmul_plain_apply none (mk2 f) (mk2 g) (constant (M m n) .f32 0x00000000#32) r p).trans ?_
  rw [← Fin.sum_univ_eq_sum_range (fun q => f r.val q * g q p.val)]
  show Ideal.ofBits .f32 0x00000000#32 + _ = _
  rw [show Ideal.ofBits .f32 0x00000000#32 = 0 by simp [Ideal.ofBits, Ideal.ieee], zero_add]
  rfl

theorem rowSum_mk2 {S : ℕ} (f : ℕ → ℕ → EReal) :
    rowSum (F := Ideal) S (mk2 f) = mk2 fun r _ => ∑ p ∈ Finset.range S, f r p := by
  refine eq_mk2 _ _ fun r p => ?_
  unfold rowSum
  refine (shapeCast_apply _ _ _ (ix1 r) ?_).trans ?_
  · rw [Shape.rowMajor_val_one, Shape.rowMajor_val_two]
    have := p.isLt
    show r.val = r.val * 1 + p.val
    omega
  · refine (Ideal.reduceAdd_r2_a1 reduces_M (mk2 f) (ix1 r)).trans ?_
    rw [← Fin.sum_univ_eq_sum_range (fun q => f r.val q)]
    rfl

end Cert.Head

end
-- ==== Proof.Taps.lean ====
/- The convolution and the sums of Proof/Level.lean as sums: a position of a level's image, moved by a tap of the 3x3
   window, is a position of the image framed in zeros. -/
module

public import proofs.«01_k».proof.Proof.Read

@[expose] public section

noncomputable section

namespace Cert.Head

open Idealize.ShloMosaic
open scoped BigOperators

variable {α : Type}

/-- Images with a frame of one zero around each. -/
def padded (W : ℕ) (f : ℕ → ℕ → ℕ → EReal) (c i j : ℕ) : EReal :=
  if (1 ≤ i ∧ i ≤ W) ∧ (1 ≤ j ∧ j ≤ W) then f c (i - 1) (j - 1) else 0

/-- What tap `t` of the nine reads at position `p` of channel `c`, for images whose rows of `W` lie one after another. -/
def shifted (W : ℕ) (X : ℕ → ℕ → EReal) (t c p : ℕ) : EReal :=
  padded W (fun c i j => X c (i * W + j)) c (p / W + t / 3) (p % W + t % 3)

/-- The 3x3 convolution of 96 channels, its weights `w` by output channel, tap and input channel. -/
def conv9 (W : ℕ) (X : ℕ → ℕ → EReal) (w : ℕ → ℕ → ℕ → EReal) (r p : ℕ) : EReal :=
  ∑ t ∈ Finset.range 9, ∑ c ∈ Finset.range 96, w r t c * shifted W X t c p

/-- A coordinate moved by a tap is inside, in words. -/
theorem inside_word : ∀ (lw : Fin 7) (v : Fin 64) (k : Fin 3),
    IntOp.andi (IntOp.cmpi .sge (IntOp.addi (BitVec.ofNat 32 v.val) (BitVec.ofNat 32 (k.val + 4294967295))) 0#32)
      (IntOp.cmpi .slt (IntOp.addi (BitVec.ofNat 32 v.val) (BitVec.ofNat 32 (k.val + 4294967295))) (BitVec.ofNat 32 (2 ^ lw.val)))
      = if 1 ≤ v.val + k.val ∧ v.val + k.val ≤ 2 ^ lw.val then 1#1 else 0#1 := by decide +kernel

theorem inside_mk2 {S lw k : ℕ} (hl : lw < 7) (hk : k < 3) (v : ℕ → ℕ → ℕ) (hv : ∀ p, p < S → v 0 p < 64) :
    inside S (2 ^ lw) (BitVec.ofNat 32 (k + 4294967295)) (mk2 fun r p => BitVec.ofNat 32 (v r p))
      = mk2 fun r p => if 1 ≤ v r p + k ∧ v r p + k ≤ 2 ^ lw then 1#1 else 0#1 := by
  refine eq_mk2 _ _ fun r p => ?_
  obtain rfl : r = 0 := Subsingleton.elim _ _
  exact inside_word ⟨lw, hl⟩ ⟨v 0 p.val, hv _ p.isLt⟩ ⟨k, hk⟩

theorem colOf_mk2 {S lw : ℕ} (hl : lw < 7) : colOf S (2 ^ lw) = mk2 fun _ p => BitVec.ofNat 32 (p % 2 ^ lw) := by
  unfold colOf
  rw [iota1_mk2]
  refine of_entries _ _ fun r p _ _ => ?_
  show BitVec.ofNat 32 p &&& BitVec.ofNat 32 (2 ^ lw - 1) = _
  apply BitVec.eq_of_toNat_eq
  have h : 2 ^ lw ≤ 2 ^ 6 := Nat.pow_le_pow_right (by omega) (by omega)
  have h0 : 0 < 2 ^ lw := Nat.two_pow_pos _
  have hd : 2 ^ lw ∣ 2 ^ 32 := Nat.pow_dvd_pow 2 (by omega)
  rw [BitVec.toNat_and, BitVec.toNat_ofNat, BitVec.toNat_ofNat, BitVec.toNat_ofNat, Nat.mod_eq_of_lt (by omega : 2 ^ lw - 1 < 2 ^ 32),
    Nat.and_two_pow_sub_one_eq_mod, Nat.mod_mod_of_dvd _ hd]
  have := Nat.mod_lt p h0
  exact (Nat.mod_eq_of_lt (by omega)).symm

theorem rowOf_mk2 {S lw : ℕ} (hl : lw < 7) (hS : S ≤ 4096) : rowOf S lw = mk2 fun _ p => BitVec.ofNat 32 (p / 2 ^ lw) := by
  unfold rowOf
  rw [iota1_mk2]
  refine of_entries _ _ fun r p _ hp => ?_
  show (if (BitVec.ofNat 32 lw).toNat < 32 then (BitVec.ofNat 32 p).sshiftRight' (BitVec.ofNat 32 lw) else _) = _
  have h1 : (BitVec.ofNat 32 lw).toNat = lw := by rw [BitVec.toNat_ofNat]; omega
  have h2 : (BitVec.ofNat 32 p).toNat = p := by rw [BitVec.toNat_ofNat]; omega
  rw [if_pos (by omega), BitVec.sshiftRight_eq', h1, BitVec.sshiftRight_eq_of_msb_false]
  · apply BitVec.eq_of_toNat_eq
    rw [BitVec.toNat_ushiftRight, h2, BitVec.toNat_ofNat, Nat.shiftRight_eq_div_pow]
    have := Nat.div_le_self p (2 ^ lw)
    exact (Nat.mod_eq_of_lt (by omega)).symm
  · rw [BitVec.msb_eq_false_iff_two_mul_lt, h2]
    omega

/-- A tap: what the moved image holds, where the move stays inside. -/
theorem tap_mk2 {S lw : ℕ} (ky kx : ℕ) (hl : lw < 7) (hS : S = 2 ^ lw * 2 ^ lw) (hy : ky < 3) (hx : kx < 3) (f : ℕ → ℕ → EReal) :
    tap (F := Ideal) S (2 ^ lw) lw (BitVec.ofNat 32 (ky + 4294967295)) (BitVec.ofNat 32 (kx + 4294967295)) (mk2 f)
      = mk2 fun r p => if (1 ≤ p / 2 ^ lw + ky ∧ p / 2 ^ lw + ky ≤ 2 ^ lw) ∧ (1 ≤ p % 2 ^ lw + kx ∧ p % 2 ^ lw + kx ≤ 2 ^ lw)
          then f r p else 0 := by
  have h : 2 ^ lw ≤ 2 ^ 6 := Nat.pow_le_pow_right (by omega) (by omega)
  have h0 : 0 < 2 ^ lw := Nat.two_pow_pos _
  have hS' : S ≤ 4096 := hS ▸ Nat.mul_le_mul h h
  unfold tap
  rw [rowOf_mk2 hl hS', colOf_mk2 hl,
    inside_mk2 hl hy (fun _ p => p / 2 ^ lw) fun p hp => lt_of_lt_of_le (Nat.div_lt_of_lt_mul (hS ▸ hp)) h,
    inside_mk2 hl hx (fun _ p => p % 2 ^ lw) fun p _ => lt_of_lt_of_le (Nat.mod_lt _ h0) h, cast_self]
  have e : ∀ a b : ℕ → ℕ → BitVec 1, andi (mk2 a : (M 1 S).Idx → BitVec 1) (mk2 b) = mk2 fun r p => IntOp.andi (a r p) (b r p) :=
    fun _ _ => rfl
  rw [e, bcast_row_mk2]
  refine of_entries _ _ fun r p _ _ => ?_
  show Scalar.select (IntOp.andi (if 1 ≤ p / 2 ^ lw + ky ∧ p / 2 ^ lw + ky ≤ 2 ^ lw then 1#1 else 0#1)
    (if 1 ≤ p % 2 ^ lw + kx ∧ p % 2 ^ lw + kx ≤ 2 ^ lw then 1#1 else 0#1)) (f r p) (Ideal.ofBits .bf16 0x0000#16) = _
  unfold Scalar.select
  rw [show Ideal.ofBits .bf16 0x0000#16 = 0 by simp [Ideal.ofBits, Ideal.ieee]]
  by_cases hA : 1 ≤ p / 2 ^ lw + ky ∧ p / 2 ^ lw + ky ≤ 2 ^ lw <;>
    by_cases hB : 1 ≤ p % 2 ^ lw + kx ∧ p % 2 ^ lw + kx ≤ 2 ^ lw <;> simp [hA, hB, IntOp.andi]

/-- The images moved for tap `t`, where the move stays inside. -/
theorem moved {S W : ℕ} (hS : S = W * W) (X : ℕ → ℕ → EReal) (ky kx k c p : ℕ) (hp : p < S) (hy : ky < 3) (hx : kx < 3)
    (hk : k + (W + 1) = ky * W + kx ∨ k + (W + 1) = ky * W + kx + S) :
    (if (1 ≤ p / W + ky ∧ p / W + ky ≤ W) ∧ (1 ≤ p % W + kx ∧ p % W + kx ≤ W) then X c ((p + k) % S) else 0)
      = shifted W X (3 * ky + kx) c p := by
  unfold shifted padded
  have e1 : (3 * ky + kx) / 3 = ky := by omega
  have e2 : (3 * ky + kx) % 3 = kx := by omega
  rw [e1, e2]
  by_cases h : (1 ≤ p / W + ky ∧ p / W + ky ≤ W) ∧ (1 ≤ p % W + kx ∧ p % W + kx ≤ W)
  · rw [if_pos h, if_pos h]
    obtain ⟨⟨h1, h2⟩, h3, h4⟩ := h
    congr 1
    have hp' := Nat.div_add_mod p W
    obtain ⟨a, ha⟩ : ∃ a, p / W + ky = a + 1 := ⟨p / W + ky - 1, by omega⟩
    obtain ⟨b, hb⟩ : ∃ b, p % W + kx = b + 1 := ⟨p % W + kx - 1, by omega⟩
    rw [ha, hb, Nat.add_sub_cancel, Nat.add_sub_cancel]
    have hlt : a * W + b < S := by
      have : (a + 1) * W ≤ W * W := Nat.mul_le_mul_right _ (by omega)
      rw [Nat.add_mul] at this
      omega
    have hm : (p / W + ky) * W = (a + 1) * W := by rw [ha]
    rw [Nat.add_mul, Nat.add_mul] at hm
    rw [Nat.mul_comm] at hp'
    rcases hk with hk | hk
    · rw [show p + k = a * W + b by omega, Nat.mod_eq_of_lt hlt]
    · rw [show p + k = a * W + b + S by omega, Nat.add_mod_right, Nat.mod_eq_of_lt hlt]
  · rw [if_neg h, if_neg h]

theorem tapRoll_mk2 {S lw k : ℕ} (ky kx : ℕ) (hl : lw < 7) (hS : S = 2 ^ lw * 2 ^ lw) (hy : ky < 3) (hx : kx < 3) (hkS : k ≤ S)
    (hk : k + (2 ^ lw + 1) = ky * 2 ^ lw + kx ∨ k + (2 ^ lw + 1) = ky * 2 ^ lw + kx + S) (X : ℕ → ℕ → EReal) :
    tap (F := Ideal) S (2 ^ lw) lw (BitVec.ofNat 32 (ky + 4294967295)) (BitVec.ofNat 32 (kx + 4294967295)) (roll k hkS (mk2 X))
      = mk2 fun c p => shifted (2 ^ lw) X (3 * ky + kx) c p := by
  rw [roll_mk2, tap_mk2 ky kx hl hS hy hx]
  exact mk2_congr fun c p _ hp => moved hS X ky kx k c p hp hy hx hk

/-- Matrices of 96 rows one on another. -/
theorem pieces_mk2 {S k n : ℕ} (hk : 2 ≤ k) (hn : k * 96 = n) (hn0 : 0 < n) (f : ℕ → ℕ → ℕ → EReal)
    (xs : List ((s : Shape) × (s.Idx → EReal))) (hxs : xs.map (·.1) = List.replicate k (M 96 S))
    (h : Shape.Concatenates (xs.map (·.1)) (M n S) 0)
    (hf : ∀ t (ht : t < xs.length), xs[t] = ⟨M 96 S, mk2 (f t)⟩) :
    concatenate (M n S) 0 xs h = mk2 fun q p => f (q / 96) (q % 96) p := by
  refine eq_mk2 _ _ fun q p => ?_
  have hlen : xs.length = k := by simpa using congrArg List.length hxs
  have hq : q.val / 96 < xs.length := by have := q.isLt; omega
  refine (concatenate_apply_piece (0 : Fin 2) xs h (ix2 q p) (q.val / 96) hq (M 96 S) (mk2 (f (q.val / 96))) (hf _ hq) rfl (q.val / 96 * 96) ?_
    (ix2 ⟨q.val % 96, Nat.mod_lt _ (by omega)⟩ p) ?_ ?_).trans rfl
  · rw [List.map_take, hxs, List.take_replicate, List.map_replicate, List.sum_replicate, Nat.min_eq_left (by omega)]
    rfl
  · intro c hc
    match c, hc with
    | ⟨1, _⟩, _ => rfl
    | ⟨0, _⟩, hc => exact absurd rfl hc
  · show q.val / 96 * 96 + q.val % 96 = q.val
    omega

theorem tapsA_mk2 {S lw : ℕ} (hl : lw < 7) (hl0 : 0 < lw) (hS : S = 2 ^ lw * 2 ^ lw) (hW : 2 ^ lw + 1 ≤ S) (X : ℕ → ℕ → EReal) :
    tapsA (F := Ideal) S (2 ^ lw) lw hW (mk2 X) = mk2 fun q p => shifted (2 ^ lw) X (q / 96) (q % 96) p := by
  have h1 : 1 < 2 ^ lw := Nat.one_lt_two_pow (by omega)
  unfold tapsA
  refine pieces_mk2 (k := 4) (by omega) (by omega) (by omega) (fun t => shifted (2 ^ lw) X t) _ rfl _ ?_
  intro t ht
  match t, ht with
  | 0, _ => exact Sigma.ext rfl (heq_of_eq (tapRoll_mk2 0 0 hl hS (by omega) (by omega) (by omega) (by omega) X))
  | 1, _ => exact Sigma.ext rfl (heq_of_eq (tapRoll_mk2 0 1 hl hS (by omega) (by omega) (by omega) (by omega) X))
  | 2, _ => exact Sigma.ext rfl (heq_of_eq (tapRoll_mk2 0 2 hl hS (by omega) (by omega) (by omega) (by omega) X))
  | 3, _ => exact Sigma.ext rfl (heq_of_eq (tapRoll_mk2 1 0 hl hS (by omega) (by omega) (by omega) (by omega) X))

theorem tapsB_mk2 {S lw : ℕ} (hl : lw < 7) (hl0 : 0 < lw) (hS : S = 2 ^ lw * 2 ^ lw) (hW : 2 ^ lw + 1 ≤ S) (X : ℕ → ℕ → EReal) :
    tapsB (F := Ideal) S (2 ^ lw) lw hW (mk2 X) = mk2 fun q p => shifted (2 ^ lw) X (4 + q / 96) (q % 96) p := by
  have h1 : 1 < 2 ^ lw := Nat.one_lt_two_pow (by omega)
  unfold tapsB
  refine pieces_mk2 (k := 5) (by omega) (by omega) (by omega) (fun t => shifted (2 ^ lw) X (4 + t)) _ rfl _ ?_
  intro t ht
  match t, ht with
  | 0, _ =>
    refine Sigma.ext rfl (heq_of_eq ?_)
    refine (tap_mk2 1 1 hl hS (by omega) (by omega) X).trans ?_
    show _ = mk2 (shifted (2 ^ lw) X (4 + 0))
    refine mk2_congr fun c p _ hp => ?_
    refine Eq.trans ?_ (moved hS X 1 1 0 c p hp (by omega) (by omega) (by omega))
    rw [Nat.mod_eq_of_lt (a := p + 0) hp]
    rfl
  | 1, _ => exact Sigma.ext rfl (heq_of_eq (tapRoll_mk2 1 2 hl hS (by omega) (by omega) (by omega) (by omega) X))
  | 2, _ => exact Sigma.ext rfl (heq_of_eq (tapRoll_mk2 2 0 hl hS (by omega) (by omega) (by omega) (by omega) X))
  | 3, _ => exact Sigma.ext rfl (heq_of_eq (tapRoll_mk2 2 1 hl hS (by omega) (by omega) (by omega) (by omega) X))
  | 4, _ => exact Sigma.ext rfl (heq_of_eq (tapRoll_mk2 2 2 hl hS (by omega) (by omega) (by omega) (by omega) X))

/-- A sum over rows of `k` is a sum of sums. -/
theorem sum_rows {N : ℕ} (n k : ℕ) (hN : N = n * k) (f : ℕ → EReal) :
    ∑ q ∈ Finset.range N, f q = ∑ t ∈ Finset.range n, ∑ c ∈ Finset.range k, f (t * k + c) := by
  subst hN
  induction n with
  | zero => simp
  | succ n ih => rw [Nat.add_mul, Nat.one_mul, Finset.sum_range_add, ih, Finset.sum_range_succ]

/-- The convolution is the sum over taps and channels; its weights by column `96 t + c`. -/
theorem conv_mk2 {S lw : ℕ} (hl : lw < 7) (hl0 : 0 < lw) (hS : S = 2 ^ lw * 2 ^ lw) (hW : 2 ^ lw + 1 ≤ S) (X : ℕ → ℕ → EReal)
    (w : ℕ → ℕ → EReal) :
    conv (F := Ideal) S (2 ^ lw) lw hW (mk2 X) (mk2 w) (mk2 fun r q => w r (384 + q))
      = mk2 (conv9 (2 ^ lw) X fun r t c => w r (t * 96 + c)) := by
  unfold conv
  rw [tapsA_mk2 hl hl0 hS, tapsB_mk2 hl hl0 hS, cast_self, cast_self, matmul_mk2, matmul_mk2, addf_mk2]
  refine mk2_congr fun r p _ _ => ?_
  rw [sum_rows 4 96 rfl, sum_rows 5 96 rfl]
  refine Eq.trans ?_ (Finset.sum_range_add (fun t => ∑ c ∈ Finset.range 96, w r (t * 96 + c) * shifted (2 ^ lw) X t c p) 4 5).symm
  refine congrArg₂ (· + ·) ?_ ?_
  · refine Finset.sum_congr rfl fun t _ => Finset.sum_congr rfl fun c hc => ?_
    have := Finset.mem_range.1 hc
    rw [show (t * 96 + c) / 96 = t by omega, show (t * 96 + c) % 96 = c by omega]
  · refine Finset.sum_congr rfl fun t _ => Finset.sum_congr rfl fun c hc => ?_
    have := Finset.mem_range.1 hc
    rw [show (t * 96 + c) / 96 = t by omega, show (t * 96 + c) % 96 = c by omega, show 384 + (t * 96 + c) = (4 + t) * 96 + c by omega]

/-- The balanced tree is the sum. -/
theorem tree_mk2 {a b : ℕ} (k : ℕ) (f : ℕ → ℕ → ℕ → EReal) :
    tree (F := Ideal) k (fun i => (mk2 (f i.val) : (M a b).Idx → EReal)) = mk2 fun r p => ∑ i ∈ Finset.range (2 ^ k), f i r p := by
  induction k generalizing f with
  | zero => simp [tree]
  | succ k ih =>
    refine (congrArg₂ addf (ih f) (ih fun i => f (2 ^ k + i))).trans (eq_mk2 _ _ fun r p => ?_)
    show (∑ i ∈ Finset.range (2 ^ k), f i r.val p.val) + (∑ i ∈ Finset.range (2 ^ k), f (2 ^ k + i) r.val p.val) = _
    rw [pow_succ, Nat.mul_two, Finset.sum_range_add]

theorem lane_mk2 {S k : ℕ} (hS : 2 ^ k * 128 = S) (f : ℕ → ℕ → EReal) (i : Fin (2 ^ k)) :
    lane (F := Ideal) S k hS (mk2 f) i = mk2 fun r p => f r (i.val * 128 + p) := by
  unfold lane
  rw [blk_mk2]
  exact mk2_congr fun r p _ _ => by rw [Nat.zero_add, Nat.mul_comm]

theorem laneSum_mk2 {S k : ℕ} (hS : 2 ^ k * 128 = S) (f : ℕ → ℕ → EReal) :
    laneSum (F := Ideal) S k hS (mk2 f) = mk2 fun r _ => ∑ p ∈ Finset.range S, f r p := by
  unfold laneSum
  refine (congrArg (fun x => rowSum 128 (tree k x)) (funext (lane_mk2 hS f))).trans ?_
  refine (congrArg (rowSum 128) (tree_mk2 k fun i r p => f r (i * 128 + p))).trans ?_
  rw [rowSum_mk2]
  refine mk2_congr fun r p _ _ => ?_
  rw [sum_rows (2 ^ k) 128 hS.symm, Finset.sum_comm]

theorem laneSqSum_mk2 {S k : ℕ} (hS : 2 ^ k * 128 = S) (f : ℕ → ℕ → EReal) :
    laneSqSum (F := Ideal) S k hS (mk2 f) = mk2 fun r _ => ∑ p ∈ Finset.range S, f r p * f r p := by
  refine Eq.trans ?_ (laneSum_mk2 hS fun r p => f r p * f r p)
  unfold laneSqSum laneSum
  congr 2

end Cert.Head

end
-- ==== Proof.Stats.lean ====
/- The group statistics, the normalisation, the activation and the 1x1 convolution of Proof/Level.lean, entry by entry. -/
module

public import proofs.«01_k».proof.Proof.Taps

@[expose] public section

noncomputable section

namespace Cert.Head

open Idealize.ShloMosaic
open scoped BigOperators

/-- The sum over the three rows of a row's group. -/
def grp (f : ℕ → EReal) (r : ℕ) : EReal := f (r / 3 * 3) + f (r / 3 * 3 + 1) + f (r / 3 * 3 + 2)

/-- A channel's sum with its bias added at each of `n` positions. -/
def sum1 (n : EReal) (b s1 : ℕ → EReal) (r : ℕ) : EReal := s1 r + n * b r

/-- A channel's sum of squares with its bias added at each of `n` positions. -/
def sum2 (n : EReal) (b s1 s2 : ℕ → EReal) (r : ℕ) : EReal := s2 r + 2 * b r * s1 r + n * b r * b r

/-- The constant under the root. -/
def eps : EReal := Ideal.ofBits .f32 0x3727C5AC#32

/-- One half, as printed. -/
def half : EReal := Ideal.ofBits .f32 0x3F000000#32

/-- The kernel's mean of a row's group. -/
def kmean (n cnt : EReal) (b s1 : ℕ → EReal) (r : ℕ) : EReal := grp (sum1 n b s1) r * cnt

/-- The kernel's factor of a row. -/
def kscale (n cnt : EReal) (b gam s1 s2 : ℕ → EReal) (r : ℕ) : EReal :=
  Ideal.rsqrt (grp (sum2 n b s1 s2) r * cnt - kmean n cnt b s1 r * kmean n cnt b s1 r + eps) * gam r

/-- The kernel's normalised row. -/
def knorm (n cnt : EReal) (b gam bet s1 s2 : ℕ → EReal) (h : ℕ → ℕ → EReal) (r p : ℕ) : EReal :=
  h r p * kscale n cnt b gam s1 s2 r + (bet r + (b r - kmean n cnt b s1 r) * kscale n cnt b gam s1 s2 r)

/-- The kernel's activation. -/
def kact (x : EReal) : EReal := x * (half * Ideal.tanh (x * half) + half)

/-- The kernel's 88 rows, from the convolution `h`. -/
def krows (S : ℕ) (n cnt : EReal) (b gam bet fb : ℕ → EReal) (wf h : ℕ → ℕ → EReal) (r p : ℕ) : EReal :=
  (∑ q ∈ Finset.range 192, wf r q * kact (knorm n cnt b gam bet (fun r => ∑ p ∈ Finset.range S, h r p)
    (fun r => ∑ p ∈ Finset.range S, h r p * h r p) h q p)) + fb r

theorem stats_mk2 (n : EReal) (b s1 s2 : ℕ → EReal) :
    stats (F := Ideal) n (mk2 fun r _ => b r) (mk2 fun r _ => s1 r) (mk2 fun r _ => s2 r)
      = mk2 fun r _ => if r < 192 then sum1 n b s1 r else sum2 n b s1 s2 (r - 192) := by
  refine (stack_mk2 rfl (fun r _ => sum1 n b s1 r)
    fun r _ => s2 r + Ideal.ofBits .f32 0x40000000#32 * b r * s1 r + n * b r * b r).trans ?_
  rw [show Ideal.ofBits .f32 0x40000000#32 = 2 by simp [Ideal.ofBits, Ideal.ieee, -EReal.coe_mul]; norm_num; rfl]
  rfl

theorem firsts_word : ∀ r : Fin 384, firsts (ix2 r 0) = if r.val % 3 = 0 then 1#1 else 0#1 := by decide +kernel

theorem firsts_mk2 : firsts = mk2 fun r _ => if r % 3 = 0 then 1#1 else 0#1 := by
  refine eq_mk2 _ _ fun r p => ?_
  obtain rfl : p = 0 := Subsingleton.elim _ _
  exact firsts_word r

theorem heads_mk2 (st : ℕ → EReal) :
    heads (F := Ideal) (mk2 fun r _ => st r)
      = mk2 fun r _ => if r % 3 = 0 then st r + st ((r + 1) % 384) + st ((r + 2) % 384) else 0 := by
  unfold heads
  rw [rollRows_mk2, rollRows_mk2, addf_mk2, addf_mk2, firsts_mk2]
  refine of_entries _ _ fun r p _ _ => ?_
  show Scalar.select (if r % 3 = 0 then 1#1 else 0#1) (st r + st ((r + 1) % 384) + st ((r + 2) % 384))
    (Ideal.ofBits .f32 0x00000000#32) = _
  rw [show Ideal.ofBits .f32 0x00000000#32 = 0 by simp [Ideal.ofBits, Ideal.ieee]]
  unfold Scalar.select
  by_cases h : r % 3 = 0 <;> simp [h]

/-- After the two steps each row holds the sum of its group. -/
theorem spread_mk2 (st : ℕ → EReal) :
    spread (F := Ideal) (heads (mk2 fun r _ => st r)) = mk2 fun r _ => grp st r := by
  unfold spread
  rw [heads_mk2, rollRows_mk2, rollRows_mk2, addf_mk2, addf_mk2]
  refine mk2_congr fun r p hr _ => ?_
  unfold grp
  have h3 : r % 3 = 0 ∨ r % 3 = 1 ∨ r % 3 = 2 := by omega
  rcases h3 with h | h | h
  · rw [if_pos h, if_neg (by omega), if_neg (by omega), add_zero, add_zero, show r / 3 * 3 = r by omega,
      show (r + 1) % 384 = r + 1 by omega, show (r + 2) % 384 = r + 2 by omega]
  · rw [if_neg (by omega), if_pos (by omega), if_neg (by omega), zero_add, add_zero, show (r + 383) % 384 = r / 3 * 3 by omega,
      show (r / 3 * 3 + 1) % 384 = r / 3 * 3 + 1 by omega, show (r / 3 * 3 + 2) % 384 = r / 3 * 3 + 2 by omega]
  · rw [if_neg (by omega), if_neg (by omega), if_pos (by omega), zero_add, zero_add, show (r + 382) % 384 = r / 3 * 3 by omega,
      show (r / 3 * 3 + 1) % 384 = r / 3 * 3 + 1 by omega, show (r / 3 * 3 + 2) % 384 = r / 3 * 3 + 2 by omega]

theorem meanOf_mk2 (n cnt : EReal) (b s1 s2 : ℕ → EReal) :
    meanOf (F := Ideal) cnt (mk2 fun r _ => grp (fun r => if r < 192 then sum1 n b s1 r else sum2 n b s1 s2 (r - 192)) r)
      = mk2 fun r _ => kmean n cnt b s1 r := by
  unfold meanOf
  rw [blk_mk2, broadcast_mk2, mulf_mk2]
  refine mk2_congr fun r p hr _ => ?_
  unfold kmean grp
  beta_reduce
  rw [Nat.zero_add, if_pos (by omega), if_pos (by omega), if_pos (by omega)]

theorem scaleOf_mk2 (n cnt : EReal) (b gam s1 s2 : ℕ → EReal) :
    scaleOf (F := Ideal) cnt (mk2 fun r _ => gam r)
        (mk2 fun r _ => grp (fun r => if r < 192 then sum1 n b s1 r else sum2 n b s1 s2 (r - 192)) r)
      = mk2 fun r _ => kscale n cnt b gam s1 s2 r := by
  unfold scaleOf
  rw [meanOf_mk2, blk_mk2]
  refine of_entries _ _ fun r p hr _ => ?_
  show Ideal.rsqrt (grp (fun r => if r < 192 then sum1 n b s1 r else sum2 n b s1 s2 (r - 192)) (192 + r) * cnt
    - kmean n cnt b s1 r * kmean n cnt b s1 r + eps) * gam r = _
  unfold kscale
  rw [show grp (fun r => if r < 192 then sum1 n b s1 r else sum2 n b s1 s2 (r - 192)) (192 + r) = grp (sum2 n b s1 s2) r by
    unfold grp
    beta_reduce
    rw [if_neg (by omega), if_neg (by omega), if_neg (by omega), show (192 + r) / 3 * 3 - 192 = r / 3 * 3 by omega,
      show (192 + r) / 3 * 3 + 1 - 192 = r / 3 * 3 + 1 by omega, show (192 + r) / 3 * 3 + 2 - 192 = r / 3 * 3 + 2 by omega]]

theorem normed_mk2 (S : ℕ) (n cnt : EReal) (b gam bet s1 s2 : ℕ → EReal) (h : ℕ → ℕ → EReal) :
    normed (F := Ideal) S cnt (mk2 fun r _ => b r) (mk2 fun r _ => gam r) (mk2 fun r _ => bet r)
        (mk2 fun r _ => grp (fun r => if r < 192 then sum1 n b s1 r else sum2 n b s1 s2 (r - 192)) r) (mk2 h)
      = mk2 (knorm n cnt b gam bet s1 s2 h) := by
  unfold normed
  rw [meanOf_mk2, scaleOf_mk2, bcast_col_mk2, subf_mk2, mulf_mk2, mulf_mk2, addf_mk2, bcast_col_mk2, addf_mk2]
  rfl

theorem act_mk2 (S : ℕ) (h : ℕ → ℕ → EReal) : act (F := Ideal) S (mk2 h) = mk2 fun r p => kact (h r p) := rfl

theorem outs_mk2 (S : ℕ) (wf h : ℕ → ℕ → EReal) (fb : ℕ → EReal) :
    outs (F := Ideal) S (mk2 wf) (mk2 fun r _ => fb r) (mk2 h)
      = mk2 fun r p => (∑ q ∈ Finset.range 192, wf r q * h q p) + fb r := by
  unfold outs
  rw [cast_self, cast_self, bcast_col_mk2]
  refine (congrArg (fun x => addf x _) (matmul_mk2 (φ₁ := .bf16) (φ₂ := .bf16) wf h)).trans ?_
  rw [addf_mk2]

/-- The 88 rows at a level, from the convolution and its sums. -/
theorem body_mk2 (S : ℕ) (n cnt : EReal) (b gam bet fb : ℕ → EReal) (wf h : ℕ → ℕ → EReal) :
    body (F := Ideal) S n cnt (mk2 fun r _ => b r) (mk2 fun r _ => gam r) (mk2 fun r _ => bet r) (mk2 wf) (mk2 fun r _ => fb r)
        (mk2 fun r _ => ∑ p ∈ Finset.range S, h r p) (mk2 fun r _ => ∑ p ∈ Finset.range S, h r p * h r p) (mk2 h)
      = mk2 (krows S n cnt b gam bet fb wf h) := by
  unfold body
  rw [stats_mk2, spread_mk2, normed_mk2, act_mk2, outs_mk2]
  rfl

theorem boxes_word : ∀ r : Fin 8,
    IntOp.andi (IntOp.cmpi .sge (BitVec.ofNat 32 r.val) 1#32) (IntOp.cmpi .slt (BitVec.ofNat 32 r.val) 5#32)
      = if 1 ≤ r.val ∧ r.val < 5 then 1#1 else 0#1 := by decide +kernel

/-- The last eight rows. -/
theorem boxes_mk2 (S : ℕ) (stride : EReal) (y : ℕ → ℕ → EReal) :
    boxes (F := Ideal) S stride (mk2 y)
      = mk2 fun r p => if 1 ≤ r ∧ r < 5 then max (y (80 + r) p * stride) 0 else y (80 + r) p := by
  unfold boxes
  rw [iota0_mk2, cast_self, blk_mk2]
  have e : andi (cmpi .sge (mk2 fun r _ => BitVec.ofNat 32 r : (M 8 1).Idx → BitVec 32) (broadcast (M 8 1) 1#32))
      (cmpi .slt (mk2 fun r _ => BitVec.ofNat 32 r) (broadcast (M 8 1) 5#32)) = mk2 fun r _ => if 1 ≤ r ∧ r < 5 then 1#1 else 0#1 :=
    eq_mk2 _ _ fun r _ => boxes_word r
  rw [e, bcast_col_mk2]
  refine of_entries _ _ fun r p hr _ => ?_
  show Scalar.select (if 1 ≤ r ∧ r < 5 then 1#1 else 0#1) (max (y (80 + r) (0 + p) * stride) (Ideal.ofBits .f32 0x00000000#32)) (y (80 + r) (0 + p)) = _
  rw [show Ideal.ofBits .f32 0x00000000#32 = 0 by simp [Ideal.ofBits, Ideal.ieee], Nat.zero_add]
  unfold Scalar.select
  by_cases h : 1 ≤ r ∧ r < 5 <;> simp [h]

/-- A result's block, entry by entry. -/
theorem result_apply {a S a' o : ℕ} (h : o + a' ≤ a) (y : ℕ → ℕ → EReal) (r : Fin a') (p : Fin S) :
    result a' o h (mk2 y : (M a S).Idx → EReal) (ix3 0 r p) = y (o + r.val) p.val := by
  unfold result
  rw [blk_mk2]
  refine (shapeCast_apply _ _ _ (ix2 r p) ?_).trans ?_
  · rw [Shape.rowMajor_val_two, Shape.rowMajor_val_three]
    show r.val * S + p.val = (0 * a' + r.val) * S + p.val
    rw [Nat.zero_mul, Nat.zero_add]
  · show y (o + r.val) (0 + p.val) = _
    rw [Nat.zero_add]

end Cert.Head

end
-- ==== Proof.Group.lean ====
/- The mathematics of the group normalisation and of the activation. The kernel takes a group's variance from the sums of the
   convolution before its bias and of its squares; the reference subtracts the mean first. On real numbers these are the
   same, and so are the two ways the activation is written, at the infinities too. -/
module

public import proofs.«01_k».proof.Proof.Stats
public import Mathlib.Tactic.LinearCombination
public import Mathlib.Tactic.Positivity
public import Mathlib.Tactic.FieldSimp

@[expose] public section

noncomputable section

namespace Cert.Head

open Idealize.ShloMosaic
open scoped BigOperators

/-! ## The reference's formulas -/

/-- The sum over a group's three channels and all positions. -/
def total (S : ℕ) (f : ℕ → ℕ → EReal) (g : ℕ) : EReal := ∑ k ∈ Finset.range 3, ∑ p ∈ Finset.range S, f (g * 3 + k) p

/-- The mean of a channel's group. -/
def rmean (S : ℕ) (N : EReal) (h : ℕ → ℕ → EReal) (r : ℕ) : EReal := Ideal.div (total S h (r / 3)) N

/-- The variance of a channel's group. -/
def rvar (S : ℕ) (N : EReal) (h : ℕ → ℕ → EReal) (r : ℕ) : EReal :=
  Ideal.div (total S (fun o p => (h o p - rmean S N h o) * (h o p - rmean S N h o)) (r / 3)) N

/-- A normalised channel. -/
def rnorm (S : ℕ) (N : EReal) (gam bet : ℕ → EReal) (h : ℕ → ℕ → EReal) (r p : ℕ) : EReal :=
  Ideal.div (h r p - rmean S N h r) (Ideal.sqrt (rvar S N h r + eps)) * gam r + bet r

/-- The activation `x * sigmoid x`. -/
def ract (x : EReal) : EReal := x * Ideal.div 1 (1 + Ideal.exp (-x))

/-- A head's rows, from its convolution with bias. -/
def rrows (S : ℕ) (N : EReal) (gam bet fb : ℕ → EReal) (fw h : ℕ → ℕ → EReal) (r p : ℕ) : EReal :=
  (∑ c ∈ Finset.range 96, fw r c * ract (rnorm S N gam bet h c p)) + fb r

/-! ## The activation -/

theorem half_eq : half = ((1 / 2 : ℝ) : EReal) := by
  unfold half
  simp [Ideal.ofBits, Ideal.ieee, -EReal.coe_mul]
  norm_num

theorem sigmoid_eq (x : ℝ) : 1 / (1 + Real.exp (-x)) = 1 / 2 * Real.tanh (x * (1 / 2)) + 1 / 2 := by
  rw [Real.tanh_eq_sinh_div_cosh, Real.sinh_eq, Real.cosh_eq]
  have e1 : Real.exp (-x) = Real.exp (-(x * (1 / 2))) * Real.exp (-(x * (1 / 2))) := by rw [← Real.exp_add]; ring_nf
  have e2 : Real.exp (-(x * (1 / 2))) * Real.exp (x * (1 / 2)) = 1 := by rw [← Real.exp_add]; simp
  rw [e1]
  have ha := Real.exp_pos (x * (1 / 2))
  have hb := Real.exp_pos (-(x * (1 / 2)))
  generalize Real.exp (x * (1 / 2)) = a at *
  generalize Real.exp (-(x * (1 / 2))) = b at *
  field_simp
  linear_combination (-2 * b) * e2

/-- The two ways of writing the activation agree, at the infinities too. -/
theorem act_eq (x : EReal) : kact x = ract x := by
  unfold kact ract
  rw [half_eq]
  induction x with
  | bot =>
    have h1 : (⊥ : EReal) * ((1 / 2 : ℝ) : EReal) = ⊥ := EReal.bot_mul_coe_of_pos (by norm_num)
    rw [h1]
    show ⊥ * (((1 / 2 : ℝ) : EReal) * (-1) + ((1 / 2 : ℝ) : EReal)) = ⊥ * Ideal.div 1 (1 + Ideal.exp (- ⊥))
    have h2 : ((1 / 2 : ℝ) : EReal) * (-1) + ((1 / 2 : ℝ) : EReal) = 0 := by
      have : (-1 : EReal) = ((-1 : ℝ) : EReal) := by norm_num
      rw [this, ← EReal.coe_mul, ← EReal.coe_add]
      norm_num
    have h3 : Ideal.div 1 (1 + Ideal.exp (- (⊥ : EReal))) = 0 := by
      rw [EReal.neg_bot]
      show Ideal.div 1 (1 + ⊤) = 0
      have : (1 : EReal) + ⊤ = ⊤ := EReal.coe_add_top 1
      rw [this]
      unfold Ideal.div
      simp
    rw [h2, h3]
  | top =>
    have h1 : (⊤ : EReal) * ((1 / 2 : ℝ) : EReal) = ⊤ := EReal.top_mul_coe_of_pos (by norm_num)
    rw [h1]
    show ⊤ * (((1 / 2 : ℝ) : EReal) * 1 + ((1 / 2 : ℝ) : EReal)) = ⊤ * Ideal.div 1 (1 + Ideal.exp (- ⊤))
    have h2 : ((1 / 2 : ℝ) : EReal) * 1 + ((1 / 2 : ℝ) : EReal) = 1 := by
      rw [mul_one, ← EReal.coe_add]
      norm_num
    have h3 : Ideal.div 1 (1 + Ideal.exp (- (⊤ : EReal))) = 1 := by
      rw [EReal.neg_top]
      show Ideal.div 1 (1 + 0) = 1
      unfold Ideal.div
      simp
    rw [h2, h3]
  | coe x =>
    have e : Ideal.div 1 (1 + Ideal.exp (-(x : EReal))) = ((1 / (1 + Real.exp (-x)) : ℝ) : EReal) := by
      show Ideal.div 1 (1 + ((Real.exp (-x) : ℝ) : EReal)) = _
      have hp : 1 + Real.exp (-x) ≠ 0 := by positivity
      have e1 : (1 : EReal) + ((Real.exp (-x) : ℝ) : EReal) = ((1 + Real.exp (-x) : ℝ) : EReal) := by simp
      rw [e1]
      unfold Ideal.div
      rw [if_neg (by exact_mod_cast hp), one_mul, ← EReal.coe_inv, one_div]
    rw [e, sigmoid_eq]
    rw [← EReal.coe_mul x]
    show (x : EReal) * (((1 / 2 : ℝ) : EReal) * ((Real.tanh (x * (1 / 2)) : ℝ) : EReal) + ((1 / 2 : ℝ) : EReal)) = _
    rw [← EReal.coe_mul, ← EReal.coe_add]

/-! ## The variance -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A sum of squares about any number, from the sum and the sum of squares. -/
theorem sq_about (S : ℕ) (H : ℕ → ℝ) (d : ℝ) :
    ∑ p ∈ Finset.range S, (H p + d) * (H p + d)
      = (∑ p ∈ Finset.range S, H p * H p) + 2 * d * (∑ p ∈ Finset.range S, H p) + S * d * d := by
  induction S with
  | zero => simp
  | succ S ih =>
    rw [Finset.sum_range_succ, Finset.sum_range_succ, Finset.sum_range_succ, ih]
    push_cast
    ring

/-- A sum of a shifted sequence. -/
theorem sum_about (S : ℕ) (H : ℕ → ℝ) (d : ℝ) :
    ∑ p ∈ Finset.range S, (H p + d) = (∑ p ∈ Finset.range S, H p) + S * d := by
  rw [Finset.sum_add_distrib]
  simp

/-- The mean of a group of three, on real numbers. -/
def mean3 (S : ℕ) (H : ℕ → ℕ → ℝ) (B : ℕ → ℝ) (r : ℕ) : ℝ :=
  (((∑ p ∈ Finset.range S, H (r / 3 * 3) p) + S * B (r / 3 * 3)) + ((∑ p ∈ Finset.range S, H (r / 3 * 3 + 1) p) + S * B (r / 3 * 3 + 1))
    + ((∑ p ∈ Finset.range S, H (r / 3 * 3 + 2) p) + S * B (r / 3 * 3 + 2))) * (1 / (3 * S))

/-- The variance of a group of three, on real numbers. -/
def var3 (S : ℕ) (H : ℕ → ℕ → ℝ) (B : ℕ → ℝ) (r : ℕ) : ℝ :=
  ((∑ p ∈ Finset.range S, (H (r / 3 * 3) p + (B (r / 3 * 3) - mean3 S H B r)) * (H (r / 3 * 3) p + (B (r / 3 * 3) - mean3 S H B r)))
    + (∑ p ∈ Finset.range S, (H (r / 3 * 3 + 1) p + (B (r / 3 * 3 + 1) - mean3 S H B r)) * (H (r / 3 * 3 + 1) p + (B (r / 3 * 3 + 1) - mean3 S H B r)))
    + (∑ p ∈ Finset.range S, (H (r / 3 * 3 + 2) p + (B (r / 3 * 3 + 2) - mean3 S H B r)) * (H (r / 3 * 3 + 2) p + (B (r / 3 * 3 + 2) - mean3 S H B r))))
    * (1 / (3 * S))

theorem var3_nonneg (S : ℕ) (H : ℕ → ℕ → ℝ) (B : ℕ → ℝ) (r : ℕ) : 0 ≤ var3 S H B r := by
  unfold var3
  have h : ∀ f : ℕ → ℝ, 0 ≤ ∑ p ∈ Finset.range S, f p * f p := fun f => Finset.sum_nonneg fun p _ => mul_self_nonneg _
  have h1 := h fun p => H (r / 3 * 3) p + (B (r / 3 * 3) - mean3 S H B r)
  have h2 := h fun p => H (r / 3 * 3 + 1) p + (B (r / 3 * 3 + 1) - mean3 S H B r)
  have h3 := h fun p => H (r / 3 * 3 + 2) p + (B (r / 3 * 3 + 2) - mean3 S H B r)
  exact mul_nonneg (add_nonneg (add_nonneg h1 h2) h3) (by positivity)

/-- The variance from the sums, less the square of the mean. -/
theorem var3_onepass (S : ℕ) (hS : 0 < S) (H : ℕ → ℕ → ℝ) (B : ℕ → ℝ) (r : ℕ) :
    ((((∑ p ∈ Finset.range S, H (r / 3 * 3) p * H (r / 3 * 3) p) + 2 * B (r / 3 * 3) * (∑ p ∈ Finset.range S, H (r / 3 * 3) p)
          + S * B (r / 3 * 3) * B (r / 3 * 3))
        + ((∑ p ∈ Finset.range S, H (r / 3 * 3 + 1) p * H (r / 3 * 3 + 1) p)
          + 2 * B (r / 3 * 3 + 1) * (∑ p ∈ Finset.range S, H (r / 3 * 3 + 1) p) + S * B (r / 3 * 3 + 1) * B (r / 3 * 3 + 1))
        + ((∑ p ∈ Finset.range S, H (r / 3 * 3 + 2) p * H (r / 3 * 3 + 2) p)
          + 2 * B (r / 3 * 3 + 2) * (∑ p ∈ Finset.range S, H (r / 3 * 3 + 2) p) + S * B (r / 3 * 3 + 2) * B (r / 3 * 3 + 2)))
        * (1 / (3 * S)) - mean3 S H B r * mean3 S H B r) = var3 S H B r := by
  have hS' : (S : ℝ) ≠ 0 := by exact_mod_cast hS.ne'
  have hm : mean3 S H B r * (3 * S) = ((∑ p ∈ Finset.range S, H (r / 3 * 3) p) + S * B (r / 3 * 3))
      + ((∑ p ∈ Finset.range S, H (r / 3 * 3 + 1) p) + S * B (r / 3 * 3 + 1))
      + ((∑ p ∈ Finset.range S, H (r / 3 * 3 + 2) p) + S * B (r / 3 * 3 + 2)) := by
    unfold mean3
    field_simp
  unfold var3
  rw [sq_about, sq_about, sq_about]
  generalize mean3 S H B r = m at *
  have hc : (1 / (3 * S) : ℝ) * (3 * S) = 1 := by field_simp
  generalize (1 / (3 * S) : ℝ) = u at *
  linear_combination (-2 * m * u) * hm + (m * m) * hc

theorem eps_pos : ∃ e : ℝ, 0 < e ∧ eps = (e : EReal) := by
  refine ⟨_, ?_, by unfold eps; simp [Ideal.ofBits, Ideal.ieee, -EReal.coe_mul]; rfl⟩
  positivity

/-- On real numbers, the kernel's normalised row is the reference's. -/
theorem norm_eq (S : ℕ) (hS : 0 < S) (H : ℕ → ℕ → ℝ) (B G : ℕ → ℝ) (bet : ℕ → EReal) (r p : ℕ) :
    knorm ((S : ℝ) : EReal) ((1 / (3 * S) : ℝ) : EReal) (fun r => (B r : EReal)) (fun r => (G r : EReal)) bet
        (fun r => ∑ p ∈ Finset.range S, (H r p : EReal)) (fun r => ∑ p ∈ Finset.range S, (H r p : EReal) * (H r p : EReal))
        (fun r p => (H r p : EReal)) r p
      = rnorm S ((3 * S : ℝ) : EReal) (fun r => (G r : EReal)) bet (fun r p => (H r p : EReal) + (B r : EReal)) r p := by
  have hS' : (S : ℝ) ≠ 0 := by exact_mod_cast hS.ne'
  have hS3 : (3 * S : ℝ) ≠ 0 := by positivity
  have hdiv : ∀ x : ℝ, Ideal.div (x : EReal) ((3 * S : ℝ) : EReal) = ((x * (1 / (3 * S)) : ℝ) : EReal) := by
    intro x
    unfold Ideal.div
    rw [if_neg (by exact_mod_cast hS3), ← EReal.coe_inv, ← EReal.coe_mul, one_div]
  have hm : ∀ r, rmean S ((3 * S : ℝ) : EReal) (fun r p => (H r p : EReal) + (B r : EReal)) r = (mean3 S H B r : EReal) := by
    intro r
    unfold rmean total
    simp only [← EReal.coe_add, ← coe_sum]
    rw [hdiv]
    unfold mean3
    rw [Finset.sum_range_succ, Finset.sum_range_succ, Finset.sum_range_one, sum_about, sum_about, sum_about]
    rfl
  have hk : ∀ r, kmean ((S : ℝ) : EReal) ((1 / (3 * S) : ℝ) : EReal) (fun r => (B r : EReal))
      (fun r => ∑ p ∈ Finset.range S, (H r p : EReal)) r = (mean3 S H B r : EReal) := by
    intro r
    unfold kmean grp sum1
    simp only [← EReal.coe_add, ← EReal.coe_mul, ← coe_sum]
    rfl
  have hmr : ∀ k, k < 3 → mean3 S H B (r / 3 * 3 + k) = mean3 S H B r := by
    intro k hk
    unfold mean3
    rw [show (r / 3 * 3 + k) / 3 = r / 3 by omega]
  have hv : rvar S ((3 * S : ℝ) : EReal) (fun r p => (H r p : EReal) + (B r : EReal)) r = (var3 S H B r : EReal) := by
    unfold rvar
    simp only [hm]
    unfold total
    simp only [← EReal.coe_add, ← EReal.coe_sub, ← EReal.coe_mul, ← coe_sum]
    rw [hdiv]
    unfold var3
    rw [Finset.sum_range_succ, Finset.sum_range_succ, Finset.sum_range_one, hmr 0 (by omega), hmr 1 (by omega), hmr 2 (by omega)]
    simp only [add_sub_assoc]
    rfl
  have h2 : (2 : EReal) = ((2 : ℝ) : EReal) := rfl
  have hkv : grp (sum2 ((S : ℝ) : EReal) (fun r => (B r : EReal)) (fun r => ∑ p ∈ Finset.range S, (H r p : EReal))
        (fun r => ∑ p ∈ Finset.range S, (H r p : EReal) * (H r p : EReal))) r * ((1 / (3 * S) : ℝ) : EReal)
      - (mean3 S H B r : EReal) * (mean3 S H B r : EReal) = (var3 S H B r : EReal) := by
    unfold grp sum2
    rw [h2]
    simp only [← EReal.coe_add, ← EReal.coe_sub, ← EReal.coe_mul, ← coe_sum]
    exact congrArg _ (var3_onepass S hS H B r)
  obtain ⟨e, he, hee⟩ := eps_pos
  have hve : 0 < var3 S H B r + e := by have := var3_nonneg S H B r; linarith
  unfold knorm kscale rnorm
  simp only [hk]
  rw [hm, hv, hkv, hee, ← EReal.coe_add]
  have e1 : Ideal.rsqrt ((var3 S H B r + e : ℝ) : EReal) = (((Real.sqrt (var3 S H B r + e))⁻¹ : ℝ) : EReal) := by
    show (if var3 S H B r + e < 0 then ⊥ else if var3 S H B r + e = 0 then ⊤ else (((Real.sqrt (var3 S H B r + e))⁻¹ : ℝ) : EReal)) = _
    rw [if_neg (not_lt.2 hve.le), if_neg hve.ne']
  have e2 : Ideal.sqrt ((var3 S H B r + e : ℝ) : EReal) = ((Real.sqrt (var3 S H B r + e) : ℝ) : EReal) := by
    show (if var3 S H B r + e < 0 then ⊥ else ((Real.sqrt (var3 S H B r + e) : ℝ) : EReal)) = _
    rw [if_neg (not_lt.2 hve.le)]
  rw [e1, e2]
  have hq : Real.sqrt (var3 S H B r + e) ≠ 0 := (Real.sqrt_pos.2 hve).ne'
  rw [← EReal.coe_add (H r p), ← EReal.coe_sub (H r p + B r), ← EReal.coe_sub (B r)]
  unfold Ideal.div
  rw [if_neg (by exact_mod_cast hq), ← EReal.coe_inv]
  generalize (Real.sqrt (var3 S H B r + e))⁻¹ = u
  generalize mean3 S H B r = m
  simp only [← EReal.coe_mul]
  rw [add_comm (bet r), ← add_assoc, ← EReal.coe_add]
  congr 2
  ring

/-! ## The two heads together -/

/-- A number that is neither infinity. -/
def IsReal (x : EReal) : Prop := ∃ r : ℝ, x = (r : EReal)

theorem IsReal.add {x y : EReal} : IsReal x → IsReal y → IsReal (x + y)
  | ⟨a, ha⟩, ⟨b, hb⟩ => ⟨a + b, by rw [ha, hb, EReal.coe_add]⟩

theorem IsReal.mul {x y : EReal} : IsReal x → IsReal y → IsReal (x * y)
  | ⟨a, ha⟩, ⟨b, hb⟩ => ⟨a * b, by rw [ha, hb, EReal.coe_mul]⟩

theorem IsReal.zero : IsReal 0 := ⟨0, rfl⟩

theorem IsReal.sum {ι : Type} (s : Finset ι) (f : ι → EReal) (h : ∀ i ∈ s, IsReal (f i)) : IsReal (∑ i ∈ s, f i) :=
  Finset.sum_induction f IsReal (fun _ _ => IsReal.add) IsReal.zero h

theorem IsReal.conv9 {W : ℕ} {X : ℕ → ℕ → EReal} {w : ℕ → ℕ → ℕ → EReal} (hX : ∀ c p, IsReal (X c p)) (hw : ∀ r t c, IsReal (w r t c))
    (r p : ℕ) : IsReal (conv9 W X w r p) := by
  refine IsReal.sum _ _ fun t _ => IsReal.sum _ _ fun c _ => (hw r t c).mul ?_
  unfold shifted padded
  split
  · exact hX _ _
  · exact IsReal.zero

/-- One head's numbers on the other's. -/
def both {α : Type} (f g : ℕ → α) (r : ℕ) : α := if r < 96 then f r else g (r - 96)

/-- Both heads' 1x1 weights: those of the first in the upper left, those of the second below and to the right, zero elsewhere. -/
def bothOut (f g : ℕ → ℕ → EReal) (r q : ℕ) : EReal :=
  if r < 80 then (if q < 96 then f r q else 0) else if r < 85 then (if q < 96 then 0 else g (r - 80) (q - 96)) else 0

/-- Both heads' 1x1 biases. -/
def bothBias (f g : ℕ → EReal) (r : ℕ) : EReal := if r < 80 then f r else if r < 85 then g (r - 80) else 0

/-- A formula over groups sees a head's rows only. -/
theorem rnorm_congr (S : ℕ) (N : EReal) (gam gam' bet bet' : ℕ → EReal) (h h' : ℕ → ℕ → EReal) (d c p : ℕ) (hc : c < 96)
    (hg : gam' (d * 96 + c) = gam c) (hb : bet' (d * 96 + c) = bet c) (hh : ∀ c, c < 96 → h' (d * 96 + c) = h c) :
    rnorm S N gam' bet' h' (d * 96 + c) p = rnorm S N gam bet h c p := by
  have ht : ∀ f f' : ℕ → ℕ → EReal, (∀ c, c < 96 → ∀ p, f' (d * 96 + c) p = f c p) → ∀ c, c < 96 →
      total S f' ((d * 96 + c) / 3) = total S f (c / 3) := by
    intro f f' hf c hc
    unfold total
    refine Finset.sum_congr rfl fun k hk => Finset.sum_congr rfl fun p _ => ?_
    have := Finset.mem_range.1 hk
    rw [show (d * 96 + c) / 3 * 3 + k = d * 96 + (c / 3 * 3 + k) by omega, hf _ (by omega)]
  have hm : ∀ c, c < 96 → rmean S N h' (d * 96 + c) = rmean S N h c := by
    intro c hc
    unfold rmean
    rw [ht h h' (fun c hc p => congrFun (hh c hc) p) c hc]
  have hv : rvar S N h' (d * 96 + c) = rvar S N h c := by
    unfold rvar
    rw [ht (fun o p => (h o p - rmean S N h o) * (h o p - rmean S N h o)) _ (fun c hc p => ?_) c hc]
    beta_reduce
    rw [hm c hc, hh c hc]
  unfold rnorm
  rw [hm c hc, hv, hh c hc, hg, hb]

/-- What the kernel's level computes from both heads together is what the reference computes head by head. -/
theorem krows_eq (S W : ℕ) (hS : 0 < S) (X : ℕ → ℕ → EReal) (wc wr : ℕ → ℕ → ℕ → EReal) (bc br gc gr tc tr oc or' : ℕ → EReal)
    (fc fr : ℕ → ℕ → EReal) (hX : ∀ c p, IsReal (X c p)) (hwc : ∀ r t c, IsReal (wc r t c)) (hwr : ∀ r t c, IsReal (wr r t c))
    (hbc : ∀ r, IsReal (bc r)) (hbr : ∀ r, IsReal (br r)) (hgc : ∀ r, IsReal (gc r)) (hgr : ∀ r, IsReal (gr r)) (p : ℕ) :
    (∀ r, r < 80 → krows S ((S : ℝ) : EReal) ((1 / (3 * S) : ℝ) : EReal) (both bc br) (both gc gr) (both tc tr) (bothBias oc or')
        (bothOut fc fr) (conv9 W X (both wc wr)) r p
      = rrows S ((3 * S : ℝ) : EReal) gc tc oc fc (fun o p => conv9 W X wc o p + bc o) r p)
    ∧ (∀ r, r < 5 → krows S ((S : ℝ) : EReal) ((1 / (3 * S) : ℝ) : EReal) (both bc br) (both gc gr) (both tc tr) (bothBias oc or')
        (bothOut fc fr) (conv9 W X (both wc wr)) (80 + r) p
      = rrows S ((3 * S : ℝ) : EReal) gr tr or' fr (fun o p => conv9 W X wr o p + br o) r p) := by
  have hboth : ∀ f g : ℕ → EReal, (∀ r, IsReal (f r)) → (∀ r, IsReal (g r)) → ∀ r, IsReal (both f g r) := by
    intro f g hf hg r
    unfold both
    split
    · exact hf _
    · exact hg _
  have hw : ∀ r t c, IsReal (both wc wr r t c) := by
    intro r t c
    unfold both
    split
    · exact hwc _ _ _
    · exact hwr _ _ _
  choose H hH using fun r p => IsReal.conv9 (W := W) hX hw r p
  choose B hB using hboth bc br hbc hbr
  choose G hG using hboth gc gr hgc hgr
  have eH : conv9 W X (both wc wr) = fun r p => (H r p : EReal) := funext fun r => funext fun p => hH r p
  have eB : both bc br = fun r => (B r : EReal) := funext hB
  have eG : both gc gr = fun r => (G r : EReal) := funext hG
  have hn : ∀ q, knorm ((S : ℝ) : EReal) ((1 / (3 * S) : ℝ) : EReal) (both bc br) (both gc gr) (both tc tr)
      (fun r => ∑ p ∈ Finset.range S, conv9 W X (both wc wr) r p)
      (fun r => ∑ p ∈ Finset.range S, conv9 W X (both wc wr) r p * conv9 W X (both wc wr) r p) (conv9 W X (both wc wr)) q p
      = rnorm S ((3 * S : ℝ) : EReal) (both gc gr) (both tc tr) (fun o p => conv9 W X (both wc wr) o p + both bc br o) q p := by
    intro q
    rw [eH, eB, eG]
    exact norm_eq S hS H B G _ q p
  have hlo : ∀ c, c < 96 → rnorm S ((3 * S : ℝ) : EReal) (both gc gr) (both tc tr) (fun o p => conv9 W X (both wc wr) o p + both bc br o) c p
      = rnorm S ((3 * S : ℝ) : EReal) gc tc (fun o p => conv9 W X wc o p + bc o) c p := by
    intro c hc
    have e : ∀ c, c < 96 → ∀ {α : Type} (f g : ℕ → α), both f g (0 * 96 + c) = f c := fun c hc _ f g => by
      unfold both
      rw [if_pos (by omega), Nat.zero_mul, Nat.zero_add]
    have := rnorm_congr S ((3 * S : ℝ) : EReal) gc (both gc gr) tc (both tc tr) (fun o p => conv9 W X wc o p + bc o)
      (fun o p => conv9 W X (both wc wr) o p + both bc br o) 0 c p hc (e c hc _ _) (e c hc _ _) fun c hc => funext fun p => by
        beta_reduce
        unfold conv9
        rw [e c hc, e c hc]
    rwa [Nat.zero_mul, Nat.zero_add] at this
  have hhi : ∀ c, c < 96 → rnorm S ((3 * S : ℝ) : EReal) (both gc gr) (both tc tr) (fun o p => conv9 W X (both wc wr) o p + both bc br o) (96 + c) p
      = rnorm S ((3 * S : ℝ) : EReal) gr tr (fun o p => conv9 W X wr o p + br o) c p := by
    intro c hc
    have e : ∀ c, c < 96 → ∀ {α : Type} (f g : ℕ → α), both f g (1 * 96 + c) = g c := fun c hc _ f g => by
      unfold both
      rw [if_neg (by omega), show 1 * 96 + c - 96 = c by omega]
    have := rnorm_congr S ((3 * S : ℝ) : EReal) gr (both gc gr) tr (both tc tr) (fun o p => conv9 W X wr o p + br o)
      (fun o p => conv9 W X (both wc wr) o p + both bc br o) 1 c p hc (e c hc _ _) (e c hc _ _) fun c hc => funext fun p => by
        beta_reduce
        unfold conv9
        rw [e c hc, e c hc]
    rwa [Nat.one_mul] at this
  refine ⟨fun r hr => ?_, fun r hr => ?_⟩
  · unfold krows rrows
    simp only [hn, act_eq]
    rw [show (192 : ℕ) = 96 + 96 from rfl, Finset.sum_range_add]
    have hz : ∑ x ∈ Finset.range 96, bothOut fc fr r (96 + x) * ract (rnorm S ((3 * S : ℝ) : EReal) (both gc gr) (both tc tr)
        (fun o p => conv9 W X (both wc wr) o p + both bc br o) (96 + x) p) = 0 := by
      refine Finset.sum_eq_zero fun x _ => ?_
      unfold bothOut
      rw [if_pos hr, if_neg (by omega), zero_mul]
    rw [hz, add_zero]
    refine congrArg₂ (· + ·) (Finset.sum_congr rfl fun c hc => ?_) ?_
    · have hc' := Finset.mem_range.1 hc
      rw [hlo c hc']
      unfold bothOut
      rw [if_pos hr, if_pos hc']
    · unfold bothBias
      rw [if_pos hr]
  · unfold krows rrows
    simp only [hn, act_eq]
    rw [show (192 : ℕ) = 96 + 96 from rfl, Finset.sum_range_add]
    have hz : ∑ x ∈ Finset.range 96, bothOut fc fr (80 + r) x * ract (rnorm S ((3 * S : ℝ) : EReal) (both gc gr) (both tc tr)
        (fun o p => conv9 W X (both wc wr) o p + both bc br o) x p) = 0 := by
      refine Finset.sum_eq_zero fun x hx => ?_
      unfold bothOut
      rw [if_neg (by omega), if_pos (by omega), if_pos (Finset.mem_range.1 hx), zero_mul]
    rw [hz, zero_add]
    refine congrArg₂ (· + ·) (Finset.sum_congr rfl fun c hc => ?_) ?_
    · have hc' := Finset.mem_range.1 hc
      rw [hhi c hc']
      unfold bothOut
      rw [if_neg (by omega), if_pos (by omega), if_neg (by omega), show 80 + r - 80 = r by omega, show 96 + c - 96 = c by omega]
    · unfold bothBias
      rw [if_neg (by omega), if_pos (by omega), show 80 + r - 80 = r by omega]

end Cert.Head

end
-- ==== Proof.RefRead.lean ====
/- The operations of Proof/RefLevel.lean on images given by a function of their coordinates: each one is such an image again,
   and a head of the reference is the plain formula of Proof/Group.lean. -/
module

public import proofs.«01_k».proof.Proof.RefLevel
public import proofs.«01_k».proof.Proof.Group
public import Idealize.ShloMosaic.Lib.Pointwise.Contract

@[expose] public section

noncomputable section

namespace Cert.Head

open Idealize.ShloMosaic
open scoped BigOperators

variable {α : Type}

/-! ## Arrays of functions of the coordinates -/

/-- The array of a function of its one coordinate. -/
def mk1 {a : ℕ} (f : ℕ → α) : Shape.Idx ⟨1, ![a]⟩ → α := fun j => f (j 0).val

/-- The array of a function of three coordinates. -/
def mk3 {a b c : ℕ} (f : ℕ → ℕ → ℕ → α) : Shape.Idx ⟨3, ![a, b, c]⟩ → α := fun j => f (j 0).val (j 1).val (j 2).val

/-- The array of a function of four coordinates. -/
def mk4 {a b W V : ℕ} (f : ℕ → ℕ → ℕ → ℕ → α) : (T4 a b W V).Idx → α := fun j => f (j 0).val (j 1).val (j 2).val (j 3).val

/-- The array of a function of five coordinates. -/
def mk5 {a b c d e : ℕ} (f : ℕ → ℕ → ℕ → ℕ → ℕ → α) : Shape.Idx ⟨5, ![a, b, c, d, e]⟩ → α :=
  fun j => f (j 0).val (j 1).val (j 2).val (j 3).val (j 4).val

theorem mk4_congr {a b W V : ℕ} {f g : ℕ → ℕ → ℕ → ℕ → α}
    (h : ∀ n c i j, n < a → c < b → i < W → j < V → f n c i j = g n c i j) : (mk4 f : (T4 a b W V).Idx → α) = mk4 g :=
  funext fun j => h _ _ _ _ (j 0).isLt (j 1).isLt (j 2).isLt (j 3).isLt

theorem mk5_congr {a b c d e : ℕ} {f g : ℕ → ℕ → ℕ → ℕ → ℕ → α}
    (h : ∀ n o k i j, n < a → o < b → k < c → i < d → j < e → f n o k i j = g n o k i j) :
    (mk5 f : Shape.Idx ⟨5, ![a, b, c, d, e]⟩ → α) = mk5 g :=
  funext fun j => h _ _ _ _ _ (j 0).isLt (j 1).isLt (j 2).isLt (j 3).isLt (j 4).isLt

/-- An entry of a vector, or zero past its end. -/
def at1 {a : ℕ} (x : Shape.Idx ⟨1, ![a]⟩ → EReal) (n : ℕ) : EReal := if h : n < a then x (ix1 ⟨n, h⟩) else 0

/-- An entry of an array of four axes, or zero past an end. -/
def at4 {a b W V : ℕ} (x : (T4 a b W V).Idx → EReal) (n c i j : ℕ) : EReal :=
  if h : (n < a ∧ c < b) ∧ (i < W ∧ j < V) then x (ix4 ⟨n, h.1.1⟩ ⟨c, h.1.2⟩ ⟨i, h.2.1⟩ ⟨j, h.2.2⟩) else 0

theorem eq_at1 {a : ℕ} (x : Shape.Idx ⟨1, ![a]⟩ → EReal) : x = mk1 (at1 x) := by
  funext j
  have h : (j 0).val < a := (j 0).isLt
  unfold mk1 at1
  rw [dif_pos h]
  exact congrArg x (eq_ix1 j)

theorem eq_at4 {a b W V : ℕ} (x : (T4 a b W V).Idx → EReal) : x = mk4 (at4 x) := by
  funext j
  have h : ((j 0).val < a ∧ (j 1).val < b) ∧ ((j 2).val < W ∧ (j 3).val < V) := ⟨⟨(j 0).isLt, (j 1).isLt⟩, (j 2).isLt, (j 3).isLt⟩
  unfold mk4 at4
  rw [dif_pos h]
  exact congrArg x (eq_ix4 j)

/-- Images by position: the rows of `W` one after another. -/
def flat {a b W V : ℕ} (x : (T4 a b W V).Idx → EReal) (n c p : ℕ) : EReal := at4 x n c (p / W) (p % W)

/-- The filter by tap: three rows of three taps. -/
def taps {a b W V : ℕ} (w : (T4 a b W V).Idx → EReal) (o t c : ℕ) : EReal := at4 w o c (t / 3) (t % 3)

theorem div_row {W j : ℕ} (i : ℕ) (hj : j < W) : (i * W + j) / W = i := by
  rw [Nat.mul_comm, Nat.mul_add_div (by omega), Nat.div_eq_of_lt hj, Nat.add_zero]

theorem mod_row {W j : ℕ} (i : ℕ) (hj : j < W) : (i * W + j) % W = j := by
  rw [Nat.mul_comm, Nat.mul_add_mod, Nat.mod_eq_of_lt hj]

theorem eq_flat {a b W : ℕ} (x : (T4 a b W W).Idx → EReal) : x = mk4 fun n c i j => flat x n c (i * W + j) := by
  refine (eq_at4 x).trans (mk4_congr fun n c i j _ _ _ hj => ?_)
  unfold flat
  rw [div_row i hj, mod_row i hj]

/-! ## The operations -/

theorem addf_mk4 {a b W V : ℕ} (f g : ℕ → ℕ → ℕ → ℕ → EReal) :
    (addf (F := Ideal) (φ := .f32) (mk4 f : (T4 a b W V).Idx → EReal) (mk4 g) : FVec Ideal (T4 a b W V) .f32)
      = mk4 fun n c i j => f n c i j + g n c i j := rfl

theorem mulf_mk4 {a b W V : ℕ} (f g : ℕ → ℕ → ℕ → ℕ → EReal) :
    (mulf (F := Ideal) (φ := .f32) (mk4 f : (T4 a b W V).Idx → EReal) (mk4 g) : FVec Ideal (T4 a b W V) .f32)
      = mk4 fun n c i j => f n c i j * g n c i j := rfl

theorem zero_word : Ideal.ofBits .f32 0x00000000#32 = 0 := by simp [Ideal.ofBits, Ideal.ieee]

theorem slice_mk4 {a b c d a' b' c' d' o p q r : ℕ} (h : (T4 a b c d).Slices ![o, p, q, r] (T4 a' b' c' d')) (f : ℕ → ℕ → ℕ → ℕ → α) :
    extractStridedSlice (T4 a' b' c' d') ![o, p, q, r] (mk4 f : (T4 a b c d).Idx → α) h
      = mk4 fun n e i j => f (o + n) (p + e) (q + i) (r + j) := by
  funext j
  refine (extractStridedSlice_apply _ _ _ j (ix4 ⟨o + (j 0).val, lt_of_lt_of_le (Nat.add_lt_add_left (j 0).isLt o) (h.2 0)⟩
    ⟨p + (j 1).val, lt_of_lt_of_le (Nat.add_lt_add_left (j 1).isLt p) (h.2 1)⟩
    ⟨q + (j 2).val, lt_of_lt_of_le (Nat.add_lt_add_left (j 2).isLt q) (h.2 2)⟩
    ⟨r + (j 3).val, lt_of_lt_of_le (Nat.add_lt_add_left (j 3).isLt r) (h.2 3)⟩) ?_).trans rfl
  intro x
  match x with
  | ⟨0, _⟩ => rfl
  | ⟨1, _⟩ => rfl
  | ⟨2, _⟩ => rfl
  | ⟨3, _⟩ => rfl

theorem rPad_mk4 {W : ℕ} (f : ℕ → ℕ → ℕ → ℕ → EReal) :
    rPad (F := Ideal) W (mk4 f) = mk4 fun n c i j => padded W (f n) c i j := by
  funext j
  have h0 : (j 0).val < 4 := (j 0).isLt
  have h1 : (j 1).val < 96 := (j 1).isLt
  unfold rPad pad
  show _ = if (1 ≤ (j 2).val ∧ (j 2).val ≤ W) ∧ (1 ≤ (j 3).val ∧ (j 3).val ≤ W) then f (j 0).val (j 1).val ((j 2).val - 1) ((j 3).val - 1) else 0
  by_cases h : (1 ≤ (j 2).val ∧ (j 2).val ≤ W) ∧ (1 ≤ (j 3).val ∧ (j 3).val ≤ W)
  · rw [if_pos h, dif_pos]
    · show f (((j 0).val - 0) / 1) (((j 1).val - 0) / 1) (((j 2).val - 1) / 1) (((j 3).val - 1) / 1) = _
      rw [Nat.sub_zero, Nat.sub_zero, Nat.div_one, Nat.div_one, Nat.div_one, Nat.div_one]
    intro a
    match a with
    | ⟨0, _⟩ => exact ⟨Nat.zero_le _, Nat.mod_one _, show ((j 0).val - 0) / 1 < 4 by omega⟩
    | ⟨1, _⟩ => exact ⟨Nat.zero_le _, Nat.mod_one _, show ((j 1).val - 0) / 1 < 96 by omega⟩
    | ⟨2, _⟩ => exact ⟨h.1.1, Nat.mod_one _, show ((j 2).val - 1) / 1 < W by omega⟩
    | ⟨3, _⟩ => exact ⟨h.2.1, Nat.mod_one _, show ((j 3).val - 1) / 1 < W by omega⟩
  · rw [if_neg h, dif_neg]
    · show ((((0#32).toInt : ℝ)) : EReal) = 0
      simp
    · intro hin
      apply h
      have a2 : 1 ≤ (j 2).val := (hin 2).1
      have b2 : ((j 2).val - 1) / 1 < W := (hin 2).2.2
      have a3 : 1 ≤ (j 3).val := (hin 3).1
      have b3 : ((j 3).val - 1) / 1 < W := (hin 3).2.2
      omega

theorem cast_one_mk4 {a b : ℕ} (f : ℕ → ℕ → ℕ → ℕ → α) :
    shapeCast (M a b) (mk4 f : (T4 a b 1 1).Idx → α) casts_one = mk2 fun r c => f r c 0 0 := by
  refine of_entries _ _ fun r p hr hp => ?_
  refine (shapeCast_apply _ _ _ (ix4 ⟨r, hr⟩ ⟨p, hp⟩ 0 0) ?_).trans rfl
  rw [Shape.rowMajor_val_four, Shape.rowMajor_val_two]
  show ((r * b + p) * 1 + 0) * 1 + 0 = r * b + p
  omega

theorem dot_mk4 {o W : ℕ} (w : ℕ → ℕ → EReal) (g : ℕ → ℕ → ℕ → ℕ → EReal) :
    (Host.dotGeneral (F := Ideal) (φ₁ := .f32) (φ₂ := .f32) (dotR o W) none (mk2 w) (mk4 g) : FVec Ideal (T4 o 4 W W) .f32)
      = mk4 fun r n i j => ∑ c ∈ Finset.range 96, w r c * g n c i j := by
  funext j
  refine (Ideal.matmul_apply₁_of (dotR o W) (a := 1) rfl (K := 96) rfl (mk2 w) (mk4 g) (fun _ => 0) j
    (fun k => ix2 (j 0) k) (fun k => ix4 (j 1) k (j 2) (j 3)) ?_ ?_).trans ?_
  · intro k
    funext a
    match a with
    | ⟨0, _⟩ => rfl
    | ⟨1, _⟩ => rfl
  · intro k
    funext a
    match a with
    | ⟨0, _⟩ => rfl
    | ⟨1, _⟩ => rfl
    | ⟨2, _⟩ => rfl
    | ⟨3, _⟩ => rfl
  · rw [zero_add]
    exact (Fin.sum_univ_eq_sum_range (fun c => w (j 0).val c * g (j 1).val c (j 2).val (j 3).val) 96)

theorem transpose_mk4 {a b W V : ℕ} (f : ℕ → ℕ → ℕ → ℕ → α) :
    transpose (T4 b a W V) [1, 0, 2, 3] (mk4 f : (T4 a b W V).Idx → α) transposes_T = mk4 fun n c i j => f c n i j := by
  funext j
  refine (transpose_apply _ _ _ j (ix4 (j 1) (j 0) (j 2) (j 3)) ?_).trans rfl
  intro x
  match x with
  | ⟨0, _⟩ => rfl
  | ⟨1, _⟩ => rfl
  | ⟨2, _⟩ => rfl
  | ⟨3, _⟩ => rfl

theorem rChan_mk1 {c W : ℕ} (b : ℕ → EReal) : rChan (F := Ideal) c W (mk1 b) = mk4 fun _ o _ _ => b o := by
  funext j
  have h1 : (j 1).val < c := (j 1).isLt
  unfold rChan
  refine (broadcastInDim_apply _ _ _ j (ix4 0 (j 1) 0 0) ?_).trans ?_
  · intro x
    match x with
    | ⟨0, _⟩ => rfl
    | ⟨1, _⟩ =>
      show (j 1).val = if c = 1 then 0 else (j 1).val
      split
      · omega
      · rfl
    | ⟨2, _⟩ => rfl
    | ⟨3, _⟩ => rfl
  · refine (broadcastInDim_apply _ _ _ _ (ix1 (j 1)) ?_).trans rfl
    intro x
    match x with
    | ⟨0, _⟩ =>
      show (j 1).val = if c = 1 then 0 else (j 1).val
      split
      · omega
      · rfl

/-- Images by groups of three channels, of a function of image, channel and position. -/
def mkc {W : ℕ} (f : ℕ → ℕ → ℕ → α) : (T5 W).Idx → α := mk5 fun n g k i j => f n (g * 3 + k) (i * W + j)

theorem group_mk4 {W : ℕ} (f : ℕ → ℕ → ℕ → α) :
    shapeCast (T5 W) (mk4 fun n c i j => f n c (i * W + j) : (T4 4 96 W W).Idx → α) casts_groups = mkc f := by
  funext j
  have h1 : (j 1).val < 32 := (j 1).isLt
  have h2 : (j 2).val < 3 := (j 2).isLt
  refine (shapeCast_apply _ _ _ (ix4 (j 0) ⟨(j 1).val * 3 + (j 2).val, by omega⟩ (j 3) (j 4)) ?_).trans rfl
  rw [Shape.rowMajor_val_four, Shape.rowMajor_val_five]
  show (((j 0).val * 96 + ((j 1).val * 3 + (j 2).val)) * W + (j 3).val) * W + (j 4).val
    = ((((j 0).val * 32 + (j 1).val) * 3 + (j 2).val) * W + (j 3).val) * W + (j 4).val
  ring

theorem ungroup_mkc {W : ℕ} (f : ℕ → ℕ → ℕ → α) :
    shapeCast (T4 4 96 W W) (mkc f : (T5 W).Idx → α) casts_ungroup = mk4 fun n c i j => f n c (i * W + j) := by
  funext j
  have h1 : (j 1).val < 96 := (j 1).isLt
  refine (shapeCast_apply _ _ _ (ix5 (j 0) ⟨(j 1).val / 3, by omega⟩ ⟨(j 1).val % 3, by omega⟩ (j 2) (j 3)) ?_).trans ?_
  · rw [Shape.rowMajor_val_four, Shape.rowMajor_val_five]
    show ((((j 0).val * 32 + (j 1).val / 3) * 3 + (j 1).val % 3) * W + (j 2).val) * W + (j 3).val
      = (((j 0).val * 96 + (j 1).val) * W + (j 2).val) * W + (j 3).val
    have e : ((j 0).val * 32 + (j 1).val / 3) * 3 + (j 1).val % 3 = (j 0).val * 96 + (j 1).val := by omega
    rw [e]
  · show f (j 0).val ((j 1).val / 3 * 3 + (j 1).val % 3) ((j 2).val * W + (j 3).val) = f (j 0).val (j 1).val ((j 2).val * W + (j 3).val)
    rw [Nat.div_add_mod']

theorem rSpread_mk5 {W : ℕ} (f : ℕ → ℕ → EReal) :
    rSpread (F := Ideal) W (mk5 fun n g _ _ _ => f n g) = mk5 fun n g _ _ _ => f n g := by
  funext j
  refine (broadcastInDim_apply _ _ _ j (ix5 (j 0) (j 1) 0 0 0) ?_).trans rfl
  intro x
  match x with
  | ⟨0, _⟩ => rfl
  | ⟨1, _⟩ => rfl
  | ⟨2, _⟩ => rfl
  | ⟨3, _⟩ => rfl
  | ⟨4, _⟩ => rfl

theorem rTotal_mkc {W S : ℕ} (hS : S = W * W) (f : ℕ → ℕ → ℕ → EReal) :
    rTotal (F := Ideal) W (mkc f) = mk5 fun n g _ _ _ => total S (f n) g := by
  funext j
  unfold rTotal
  refine (broadcastInDim_apply _ _ _ j (ix2 (j 0) (j 1)) ?_).trans ?_
  · intro x
    match x with
    | ⟨0, _⟩ => rfl
    | ⟨1, _⟩ => rfl
  · refine (Ideal.hostReduceAdd_r5_a234 reduces_T (mkc f) (Ideal.ofBits .f32 0x00000000#32) (ix2 (j 0) (j 1))).trans ?_
    rw [zero_word, zero_add]
    show _ = total S (f (j 0).val) (j 1).val
    unfold total
    rw [← Fin.sum_univ_eq_sum_range (fun k => ∑ p ∈ Finset.range S, f (j 0).val ((j 1).val * 3 + k) p) 3]
    refine Finset.sum_congr rfl fun k _ => ?_
    rw [sum_rows W W hS, ← Fin.sum_univ_eq_sum_range (fun t => ∑ c ∈ Finset.range W, f (j 0).val ((j 1).val * 3 + k.val) (t * W + c)) W]
    refine Finset.sum_congr rfl fun i _ => ?_
    exact Fin.sum_univ_eq_sum_range (fun c => f (j 0).val ((j 1).val * 3 + k.val) (i.val * W + c)) W

/-! ## The stages -/

theorem rTap_mk4 {W : ℕ} (t ky kx : ℕ) (h : ky + 1 ≤ 3 ∧ kx + 1 ≤ 3) (ht : t / 3 = ky) (ht' : t % 3 = kx) (w : (T4 96 96 3 3).Idx → EReal)
    (X : ℕ → ℕ → ℕ → EReal) :
    rTap (F := Ideal) W ky kx h w (rPad W (mk4 fun n c i j => X n c (i * W + j)))
      = mk4 fun o n i j => ∑ c ∈ Finset.range 96, taps w o t c * shifted W (X n) t c (i * W + j) := by
  unfold rTap
  rw [rPad_mk4, slice_mk4]
  conv_lhs => rw [eq_at4 w]
  rw [slice_mk4, cast_one_mk4, dot_mk4]
  refine mk4_congr fun o n i j _ _ _ hj => Finset.sum_congr rfl fun c _ => ?_
  unfold taps shifted
  rw [div_row i hj, mod_row i hj, ht, ht']
  simp only [Nat.zero_add, Nat.add_zero, Nat.add_comm]

theorem rConv_mk4 {W : ℕ} (X : ℕ → ℕ → ℕ → EReal) (w : (T4 96 96 3 3).Idx → EReal) (b : ℕ → EReal) :
    rConv (F := Ideal) W (mk4 fun n c i j => X n c (i * W + j)) w (mk1 b)
      = mkc fun n o p => conv9 W (X n) (taps w) o p + b o := by
  unfold rConv
  rw [rTap_mk4 0 0 0 _ rfl rfl, rTap_mk4 1 0 1 _ rfl rfl, rTap_mk4 2 0 2 _ rfl rfl, rTap_mk4 3 1 0 _ rfl rfl, rTap_mk4 4 1 1 _ rfl rfl,
    rTap_mk4 5 1 2 _ rfl rfl, rTap_mk4 6 2 0 _ rfl rfl, rTap_mk4 7 2 1 _ rfl rfl, rTap_mk4 8 2 2 _ rfl rfl,
    addf_mk4, addf_mk4, addf_mk4, addf_mk4, addf_mk4, addf_mk4, addf_mk4, addf_mk4, transpose_mk4, rChan_mk1, addf_mk4, ← group_mk4]
  refine congrArg (fun x => shapeCast (T5 W) x casts_groups) (mk4_congr fun n c i j _ _ _ _ => ?_)
  unfold conv9
  simp only [Finset.sum_range_succ (n := 8), Finset.sum_range_succ (n := 7), Finset.sum_range_succ (n := 6), Finset.sum_range_succ (n := 5),
    Finset.sum_range_succ (n := 4), Finset.sum_range_succ (n := 3), Finset.sum_range_succ (n := 2), Finset.sum_range_succ (n := 1),
    Finset.sum_range_one]

theorem rDev_mkc {W S : ℕ} (hS : S = W * W) (N : BitVec 32) (f : ℕ → ℕ → ℕ → EReal) :
    rDev (F := Ideal) W N (mkc f) = mkc fun n o p => f n o p - rmean S (Ideal.ofBits .f32 N) (f n) o := by
  unfold rDev
  rw [rTotal_mkc hS]
  have e : (Host.divf (F := Ideal) (φ := .f32) (mk5 fun n g _ _ _ => total S (f n) g) (rNum (constant T0 .f32 N)) : FVec Ideal G5 .f32)
      = mk5 fun n g _ _ _ => Ideal.div (total S (f n) g) (Ideal.ofBits .f32 N) := rfl
  rw [e, rSpread_mk5]
  show mk5 (fun n g k i j => f n (g * 3 + k) (i * W + j) - Ideal.div (total S (f n) g) (Ideal.ofBits .f32 N))
    = mk5 fun n g k i j => f n (g * 3 + k) (i * W + j) - rmean S (Ideal.ofBits .f32 N) (f n) (g * 3 + k)
  refine mk5_congr fun n g k i j _ _ hk _ _ => ?_
  show f n (g * 3 + k) (i * W + j) - Ideal.div (total S (f n) g) (Ideal.ofBits .f32 N)
    = f n (g * 3 + k) (i * W + j) - Ideal.div (total S (f n) ((g * 3 + k) / 3)) (Ideal.ofBits .f32 N)
  rw [div_row g hk]

/-- The count a variance is divided by is the group's. -/
theorem rCount_eq (N : BitVec 32) : rCount (F := Ideal) N = fun _ => Ideal.ofBits .f32 N := by
  funext j
  show Ideal.ofBits .f32 N - ((((0#32).toInt : ℝ)) : EReal) = _
  simp

theorem rVariance_mkc {W S : ℕ} (hS : S = W * W) (N : BitVec 32) (hN : 0 < Ideal.ofBits .f32 N) (f : ℕ → ℕ → ℕ → EReal) :
    rVariance (F := Ideal) W N (mkc f)
      = mk5 fun n g _ _ _ => Ideal.div (total S (fun o p => (f n o p - rmean S (Ideal.ofBits .f32 N) (f n) o)
          * (f n o p - rmean S (Ideal.ofBits .f32 N) (f n) o)) g) (Ideal.ofBits .f32 N) := by
  unfold rVariance
  rw [rDev_mkc hS, rCount_eq]
  have e : (mulf (F := Ideal) (φ := .f32) (mkc fun n o p => f n o p - rmean S (Ideal.ofBits .f32 N) (f n) o)
      (mkc fun n o p => f n o p - rmean S (Ideal.ofBits .f32 N) (f n) o) : FVec Ideal (T5 W) .f32)
      = mkc fun n o p => (f n o p - rmean S (Ideal.ofBits .f32 N) (f n) o) * (f n o p - rmean S (Ideal.ofBits .f32 N) (f n) o) := rfl
  rw [e, rTotal_mkc hS]
  funext j
  have hc : Ideal.cmp .ogt (Ideal.ofBits .f32 N) (Ideal.ofBits .f32 0x00000000#32) = 1#1 := by
    rw [zero_word]
    simp [Ideal.cmp, hN]
  show Scalar.select (Ideal.cmp .ogt (Ideal.ofBits .f32 N) (Ideal.ofBits .f32 0x00000000#32)) _ _ = _
  rw [hc]
  rfl

theorem rNormed_mkc {W S : ℕ} (hS : S = W * W) (N : BitVec 32) (hN : 0 < Ideal.ofBits .f32 N) (gam bet : ℕ → EReal) (f : ℕ → ℕ → ℕ → EReal) :
    rNormed (F := Ideal) W N (mk1 gam) (mk1 bet) (mkc f)
      = mk4 fun n o i j => rnorm S (Ideal.ofBits .f32 N) gam bet (f n) o (i * W + j) := by
  unfold rNormed
  rw [rVariance_mkc hS N hN, rDev_mkc hS]
  have e : ∀ v : ℕ → ℕ → EReal, (Host.sqrt (F := Ideal) (φ := .f32) (addf (mk5 fun n g _ _ _ => v n g) (rNum (constant T0 .f32 0x3727C5AC#32))) : FVec Ideal G5 .f32)
      = mk5 fun n g _ _ _ => Ideal.sqrt (v n g + eps) := fun _ => rfl
  rw [e, rSpread_mk5]
  have e' : ∀ v : ℕ → ℕ → EReal, (Host.divf (F := Ideal) (φ := .f32) (mkc fun n o p => f n o p - rmean S (Ideal.ofBits .f32 N) (f n) o)
      (mk5 fun n g _ _ _ => v n g) : FVec Ideal (T5 W) .f32)
      = mkc fun n o p => Ideal.div (f n o p - rmean S (Ideal.ofBits .f32 N) (f n) o) (v n (o / 3)) := fun v => by
    show mk5 (fun n g k i j => Ideal.div (f n (g * 3 + k) (i * W + j) - rmean S (Ideal.ofBits .f32 N) (f n) (g * 3 + k)) (v n g))
      = mk5 fun n g k i j => Ideal.div (f n (g * 3 + k) (i * W + j) - rmean S (Ideal.ofBits .f32 N) (f n) (g * 3 + k)) (v n ((g * 3 + k) / 3))
    refine mk5_congr fun n g k i j _ _ hk _ _ => ?_
    rw [div_row g hk]
  rw [e', ungroup_mkc, rChan_mk1, rChan_mk1]
  rfl

theorem rAct_mk4 {W : ℕ} (f : ℕ → ℕ → ℕ → ℕ → EReal) : rAct (F := Ideal) W (mk4 f) = mk4 fun n o i j => ract (f n o i j) := by
  have h1 : Ideal.ofBits .f32 0x3F800000#32 = 1 := by
    simp [Ideal.ofBits, Ideal.ieee, -EReal.coe_mul]
    norm_num
  funext j
  show f (j 0).val (j 1).val (j 2).val (j 3).val * Ideal.div (Ideal.ofBits .f32 0x3F800000#32)
    (Ideal.ofBits .f32 0x3F800000#32 + Ideal.exp (-f (j 0).val (j 1).val (j 2).val (j 3).val)) = _
  rw [h1]
  rfl

/-- A head of the reference, by image, channel and position. -/
def headRows (W S : ℕ) (N : EReal) {o : ℕ} (x : (T4 4 96 W W).Idx → EReal) (w : (T4 96 96 3 3).Idx → EReal) (b gam bet : Shape.Idx ⟨1, ![96]⟩ → EReal)
    (fw : (T4 o 96 1 1).Idx → EReal) (fb : Shape.Idx ⟨1, ![o]⟩ → EReal) (n r p : ℕ) : EReal :=
  rrows S N (at1 gam) (at1 bet) (at1 fb) (fun r c => at4 fw r c 0 0) (fun o p => conv9 W (flat x n) (taps w) o p + at1 b o) r p

theorem rHead_eq {o W S : ℕ} (hS : S = W * W) (N : BitVec 32) (hN : 0 < Ideal.ofBits .f32 N) (x : (T4 4 96 W W).Idx → EReal)
    (w : (T4 96 96 3 3).Idx → EReal) (b gam bet : Shape.Idx ⟨1, ![96]⟩ → EReal) (fw : (T4 o 96 1 1).Idx → EReal) (fb : Shape.Idx ⟨1, ![o]⟩ → EReal) :
    rHead (F := Ideal) o W N x w b gam bet fw fb
      = mk4 fun n r i j => headRows W S (Ideal.ofBits .f32 N) x w b gam bet fw fb n r (i * W + j) := by
  unfold rHead
  conv_lhs => rw [eq_flat x, eq_at1 b, eq_at1 gam, eq_at1 bet, eq_at1 fb, eq_at4 fw]
  rw [rConv_mk4, rNormed_mkc hS N hN, rAct_mk4, cast_one_mk4, dot_mk4, transpose_mk4, rChan_mk1]
  rfl

theorem flat_mk4 {a b W S : ℕ} (hS : S = W * W) (f : ℕ → ℕ → ℕ → α) :
    shapeCast ⟨3, ![a, b, S]⟩ (mk4 fun n c i j => f n c (i * W + j) : (T4 a b W W).Idx → α) (casts_flat hS) = mk3 f := by
  funext j
  have h2 : (j 2).val < W * W := lt_of_lt_of_eq (j 2).isLt hS
  have hW : 0 < W := by
    rcases Nat.eq_zero_or_pos W with h | h
    · rw [h] at h2; omega
    · exact h
  refine (shapeCast_apply _ _ _ (ix4 (j 0) (j 1) ⟨(j 2).val / W, Nat.div_lt_of_lt_mul h2⟩ ⟨(j 2).val % W, Nat.mod_lt _ hW⟩) ?_).trans ?_
  · rw [Shape.rowMajor_val_four, Shape.rowMajor_val_three]
    show (((j 0).val * b + (j 1).val) * W + (j 2).val / W) * W + (j 2).val % W = ((j 0).val * b + (j 1).val) * S + (j 2).val
    have e : ((j 0).val * b + (j 1).val) * W * W = ((j 0).val * b + (j 1).val) * S := by rw [Nat.mul_assoc, ← hS]
    rw [Nat.add_mul, Nat.add_assoc, Nat.div_add_mod', e]
  · show f (j 0).val (j 1).val ((j 2).val / W * W + (j 2).val % W) = f (j 0).val (j 1).val (j 2).val
    rw [Nat.div_add_mod']

theorem rCls_mk4 {W S : ℕ} (hS : S = W * W) (f : ℕ → ℕ → ℕ → EReal) :
    rCls (F := Ideal) W S hS (mk4 fun n c i j => f n c (i * W + j)) = mk3 f := flat_mk4 hS f

theorem rReg_mk4 {W S : ℕ} (hS : S = W * W) (stride : BitVec 32) (f : ℕ → ℕ → ℕ → EReal) :
    rReg (F := Ideal) W S hS stride (mk4 fun n c i j => f n c (i * W + j)) = mk3 fun n c p => max (f n (1 + c) p * Ideal.ofBits .f32 stride) 0 := by
  unfold rReg
  rw [slice_mk4, ← flat_mk4 hS]
  refine congrArg (fun x => shapeCast _ x (casts_flat hS)) ?_
  funext j
  show max (f (0 + (j 0).val) (1 + (j 1).val) ((0 + (j 2).val) * W + (0 + (j 3).val)) * Ideal.ofBits .f32 stride) (Ideal.ofBits .f32 0x00000000#32) = _
  rw [zero_word, Nat.zero_add, Nat.zero_add, Nat.zero_add]
  rfl

theorem rCent_mk4 {W S : ℕ} (hS : S = W * W) (f : ℕ → ℕ → ℕ → EReal) :
    rCent (F := Ideal) W S hS (mk4 fun n c i j => f n c (i * W + j)) = mk3 f := by
  unfold rCent
  rw [slice_mk4, ← flat_mk4 hS]
  refine congrArg (fun x => shapeCast _ x (casts_flat hS)) (mk4_congr fun n c i j _ _ _ _ => ?_)
  simp only [Nat.zero_add]

end Cert.Head

end
-- ==== Proof.Host.lean ====
/- What the host lines before the kernel make of the arguments: the packed filters, the packed images and the rest. -/
module

public import proofs.«01_k».proof.Proof.RefRead
public import proofs.«01_k».proof.Proof.Gen.KernelIdeal.Frame
public import Idealize.ShloMosaic.Lib.Claim
public import Idealize.ShloMosaic.Lib.Routing.OpsOne
public import Idealize.ShloMosaic.Lib.StableHlo.RunRead

@[expose] public section

noncomputable section

namespace Cert.Head

open Idealize.ShloMosaic Idealize.ShloMosaic.TcCoe Idealize.SL.Sem Cert.KernelIdeal Cert.KernelIdeal.Gen

variable {α : Type}

/-! ## The operations -/

theorem of_entries4 {a b W V : ℕ} (x : (T4 a b W V).Idx → α) (f : ℕ → ℕ → ℕ → ℕ → α)
    (h : ∀ (n : Fin a) (c : Fin b) (i : Fin W) (j : Fin V), x (ix4 n c i j) = f n.val c.val i.val j.val) : x = mk4 f := by
  funext j
  rw [eq_ix4 j]
  exact h _ _ _ _

theorem of_entries3 {a b c : ℕ} (x : Shape.Idx ⟨3, ![a, b, c]⟩ → α) (f : ℕ → ℕ → ℕ → α)
    (h : ∀ n o p (hn : n < a) (ho : o < b) (hp : p < c), x (ix3 ⟨n, hn⟩ ⟨o, ho⟩ ⟨p, hp⟩) = f n o p) : x = mk3 f := by
  funext j
  rw [eq_ix3 j]
  exact h _ _ _ (j 0).isLt (j 1).isLt (j 2).isLt

/-- The two 3x3 filters packed: output channels one after another, a row's taps one after another, a tap's channels side by side. -/
theorem pack_filters (w w' : (T4 96 96 3 3).Idx → α) (g g' : ℕ → ℕ → ℕ → ℕ → α) (hw : w = mk4 g) (hw' : w' = mk4 g') (h h₁ h₂) :
    shapeCast (M 192 864) (transpose (T4 192 3 3 96) [0, 2, 3, 1]
      (concatenate (T4 192 96 3 3) 0 [⟨T4 96 96 3 3, w⟩, ⟨T4 96 96 3 3, w'⟩] h) h₁) h₂
      = mk2 fun r q => both (fun r => g r (q % 96) (q / 96 / 3) (q / 96 % 3)) (fun r => g' r (q % 96) (q / 96 / 3) (q / 96 % 3)) r := by
  subst hw hw'
  refine of_entries _ _ fun r q hr hq => ?_
  have ht : q / 96 < 9 := by omega
  have hc : q % 96 < 96 := by omega
  refine (shapeCast_apply _ _ _ (ix4 (n0 := 192) (n1 := 3) (n2 := 3) (n3 := 96) ⟨r, hr⟩ ⟨q / 96 / 3, by omega⟩ ⟨q / 96 % 3, by omega⟩ ⟨q % 96, hc⟩) ?_).trans ?_
  · rw [Shape.rowMajor_val_four, Shape.rowMajor_val_two]
    show ((r * 3 + q / 96 / 3) * 3 + q / 96 % 3) * 96 + q % 96 = r * 864 + q
    omega
  refine (transpose_apply _ _ _ _ (ix4 (n0 := 192) (n1 := 96) (n2 := 3) (n3 := 3) ⟨r, hr⟩ ⟨q % 96, hc⟩ ⟨q / 96 / 3, by omega⟩ ⟨q / 96 % 3, by omega⟩) ?_).trans ?_
  · intro x
    match x with
    | ⟨0, _⟩ => rfl
    | ⟨1, _⟩ => rfl
    | ⟨2, _⟩ => rfl
    | ⟨3, _⟩ => rfl
  unfold both
  by_cases hp : r < 96
  · rw [if_pos hp]
    refine (concatenate_pair_apply_left (t := T4 192 96 3 3) (s₁ := T4 96 96 3 3) _ _ _ _ _ rfl
      (ix4 (n0 := 96) (n1 := 96) (n2 := 3) (n3 := 3) ⟨r, hp⟩ ⟨q % 96, hc⟩ ⟨q / 96 / 3, by omega⟩ ⟨q / 96 % 3, by omega⟩) ?_).trans rfl
    intro x
    match x with
    | ⟨0, _⟩ => rfl
    | ⟨1, _⟩ => rfl
    | ⟨2, _⟩ => rfl
    | ⟨3, _⟩ => rfl
  · rw [if_neg hp]
    refine (concatenate_pair_apply_right (t := T4 192 96 3 3) (s₁ := T4 96 96 3 3) (s₂ := T4 96 96 3 3) _ _ _ _ _ rfl rfl
      (ix4 (n0 := 96) (n1 := 96) (n2 := 3) (n3 := 3) ⟨r - 96, by omega⟩ ⟨q % 96, hc⟩ ⟨q / 96 / 3, by omega⟩ ⟨q / 96 % 3, by omega⟩) ?_ ?_).trans rfl
    · intro x hx
      match x, hx with
      | ⟨0, _⟩, hx => exact absurd rfl hx
      | ⟨1, _⟩, _ => rfl
      | ⟨2, _⟩, _ => rfl
      | ⟨3, _⟩, _ => rfl
    · show r - 96 + 96 = r
      omega

/-- A vector as a column. -/
theorem column_eq (x : Shape.Idx ⟨1, ![96]⟩ → EReal) (h : Shape.BroadcastsInDim ⟨1, ![96]⟩ (M 96 1) (![0] : Fin 1 → Fin 2)) :
    broadcastInDim (M 96 1) ![0] h x = mk2 fun r _ => at1 x r := by
  refine of_entries _ _ fun r p hr hp => ?_
  refine (broadcastInDim_apply _ _ _ _ (ix1 ⟨r, hr⟩) ?_).trans ?_
  · intro a
    match a with
    | ⟨0, _⟩ => rfl
  · unfold at1
    rw [dif_pos hr]

/-- Eight columns side by side. -/
theorem columns_eq (x0 x1 x2 x3 x4 x5 x6 x7 : (M 96 1).Idx → α) (h) (k r : ℕ) (hk : k < 8) (hr : r < 96) :
    concatenate (M 96 8) 1 [⟨M 96 1, x0⟩, ⟨M 96 1, x1⟩, ⟨M 96 1, x2⟩, ⟨M 96 1, x3⟩, ⟨M 96 1, x4⟩, ⟨M 96 1, x5⟩, ⟨M 96 1, x6⟩, ⟨M 96 1, x7⟩] h
      (ix2 ⟨r, hr⟩ ⟨k, hk⟩) = (![x0, x1, x2, x3, x4, x5, x6, x7] : Fin 8 → (M 96 1).Idx → α) ⟨k, hk⟩ (ix2 ⟨r, hr⟩ 0) := by
  refine concatenate_apply_piece 1 _ h _ k hk (M 96 1) _ ?_ rfl k ?_ _ ?_ rfl
  · interval_cases k <;> rfl
  · interval_cases k <;> rfl
  · intro b hb
    match b, hb with
    | ⟨0, _⟩, _ => rfl
    | ⟨1, _⟩, hb => exact absurd rfl hb

/-- A vector of three pieces as a column. -/
theorem bias_eq (x : Shape.Idx ⟨1, ![80]⟩ → EReal) (y : Shape.Idx ⟨1, ![5]⟩ → EReal) (z : Shape.Idx ⟨1, ![3]⟩ → EReal) (hz : ∀ j, z j = 0) (h h₁) :
    shapeCast (M 88 1) (concatenate ⟨1, ![88]⟩ 0 [⟨⟨1, ![80]⟩, x⟩, ⟨⟨1, ![5]⟩, y⟩, ⟨⟨1, ![3]⟩, z⟩] h) h₁ = mk2 fun r _ => bothBias (at1 x) (at1 y) r := by
  refine of_entries _ _ fun r p hr hp => ?_
  refine (shapeCast_apply _ _ _ (ix1 (n0 := 88) ⟨r, hr⟩) ?_).trans ?_
  · rw [Shape.rowMajor_val_one, Shape.rowMajor_val_two]
    show r = r * 1 + p
    omega
  unfold bothBias
  by_cases h0 : r < 80
  · rw [if_pos h0]
    refine (concatenate_apply_piece 0 _ h _ 0 (by simp) ⟨1, ![80]⟩ x rfl rfl 0 rfl (ix1 ⟨r, h0⟩) (fun b hb => (hb (Subsingleton.elim (α := Fin 1) _ _)).elim) ?_).trans ?_
    · exact Nat.zero_add r
    unfold at1
    rw [dif_pos h0]
  rw [if_neg h0]
  by_cases h1 : r < 85
  · rw [if_pos h1]
    refine (concatenate_apply_piece 0 _ h _ 1 (by simp) ⟨1, ![5]⟩ y rfl rfl 80 rfl (ix1 ⟨r - 80, by omega⟩) (fun b hb => (hb (Subsingleton.elim (α := Fin 1) _ _)).elim) ?_).trans ?_
    · show 80 + (r - 80) = r
      omega
    unfold at1
    rw [dif_pos]
  rw [if_neg h1]
  refine (concatenate_apply_piece 0 _ h _ 2 (by simp) ⟨1, ![3]⟩ z rfl rfl 85 rfl (ix1 ⟨r - 85, by omega⟩) (fun b hb => (hb (Subsingleton.elim (α := Fin 1) _ _)).elim) ?_).trans (hz _)
  show 85 + (r - 85) = r
  omega

/-- A block written into a matrix at one place. -/
theorem scatter_block {R C R' C' o p : ℕ} (d : ScatterDims (M R C) ⟨1, ![2]⟩ (M R' C')) (hs : d.scatterDimsToOperandDims = [0, 1])
    (hv : d.indexVectorDim = 0) (hw : ∀ j, d.window j 0 = (j 0).val ∧ d.window j 1 = (j 1).val) (f g : ℕ → ℕ → α) (idx : IVec ⟨1, ![2]⟩ 32)
    (h0 : (idx (ix1 0)).toInt = o) (h1 : (idx (ix1 1)).toInt = p) :
    Host.scatter d (fun _ b => b) (mk2 f) idx (mk2 g)
      = mk2 fun r q => if (o ≤ r ∧ r < o + R') ∧ (p ≤ q ∧ q < p + C') then g (r - o) (q - p) else f r q := by
  have e : ∀ q : Fin 2, (ValueIdx.ix1 q : Shape.Idx ⟨1, ![2]⟩) = ix1 q := fun q => funext fun b => match b with | ⟨0, _⟩ => rfl
  refine of_entries _ _ fun r q hr hq => ?_
  have e2 : (ix2 ⟨r, hr⟩ ⟨q, hq⟩ : (M R C).Idx) = ValueIdx.ix2 ⟨r, hr⟩ ⟨q, hq⟩ := funext fun b => match b with | ⟨0, _⟩ => rfl | ⟨1, _⟩ => rfl
  have lands : ∀ k, d.resultIdx? k idx = some (ix2 ⟨r, hr⟩ ⟨q, hq⟩) ↔ (o : Int) + ((k 0).val : Int) = r ∧ (p : Int) + ((k 1).val : Int) = q := by
    intro k
    rw [e2, Routing.resultIdx?_ix2, Routing.start_pair d hs hv, Routing.start_pair d hs hv, (hw k).1, (hw k).2, e, e, h0, h1]
  by_cases hin : (o ≤ r ∧ r < o + R') ∧ (p ≤ q ∧ q < p + C')
  · rw [if_pos hin]
    refine Routing.scatter_set_hit d _ idx _ _ _ (fun k hk => ?_) (ix2 ⟨r - o, by omega⟩ ⟨q - p, by omega⟩) ((lands _).2 ⟨?_, ?_⟩)
    · have := (lands k).1 hk
      show g (k 0).val (k 1).val = _
      congr 1 <;> omega
    · show (o : Int) + ((r - o : ℕ) : Int) = r
      omega
    · show (p : Int) + ((q - p : ℕ) : Int) = q
      omega
  · rw [if_neg hin]
    refine Routing.scatter_set_miss d _ idx _ _ fun k hk => hin ?_
    have := (lands k).1 hk
    have k0 : (k 0).val < R' := (k 0).isLt
    have k1 : (k 1).val < C' := (k 1).isLt
    omega

/-- Two words as a vector. -/
theorem words_eq (x y : Shape.Idx ⟨1, ![1]⟩ → α) (h) :
    concatenate ⟨1, ![2]⟩ 0 [⟨⟨1, ![1]⟩, x⟩, ⟨⟨1, ![1]⟩, y⟩] h (ix1 0) = x (ix1 0)
      ∧ concatenate ⟨1, ![2]⟩ 0 [⟨⟨1, ![1]⟩, x⟩, ⟨⟨1, ![1]⟩, y⟩] h (ix1 1) = y (ix1 0) :=
  ⟨concatenate_apply_piece 0 _ h _ 0 (by simp) ⟨1, ![1]⟩ x rfl rfl 0 rfl (ix1 0) (fun b hb => (hb (Subsingleton.elim (α := Fin 1) _ _)).elim) rfl,
    concatenate_apply_piece 0 _ h _ 1 (by simp) ⟨1, ![1]⟩ y rfl rfl 1 rfl (ix1 0) (fun b hb => (hb (Subsingleton.elim (α := Fin 1) _ _)).elim) rfl⟩

/-- Images by position are the reshaped images. -/
theorem flat_eq {W S : ℕ} (hS : S = W * W) (x : (T4 4 96 W W).Idx → EReal) (h) : shapeCast ⟨3, ![4, 96, S]⟩ x h = mk3 (flat x) := by
  conv_lhs => rw [eq_flat x]
  exact flat_mk4 hS (flat x)

/-- A piece of images packed side by side. -/
theorem piece_eq {N : ℕ} (xs : List ((s : Shape) × (s.Idx → α))) (h) (k S pre : ℕ) (hk : k < xs.length) (f : ℕ → ℕ → ℕ → α)
    (hxk : xs[k] = ⟨⟨3, ![4, 96, S]⟩, mk3 f⟩)
    (hpre : (((xs.take k).map (·.1)).map fun s => if h : s.rank = 3 then s.size ((2 : Fin 3).cast h.symm) else 0).sum = pre)
    (n o p : ℕ) (hn : n < 4) (ho : o < 96) (hp : p < S) (hN : pre + p < N) :
    concatenate ⟨3, ![4, 96, N]⟩ 2 xs h (ix3 ⟨n, hn⟩ ⟨o, ho⟩ ⟨pre + p, hN⟩) = f n o p := by
  refine (concatenate_apply_piece 2 xs h _ k hk ⟨3, ![4, 96, S]⟩ (mk3 f) hxk rfl pre hpre (ix3 ⟨n, hn⟩ ⟨o, ho⟩ ⟨p, hp⟩) ?_ rfl).trans rfl
  intro b hb
  match b, hb with
  | ⟨0, _⟩, _ => rfl
  | ⟨1, _⟩, _ => rfl
  | ⟨2, _⟩, hb => exact absurd rfl hb

/-- Five pieces, each replaced by an equal one. -/
theorem five_congr {s₁ s₂ s₃ s₄ s₅ t : Shape} {a : Fin t.rank} {x₁ y₁ : s₁.Idx → α} {x₂ y₂ : s₂.Idx → α} {x₃ y₃ : s₃.Idx → α} {x₄ y₄ : s₄.Idx → α}
    {x₅ y₅ : s₅.Idx → α} (h : Shape.Concatenates [s₁, s₂, s₃, s₄, s₅] t a) (h₁ : x₁ = y₁) (h₂ : x₂ = y₂) (h₃ : x₃ = y₃) (h₄ : x₄ = y₄) (h₅ : x₅ = y₅) :
    concatenate t a [⟨s₁, x₁⟩, ⟨s₂, x₂⟩, ⟨s₃, x₃⟩, ⟨s₄, x₄⟩, ⟨s₅, x₅⟩] h = concatenate t a [⟨s₁, y₁⟩, ⟨s₂, y₂⟩, ⟨s₃, y₃⟩, ⟨s₄, y₄⟩, ⟨s₅, y₅⟩] h := by
  subst h₁ h₂ h₃ h₄ h₅
  rfl

/-- Two matrices written on the diagonal of a zero matrix. -/
theorem scatters_eq (x : FVec Ideal (M 80 96) .f32) (y : FVec Ideal (M 5 96) .f32) (z : FVec Ideal (M 88 192) .f32) (f g : ℕ → ℕ → EReal)
    (hx : x = mk2 f) (hy : y = mk2 g) (hz : z = mk2 fun _ _ => 0) (i j : IVec ⟨1, ![2]⟩ 32)
    (hi0 : (i (ix1 0)).toInt = (0 : ℕ)) (hi1 : (i (ix1 1)).toInt = (0 : ℕ)) (hj0 : (j (ix1 0)).toInt = (80 : ℕ)) (hj1 : (j (ix1 1)).toInt = (96 : ℕ)) (h) :
    truncf .bf16 (Host.scatter scatter_S88x192_S2_S5x96_01_n_01_0 (fun _ b => b)
      (Host.scatter scatter_S88x192_S2_S80x96_01_n_01_0 (fun _ b => b) z i x) j y) h = mk2 (bothOut f g) := by
  subst hx hy hz
  refine (congrArg (fun x => truncf (F := Ideal) (φ := .f32) .bf16 (Host.scatter scatter_S88x192_S2_S5x96_01_n_01_0 (fun _ b => b) x j (mk2 g)) h)
    (scatter_block scatter_S88x192_S2_S80x96_01_n_01_0 rfl rfl (fun _ => ⟨rfl, rfl⟩) (fun _ _ => (0 : EReal)) f i hi0 hi1)).trans ?_
  refine (congrArg (fun x => truncf (F := Ideal) (φ := .f32) .bf16 x h)
    (scatter_block scatter_S88x192_S2_S5x96_01_n_01_0 rfl rfl (fun _ => ⟨rfl, rfl⟩) _ g j hj0 hj1)).trans ?_
  show mk2 (fun r q => if (80 ≤ r ∧ r < 80 + 5) ∧ (96 ≤ q ∧ q < 96 + 96) then g (r - 80) (q - 96)
    else if (0 ≤ r ∧ r < 0 + 80) ∧ (0 ≤ q ∧ q < 0 + 96) then f (r - 0) (q - 0) else 0) = mk2 (bothOut f g)
  refine mk2_congr fun r q hr hq => ?_
  unfold bothOut
  split_ifs <;> first | omega | rfl

/-- 1x1 weights as a matrix. -/
theorem ones_eq {a b : ℕ} (x : (T4 a b 1 1).Idx → EReal) (h) : shapeCast (M a b) x h = mk2 fun r q => at4 x r q 0 0 := by
  conv_lhs => rw [eq_at4 x]
  exact cast_one_mk4 _

/-! ## The buffers the kernel reads -/

variable (m : (ℓ : Loc nD τ sig) → Buf (Elt Ideal) ℓ) (c : Dev nD)

/-- The filters. -/
theorem V_filters : V m c main_v3 = mk2 fun r q => both (taps (m ((c.tc : Thread nD τ).loc main_arg5))) (taps (m ((c.tc : Thread nD τ).loc main_arg11))) r (q / 96) (q % 96) := by
  unfold V
  after_reads_simp
  refine (pack_filters (m ((c.tc : Thread nD τ).loc main_arg5)) (m ((c.tc : Thread nD τ).loc main_arg11)) _ _ (eq_at4 _) (eq_at4 _)
    concatenates_S96x96x3x3_S96x96x3x3_S192x96x3x3_d0 transposes_S192x96x3x3_S192x3x3x96_0_2_3_1 shapeCasts_S192x3x3x96_S192x864).trans (mk2_congr fun r q _ _ => ?_)
  unfold both
  by_cases h : r < 96
  · rw [if_pos h, if_pos h]; rfl
  · rw [if_neg h, if_neg h]; rfl

/-- The six vectors over channels, by column. -/
theorem V_vectors (k r : ℕ) (hk : k < 6) (hr : r < 96) : V m c main_v14 (ix2 (n0 := 96) (n1 := 8) ⟨r, hr⟩ ⟨k, by omega⟩)
    = (![at1 (m ((c.tc : Thread nD τ).loc main_arg6)), at1 (m ((c.tc : Thread nD τ).loc main_arg7)), at1 (m ((c.tc : Thread nD τ).loc main_arg8)),
      at1 (m ((c.tc : Thread nD τ).loc main_arg12)), at1 (m ((c.tc : Thread nD τ).loc main_arg13)), at1 (m ((c.tc : Thread nD τ).loc main_arg14))] : Fin 6 → ℕ → EReal) ⟨k, hk⟩ r := by
  have e6 : StableHlo.upto hostOps0 (fun b => m (c, b)) 16 (Proc.tc.devRef main_v6) = mk2 fun r _ => at1 (m ((c.tc : Thread nD τ).loc main_arg6)) r := by
    after_reads_simp; exact column_eq _ _
  have e7 : StableHlo.upto hostOps0 (fun b => m (c, b)) 16 (Proc.tc.devRef main_v7) = mk2 fun r _ => at1 (m ((c.tc : Thread nD τ).loc main_arg7)) r := by
    after_reads_simp; exact column_eq _ _
  have e8 : StableHlo.upto hostOps0 (fun b => m (c, b)) 16 (Proc.tc.devRef main_v8) = mk2 fun r _ => at1 (m ((c.tc : Thread nD τ).loc main_arg8)) r := by
    after_reads_simp; exact column_eq _ _
  have e9 : StableHlo.upto hostOps0 (fun b => m (c, b)) 16 (Proc.tc.devRef main_v9) = mk2 fun r _ => at1 (m ((c.tc : Thread nD τ).loc main_arg12)) r := by
    after_reads_simp; exact column_eq _ _
  have e10 : StableHlo.upto hostOps0 (fun b => m (c, b)) 16 (Proc.tc.devRef main_v10) = mk2 fun r _ => at1 (m ((c.tc : Thread nD τ).loc main_arg13)) r := by
    after_reads_simp; exact column_eq _ _
  have e11 : StableHlo.upto hostOps0 (fun b => m (c, b)) 16 (Proc.tc.devRef main_v11) = mk2 fun r _ => at1 (m ((c.tc : Thread nD τ).loc main_arg14)) r := by
    after_reads_simp; exact column_eq _ _
  unfold V
  after_reads_simp
  refine (columns_eq _ _ _ _ _ _ _ _ _ k r (by omega) hr).trans ?_
  interval_cases k
  · exact congrFun e6 _
  · exact congrFun e7 _
  · exact congrFun e8 _
  · exact congrFun e9 _
  · exact congrFun e10 _
  · exact congrFun e11 _

/-- The 1x1 weights. -/
theorem V_out : V m c main_v26 = mk2 (bothOut (fun r q => at4 (m ((c.tc : Thread nD τ).loc main_arg9)) r q 0 0)
    (fun r q => at4 (m ((c.tc : Thread nD τ).loc main_arg15)) r q 0 0)) := by
  entry_read
  refine scatters_eq _ _ _ _ _ (ones_eq _ casts_one) (ones_eq _ casts_one) (funext fun _ => zero_word) _ _ ?_ ?_ ?_ ?_ _
  · exact congrArg BitVec.toInt (words_eq _ _ _).1
  · exact congrArg BitVec.toInt (words_eq _ _ _).2
  · exact congrArg BitVec.toInt (words_eq _ _ _).1
  · exact congrArg BitVec.toInt (words_eq _ _ _).2

/-- The 1x1 biases. -/
theorem V_bias : V m c main_v29 = mk2 fun r _ => bothBias (at1 (m ((c.tc : Thread nD τ).loc main_arg10))) (at1 (m ((c.tc : Thread nD τ).loc main_arg16))) r := by
  have e0 : StableHlo.upto hostOps0 (fun b => m (c, b)) 36 (Proc.tc.devRef main_arg10) = m ((c.tc : Thread nD τ).loc main_arg10) := by
    after_reads_simp
  have e1 : StableHlo.upto hostOps0 (fun b => m (c, b)) 36 (Proc.tc.devRef main_arg16) = m ((c.tc : Thread nD τ).loc main_arg16) := by
    after_reads_simp
  have e2 : ∀ j, StableHlo.upto hostOps0 (fun b => m (c, b)) 36 (Proc.tc.devRef main_v27) j = (0 : EReal) := by
    intro j
    after_reads_simp
    exact zero_word
  unfold V
  after_reads_simp
  refine (bias_eq _ _ _ e2 _ _).trans ?_
  rw [← e0, ← e1]
  rfl

/-- The first level's images. -/
theorem V_images0 : V m c main_v30 = mk3 (flat (m ((c.tc : Thread nD τ).loc main_arg0))) := by
  unfold V
  after_reads_simp
  exact flat_eq (W := 64) rfl _ _

/-- The other levels' images, at their places in the packed array. -/
theorem V_images (n o p : ℕ) (hn : n < 4) (ho : o < 96) :
    (∀ hp : p < 1024, V m c main_v40 (ix3 (n0 := 4) (n1 := 96) (n2 := 1424) ⟨n, hn⟩ ⟨o, ho⟩ ⟨0 + p, by omega⟩) = flat (m ((c.tc : Thread nD τ).loc main_arg1)) n o p)
    ∧ (∀ hp : p < 256, V m c main_v40 (ix3 (n0 := 4) (n1 := 96) (n2 := 1424) ⟨n, hn⟩ ⟨o, ho⟩ ⟨1024 + p, by omega⟩) = flat (m ((c.tc : Thread nD τ).loc main_arg2)) n o p)
    ∧ (∀ hp : p < 64, V m c main_v40 (ix3 (n0 := 4) (n1 := 96) (n2 := 1424) ⟨n, hn⟩ ⟨o, ho⟩ ⟨1280 + p, by omega⟩) = flat (m ((c.tc : Thread nD τ).loc main_arg3)) n o p)
    ∧ (∀ hp : p < 16, V m c main_v40 (ix3 (n0 := 4) (n1 := 96) (n2 := 1424) ⟨n, hn⟩ ⟨o, ho⟩ ⟨1408 + p, by omega⟩) = flat (m ((c.tc : Thread nD τ).loc main_arg4)) n o p) := by
  have e1 : StableHlo.upto hostOps0 (fun b => m (c, b)) 49 (Proc.tc.devRef main_v32) = mk3 (flat (m ((c.tc : Thread nD τ).loc main_arg1))) := by
    after_reads_simp; exact flat_eq (W := 32) rfl _ _
  have e2 : StableHlo.upto hostOps0 (fun b => m (c, b)) 49 (Proc.tc.devRef main_v34) = mk3 (flat (m ((c.tc : Thread nD τ).loc main_arg2))) := by
    after_reads_simp; exact flat_eq (W := 16) rfl _ _
  have e3 : StableHlo.upto hostOps0 (fun b => m (c, b)) 49 (Proc.tc.devRef main_v36) = mk3 (flat (m ((c.tc : Thread nD τ).loc main_arg3))) := by
    after_reads_simp; exact flat_eq (W := 8) rfl _ _
  have e4 : StableHlo.upto hostOps0 (fun b => m (c, b)) 49 (Proc.tc.devRef main_v39) = mk3 (flat (m ((c.tc : Thread nD τ).loc main_arg4))) := by
    after_reads_simp; exact flat_eq (W := 4) rfl _ _
  have e5 : StableHlo.upto hostOps0 (fun b => m (c, b)) 49 (Proc.tc.devRef main_v37) = fun _ => Ideal.ofBits .bf16 0x0000#16 := by
    after_reads_simp; rfl
  have e : V m c main_v40 = concatenate ⟨3, ![4, 96, 1424]⟩ 2 [⟨⟨3, ![4, 96, 1024]⟩, mk3 (flat (m ((c.tc : Thread nD τ).loc main_arg1)))⟩,
      ⟨⟨3, ![4, 96, 256]⟩, mk3 (flat (m ((c.tc : Thread nD τ).loc main_arg2)))⟩, ⟨⟨3, ![4, 96, 64]⟩, mk3 (flat (m ((c.tc : Thread nD τ).loc main_arg3)))⟩,
      ⟨⟨3, ![4, 96, 64]⟩, fun _ => Ideal.ofBits .bf16 0x0000#16⟩, ⟨⟨3, ![4, 96, 16]⟩, mk3 (flat (m ((c.tc : Thread nD τ).loc main_arg4)))⟩]
      concatenates_S4x96x1024_S4x96x256_S4x96x64_S4x96x64_S4x96x16_S4x96x1424_d2 := by
    unfold V
    after_reads_simp
    exact five_congr _ e1 e2 e3 e5 e4
  rw [e]
  exact ⟨fun hp => piece_eq _ _ 0 1024 0 (Nat.lt_of_sub_eq_succ rfl) _ rfl rfl n o p hn ho hp _,
    fun hp => piece_eq _ _ 1 256 1024 (Nat.lt_of_sub_eq_succ rfl) _ rfl rfl n o p hn ho hp _,
    fun hp => piece_eq _ _ 2 64 1280 (Nat.lt_of_sub_eq_succ rfl) _ rfl rfl n o p hn ho hp _,
    fun hp => piece_eq _ _ 4 16 1408 (Nat.lt_of_sub_eq_succ rfl) _ rfl rfl n o p hn ho hp _⟩

end Cert.Head

end
-- ==== Proof.Kernel.lean ====
/- The kernel's fifteen blocks as instances of the level definitions of Proof/Level.lean: five levels, three results each. -/
module

public import proofs.«01_k».proof.Proof.Level
public import proofs.«01_k».proof.Proof.Gen.KernelIdeal.Frame

@[expose] public section

noncomputable section

namespace Cert.Head

open Idealize.ShloMosaic Cert.KernelIdeal Cert.KernelIdeal.Gen

variable {F : FTy → Type} [FloatOps F] [Named F] [hf : Cert.KernelIdeal.Facts] {α : Type}

/-- Two columns of the packed parameters, one on another. -/
def col2 (p q : ℕ) (hp : p + 1 ≤ 8) (hq : q + 1 ≤ 8) (x3 : FVec F (M 96 8) .f32) : FVec F (M 192 1) .f32 :=
  stack 192 rfl (blk 96 1 0 p ⟨le_refl _, hp⟩ (shapeCast (M 96 8) x3 rfl)) (blk 96 1 0 q ⟨le_refl _, hq⟩ (shapeCast (M 96 8) x3 rfl))

/-- A level's image out of the packed levels. -/
def cut (S off : ℕ) (h : off + S ≤ 1424) (x1 : Vec F S1x96x1424 .bf16) : FVec F (M 96 S) .bf16 :=
  blk 96 S 0 off ⟨le_refl _, h⟩ (shapeCast (M 96 1424) (View.ld x1 r0_2) (by decide))

/-- The convolution at a level. -/
abbrev hAt (S W lw : ℕ) (hW : W + 1 ≤ S) (x2 : Vec F S192x864 .bf16) (x : FVec F (M 96 S) .bf16) : FVec F (M 192 S) .f32 :=
  conv S W lw hW x (View.ld x2 r0_3) (View.ld x2 r0_4)

/-- The 88 rows at a level, given the sums. -/
abbrev yAt (S : ℕ) (n cnt : F .f32) (x3 : Vec F S96x8 .f32) (x4 : Vec F S88x192 .bf16) (x5 : Vec F S88x1 .f32)
    (s1 s2 : FVec F (M 192 1) .f32) (h : FVec F (M 192 S) .f32) : FVec F (M 88 S) .f32 :=
  body S n cnt (col2 0 3 (by omega) (by omega) (View.ld x3 r0_0)) (col2 1 4 (by omega) (by omega) (View.ld x3 r0_0))
    (col2 2 5 (by omega) (by omega) (View.ld x3 r0_0)) (View.ld x4 r0_5) (View.ld x5 r0_6) s1 s2 h

variable (x0 : Vec F S1x96x4096 .f32) (x1 : Vec F S1x96x1424 .bf16) (x2 : Vec F S192x864 .bf16) (x3 : Vec F S96x8 .f32)
  (x4 : Vec F S88x192 .bf16) (x5 : Vec F S88x1 .f32)

/-- The convolution at level 0. -/
def h0 : FVec F (M 192 4096) .f32 := hAt 4096 64 6 (by omega) x2 (truncf .bf16 (shapeCast (M 96 4096) (View.ld x0 r0_1) (by decide)) (by decide))

/-- The 88 rows at level 0. -/
def y0 : FVec F (M 88 4096) .f32 :=
  yAt 4096 (Scalar.ofBits .f32 0x45800000#32) (Named.named κ "count4096" 0x38AAAAAB#32) x3 x4 x5
    (laneSum 4096 5 rfl (h0 x0 x2)) (laneSqSum 4096 5 rfl (h0 x0 x2)) (h0 x0 x2)

theorem out6 : out0_6 x0 x1 x2 x3 x4 x5 = View.canon [⟨r0_7, result 80 0 (by omega) (y0 x0 x2 x3 x4 x5)⟩] := rfl

theorem out11 : out0_11 x0 x1 x2 x3 x4 x5 =
    View.canon [⟨r0_9, result 4 1 (by omega) (boxes 4096 (Scalar.ofBits .f32 0x41000000#32) (y0 x0 x2 x3 x4 x5))⟩] := rfl

theorem out16 : out0_16 x0 x1 x2 x3 x4 x5 =
    View.canon [⟨r0_8, result 1 0 (by omega) (boxes 4096 (Scalar.ofBits .f32 0x41000000#32) (y0 x0 x2 x3 x4 x5))⟩] := rfl

/-- The convolution at level 1. -/
def h1 : FVec F (M 192 1024) .f32 := hAt 1024 32 5 (by omega) x2 (cut 1024 0 (by omega) x1)

/-- The 88 rows at level 1. -/
def y1 : FVec F (M 88 1024) .f32 :=
  yAt 1024 (Scalar.ofBits .f32 0x44800000#32) (Named.named κ "count1024" 0x39AAAAAB#32) x3 x4 x5
    (laneSum 1024 3 rfl (h1 x1 x2)) (laneSqSum 1024 3 rfl (h1 x1 x2)) (h1 x1 x2)

theorem out7 : out0_7 x0 x1 x2 x3 x4 x5 = View.canon [⟨r0_10, result 80 0 (by omega) (y1 x1 x2 x3 x4 x5)⟩] := rfl

theorem out12 : out0_12 x0 x1 x2 x3 x4 x5 =
    View.canon [⟨r0_12, result 4 1 (by omega) (boxes 1024 (Scalar.ofBits .f32 0x41800000#32) (y1 x1 x2 x3 x4 x5))⟩] := rfl

theorem out17 : out0_17 x0 x1 x2 x3 x4 x5 =
    View.canon [⟨r0_11, result 1 0 (by omega) (boxes 1024 (Scalar.ofBits .f32 0x41800000#32) (y1 x1 x2 x3 x4 x5))⟩] := rfl

/-- The convolution at level 2. -/
def h2 : FVec F (M 192 256) .f32 := hAt 256 16 4 (by omega) x2 (cut 256 1024 (by omega) x1)

/-- The 88 rows at level 2. -/
def y2 : FVec F (M 88 256) .f32 :=
  yAt 256 (Scalar.ofBits .f32 0x43800000#32) (Named.named κ "count256" 0x3AAAAAAB#32) x3 x4 x5
    (laneSum 256 1 rfl (h2 x1 x2)) (laneSqSum 256 1 rfl (h2 x1 x2)) (h2 x1 x2)

theorem out8 : out0_8 x0 x1 x2 x3 x4 x5 = View.canon [⟨r0_13, result 80 0 (by omega) (y2 x1 x2 x3 x4 x5)⟩] := rfl

theorem out13 : out0_13 x0 x1 x2 x3 x4 x5 =
    View.canon [⟨r0_15, result 4 1 (by omega) (boxes 256 (Scalar.ofBits .f32 0x42000000#32) (y2 x1 x2 x3 x4 x5))⟩] := rfl

theorem out18 : out0_18 x0 x1 x2 x3 x4 x5 =
    View.canon [⟨r0_14, result 1 0 (by omega) (boxes 256 (Scalar.ofBits .f32 0x42000000#32) (y2 x1 x2 x3 x4 x5))⟩] := rfl

/-- The convolution at level 3. -/
def h3 : FVec F (M 192 64) .f32 := hAt 64 8 3 (by omega) x2 (cut 64 1280 (by omega) x1)

/-- The 88 rows at level 3. -/
def y3 : FVec F (M 88 64) .f32 :=
  yAt 64 (Scalar.ofBits .f32 0x42800000#32) (Named.named κ "count64" 0x3BAAAAAB#32) x3 x4 x5
    (rowSum 64 (h3 x1 x2)) (rowSum 64 (mulf (h3 x1 x2) (h3 x1 x2))) (h3 x1 x2)

theorem out9 : out0_9 x0 x1 x2 x3 x4 x5 = View.canon [⟨r0_16, result 80 0 (by omega) (y3 x1 x2 x3 x4 x5)⟩] := rfl

theorem out14 : out0_14 x0 x1 x2 x3 x4 x5 =
    View.canon [⟨r0_18, result 4 1 (by omega) (boxes 64 (Scalar.ofBits .f32 0x42800000#32) (y3 x1 x2 x3 x4 x5))⟩] := rfl

theorem out19 : out0_19 x0 x1 x2 x3 x4 x5 =
    View.canon [⟨r0_17, result 1 0 (by omega) (boxes 64 (Scalar.ofBits .f32 0x42800000#32) (y3 x1 x2 x3 x4 x5))⟩] := rfl

/-- The convolution at level 4. -/
def h4 : FVec F (M 192 16) .f32 := hAt 16 4 2 (by omega) x2 (cut 16 1408 (by omega) x1)

/-- The 88 rows at level 4. -/
def y4 : FVec F (M 88 16) .f32 :=
  yAt 16 (Scalar.ofBits .f32 0x41800000#32) (Named.named κ "count16" 0x3CAAAAAB#32) x3 x4 x5
    (rowSum 16 (h4 x1 x2)) (rowSum 16 (mulf (h4 x1 x2) (h4 x1 x2))) (h4 x1 x2)

theorem out10 : out0_10 x0 x1 x2 x3 x4 x5 = View.canon [⟨r0_19, result 80 0 (by omega) (y4 x1 x2 x3 x4 x5)⟩] := rfl

theorem out15 : out0_15 x0 x1 x2 x3 x4 x5 =
    View.canon [⟨r0_21, result 4 1 (by omega) (boxes 16 (Scalar.ofBits .f32 0x43000000#32) (y4 x1 x2 x3 x4 x5))⟩] := rfl

theorem out20 : out0_20 x0 x1 x2 x3 x4 x5 =
    View.canon [⟨r0_20, result 1 0 (by omega) (boxes 16 (Scalar.ofBits .f32 0x43000000#32) (y4 x1 x2 x3 x4 x5))⟩] := rfl

end Cert.Head

end
-- ==== Proof.Blocks.lean ====
/- What the kernel's blocks hold at a point of its grid: point `t` works on image `t` of the batch. -/
module

public import proofs.«01_k».proof.Proof.Host
public import proofs.«01_k».proof.Proof.Kernel
public import proofs.«01_k».proof.Proof.Stats
public import Idealize.ShloMosaic.Lib.Pipeline.ValueKit.Point

@[expose] public section

noncomputable section

namespace Cert.Head

open Idealize.ShloMosaic Idealize.ShloMosaic.TcCoe Idealize.SL.Sem Cert.KernelIdeal Cert.KernelIdeal.Gen

variable {α : Type}

/-! ## Parts of a block -/

/-- The first filters of the packed ones. -/
theorem ld_left (f : ℕ → ℕ → EReal) : View.ld (Val := Elt Ideal) (e' := .bf16) (mk2 f : (M 192 864).Idx → EReal) r0_3 = (mk2 f : (M 192 384).Idx → EReal) := by
  refine of_entries _ _ fun r q hr hq => ?_
  show f (0 + 1 * r) (0 + 1 * q) = f r q
  congr 1 <;> omega

/-- The other filters of the packed ones. -/
theorem ld_right (f : ℕ → ℕ → EReal) :
    View.ld (Val := Elt Ideal) (e' := .bf16) (mk2 f : (M 192 864).Idx → EReal) r0_4 = (mk2 fun r q => f r (384 + q) : (M 192 480).Idx → EReal) := by
  refine of_entries _ _ fun r q hr hq => ?_
  show f (0 + 1 * r) (384 + 1 * q) = f r (384 + q)
  congr 1 <;> omega

/-- A matrix behind a leading axis of one. -/
theorem cast_drop {a b : ℕ} (x : Shape.Idx ⟨3, ![1, a, b]⟩ → α) (h) (f : ℕ → ℕ → α)
    (hx : ∀ r p (hr : r < a) (hp : p < b), x (ix3 (n0 := 1) 0 ⟨r, hr⟩ ⟨p, hp⟩) = f r p) : shapeCast (M a b) x h = mk2 f := by
  refine of_entries _ _ fun r p hr hp => ?_
  refine (shapeCast_apply _ _ _ (ix3 0 ⟨r, hr⟩ ⟨p, hp⟩) ?_).trans (hx r p hr hp)
  rw [Shape.rowMajor_val_three, Shape.rowMajor_val_two]
  show (0 * a + r) * b + p = r * b + p
  rw [Nat.zero_mul, Nat.zero_add]

/-- Two columns of the packed parameters hold one vector for each head. -/
theorem col2_eq (x : (M 96 8).Idx → EReal) (p q : ℕ) (hp : p + 1 ≤ 8) (hq : q + 1 ≤ 8) (f g : ℕ → EReal)
    (hf : ∀ r (hr : r < 96), x (ix2 ⟨r, hr⟩ ⟨p, hp⟩) = f r) (hg : ∀ r (hr : r < 96), x (ix2 ⟨r, hr⟩ ⟨q, hq⟩) = g r) :
    col2 (F := Ideal) p q hp hq x = mk2 fun r _ => both f g r := by
  have hcol : ∀ (p : ℕ) (hp : p + 1 ≤ 8) (f : ℕ → EReal), (∀ r (hr : r < 96), x (ix2 ⟨r, hr⟩ ⟨p, hp⟩) = f r) →
      blk 96 1 0 p ⟨le_refl _, hp⟩ x = mk2 fun r _ => f r := by
    intro p hp f hf
    refine of_entries _ _ fun r k hr hk => ?_
    refine (congrArg x ?_).trans (hf r hr)
    funext b
    match b with
    | ⟨0, _⟩ => exact Fin.ext (Nat.zero_add r)
    | ⟨1, _⟩ => exact Fin.ext (by show p + k = p; omega)
  unfold col2
  rw [cast_self, hcol p hp f hf, hcol q hq g hg, stack_mk2]
  rfl

/-- A result's block, from the matrix it is cut of. -/
theorem canon_result {a S a' o : ℕ} (h : o + a' ≤ a) (g : ℕ → ℕ → EReal) (inb) (i : Shape.Idx ⟨3, ![1, a', S]⟩) :
    View.canon (Val := Elt Ideal) (e := .f32) [⟨Rect.unit (s := ⟨3, ![1, a', S]⟩) ![0, 0, 0] ![1, a', S] inb, result a' o h (mk2 g : (M a S).Idx → EReal)⟩] i
      = g (o + (i 1).val) (i 2).val := by
  refine (congrFun (View.canon_unit_zero (S := ⟨3, ![1, a', S]⟩) (off := ![0, 0, 0]) ?_ inb _) i).trans ?_
  · funext b
    match b with
    | ⟨0, _⟩ => rfl
    | ⟨1, _⟩ => rfl
    | ⟨2, _⟩ => rfl
  · have e : i = ix3 0 (i 1) (i 2) := by
      funext b
      match b with
      | ⟨0, _⟩ =>
        have h0 : (i 0).val < 1 := (i 0).isLt
        exact Fin.ext (show (i 0).val = 0 by omega)
      | ⟨1, _⟩ => rfl
      | ⟨2, _⟩ => rfl
    rw [e]
    exact result_apply h g (i 1) (i 2)

theorem mk3_at (f : ℕ → ℕ → ℕ → α) {a b c n r p : ℕ} (j : Shape.Idx ⟨3, ![a, b, c]⟩) (h0 : (j 0).val = n) (h1 : (j 1).val = r) (h2 : (j 2).val = p) :
    (mk3 f : Shape.Idx ⟨3, ![a, b, c]⟩ → α) j = f n r p := by
  subst h0 h1 h2
  rfl

/-! ## The input blocks -/

variable (m : (ℓ : Loc nD τ sig) → Buf (Elt Ideal) ℓ) (c : Dev nD) (t : Fin cfg0.N)

/-- Where the input windows' blocks lie: the images' at the point's image, the others at the start. -/
theorem idx_in : ∀ t : Fin cfg0.N, win0_0.index t = ![t.val, 0, 0] ∧ win0_1.index t = ![t.val, 0, 0] ∧ win0_2.index t = ![0, 0]
    ∧ win0_3.index t = ![0, 0] ∧ win0_4.index t = ![0, 0] ∧ win0_5.index t = ![0, 0] := by decide +kernel

theorem in0 (o : Fin 96) (p : Fin 4096) : iblk m c 0 t (ix3 (n0 := 1) 0 o p) = V m c main_v30 (ix3 (n0 := 4) t o p) := by
  show V m c main_v30 _ = V m c main_v30 _
  blk_ext [(idx_in t).1]

theorem in1 (o : Fin 96) (p : Fin 1424) : iblk m c 1 t (ix3 (n0 := 1) 0 o p) = V m c main_v40 (ix3 (n0 := 4) t o p) := by
  show V m c main_v40 _ = V m c main_v40 _
  blk_ext [(idx_in t).2.1]

theorem in2 : iblk m c 2 t = V m c main_v3 := by
  funext i
  show V m c main_v3 _ = V m c main_v3 _
  blk_ext [(idx_in t).2.2.1]

theorem in3 : iblk m c 3 t = V m c main_v14 := by
  funext i
  show V m c main_v14 _ = V m c main_v14 _
  blk_ext [(idx_in t).2.2.2.1]

theorem in4 : iblk m c 4 t = V m c main_v26 := by
  funext i
  show V m c main_v26 _ = V m c main_v26 _
  blk_ext [(idx_in t).2.2.2.2.1]

theorem in5 : iblk m c 5 t = V m c main_v29 := by
  funext i
  show V m c main_v29 _ = V m c main_v29 _
  blk_ext [(idx_in t).2.2.2.2.2]

/-- The first level's image at a point. -/
theorem image0 (h₁ h₂) : truncf (F := Ideal) (φ := .f32) .bf16 (shapeCast (M 96 4096) (View.ld (iblk m c 0 t) r0_1) h₁) h₂
    = mk2 (flat (m ((c.tc : Thread nD τ).loc main_arg0)) t.val) := by
  have e : View.ld (iblk m c 0 t) r0_1 = iblk m c 0 t := View.ld_unit_zero (S := S1x96x4096) (off := ![0, 0, 0]) (by decide) _ (iblk m c 0 t)
  show shapeCast (M 96 4096) (View.ld (iblk m c 0 t) r0_1) h₁ = _
  rw [e]
  refine cast_drop (a := 96) (b := 4096) (iblk m c 0 t) h₁ _ fun r p hr hp => ?_
  refine (in0 m c t ⟨r, hr⟩ ⟨p, hp⟩).trans ?_
  rw [V_images0]
  rfl

/-- Another level's image at a point. -/
theorem image (S off : ℕ) (h : off + S ≤ 1424) (f : ℕ → ℕ → EReal)
    (hf : ∀ o p (ho : o < 96) (hp : p < S), V m c main_v40 (ix3 (n0 := 4) (n1 := 96) (n2 := 1424) t ⟨o, ho⟩ ⟨off + p, by omega⟩) = f o p) :
    cut (F := Ideal) S off h (iblk m c 1 t) = mk2 f := by
  refine of_entries _ _ fun o p ho hp => ?_
  refine Eq.trans ?_ (hf o p ho hp)
  refine (shapeCast_apply _ _ _ (ix3 (n0 := 1) 0 ⟨o, ho⟩ ⟨off + p, by omega⟩) ?_).trans ?_
  · rw [Shape.rowMajor_val_three, Shape.rowMajor_val_two]
    show (0 * 96 + o) * 1424 + (off + p) = (0 + o) * 1424 + (off + p)
    omega
  refine (congrFun (View.ld_unit_zero (S := S1x96x1424) (off := ![0, 0, 0]) (by decide) _ (iblk m c 1 t)) _).trans ?_
  exact in1 m c t _ _

end Cert.Head

end
-- ==== Proof.Value.lean ====
/- What the kernel's blocks of 88 rows are at one level, from the arguments: the reference's two heads, one on another. -/
module

public import proofs.«01_k».proof.Proof.Blocks

@[expose] public section

noncomputable section

namespace Cert.Head

open Idealize.ShloMosaic Idealize.ShloMosaic.TcCoe Idealize.SL.Sem Cert.KernelIdeal Cert.KernelIdeal.Gen

variable (m : (ℓ : Loc nD τ sig) → Buf (Elt Ideal) ℓ) (c : Dev nD) (t : Fin cfg0.N)

/-- The class head at a level of `S` positions in rows of `W`, of the images `x`. -/
def clsRows (W S : ℕ) (x : (T4 4 96 W W).Idx → EReal) : ℕ → ℕ → ℕ → EReal :=
  headRows W S ((3 * S : ℝ) : EReal) x (m ((c.tc : Thread nD τ).loc main_arg5)) (m ((c.tc : Thread nD τ).loc main_arg6))
    (m ((c.tc : Thread nD τ).loc main_arg7)) (m ((c.tc : Thread nD τ).loc main_arg8)) (m ((c.tc : Thread nD τ).loc main_arg9))
    (m ((c.tc : Thread nD τ).loc main_arg10))

/-- The box head at a level of `S` positions in rows of `W`, of the images `x`. -/
def regRows (W S : ℕ) (x : (T4 4 96 W W).Idx → EReal) : ℕ → ℕ → ℕ → EReal :=
  headRows W S ((3 * S : ℝ) : EReal) x (m ((c.tc : Thread nD τ).loc main_arg11)) (m ((c.tc : Thread nD τ).loc main_arg12))
    (m ((c.tc : Thread nD τ).loc main_arg13)) (m ((c.tc : Thread nD τ).loc main_arg14)) (m ((c.tc : Thread nD τ).loc main_arg15))
    (m ((c.tc : Thread nD τ).loc main_arg16))

/-- The 3x3 weights, the biases and the factors are finite. -/
structure FiniteWeights : Prop where
  clsW : ∀ r t q, IsReal (taps (m ((c.tc : Thread nD τ).loc main_arg5)) r t q)
  regW : ∀ r t q, IsReal (taps (m ((c.tc : Thread nD τ).loc main_arg11)) r t q)
  clsB : ∀ r, IsReal (at1 (m ((c.tc : Thread nD τ).loc main_arg6)) r)
  regB : ∀ r, IsReal (at1 (m ((c.tc : Thread nD τ).loc main_arg12)) r)
  clsG : ∀ r, IsReal (at1 (m ((c.tc : Thread nD τ).loc main_arg7)) r)
  regG : ∀ r, IsReal (at1 (m ((c.tc : Thread nD τ).loc main_arg13)) r)

/-- The convolution at a point: both heads' filters over the point's image. -/
theorem hAt_eq {S lw : ℕ} (hl : lw < 7) (hl0 : 0 < lw) (hS : S = 2 ^ lw * 2 ^ lw) (hW : 2 ^ lw + 1 ≤ S) (x : FVec Ideal (M 96 S) .bf16)
    (X : ℕ → ℕ → EReal) (hx : x = mk2 X) :
    hAt (F := Ideal) S (2 ^ lw) lw hW (iblk m c 2 t) x = mk2 (conv9 (2 ^ lw) X
      (both (taps (m ((c.tc : Thread nD τ).loc main_arg5))) (taps (m ((c.tc : Thread nD τ).loc main_arg11))))) := by
  have e : iblk m c 2 t = _ := (in2 m c t).trans (V_filters m c)
  unfold hAt
  rw [e, hx]
  refine (congrArg₂ (conv (F := Ideal) S (2 ^ lw) lw hW (mk2 X)) (ld_left _) (ld_right _)).trans ?_
  refine (conv_mk2 hl hl0 hS hW X _).trans (mk2_congr fun r p _ _ => ?_)
  unfold conv9
  refine Finset.sum_congr rfl fun t _ => Finset.sum_congr rfl fun q hq => ?_
  have hq' := Finset.mem_range.1 hq
  dsimp only
  rw [show (t * 96 + q) / 96 = t by omega, show (t * 96 + q) % 96 = q by omega]

/-- The packed vectors at a point, head on head. -/
theorem vectors_eq :
    col2 (F := Ideal) 0 3 (by omega) (by omega) (View.ld (iblk m c 3 t) r0_0)
        = mk2 (fun r _ => both (at1 (m ((c.tc : Thread nD τ).loc main_arg6))) (at1 (m ((c.tc : Thread nD τ).loc main_arg12))) r)
    ∧ col2 (F := Ideal) 1 4 (by omega) (by omega) (View.ld (iblk m c 3 t) r0_0)
        = mk2 (fun r _ => both (at1 (m ((c.tc : Thread nD τ).loc main_arg7))) (at1 (m ((c.tc : Thread nD τ).loc main_arg13))) r)
    ∧ col2 (F := Ideal) 2 5 (by omega) (by omega) (View.ld (iblk m c 3 t) r0_0)
        = mk2 (fun r _ => both (at1 (m ((c.tc : Thread nD τ).loc main_arg8))) (at1 (m ((c.tc : Thread nD τ).loc main_arg14))) r) := by
  have e : View.ld (iblk m c 3 t) r0_0 = V m c main_v14 :=
    (View.ld_unit_zero (S := S96x8) (off := ![0, 0]) (by decide) _ (iblk m c 3 t)).trans (in3 m c t)
  rw [e]
  exact ⟨col2_eq _ 0 3 _ _ _ _ (fun r hr => by have h := V_vectors m c 0 r (by omega) hr; exact h) (fun r hr => by have h := V_vectors m c 3 r (by omega) hr; exact h),
    col2_eq _ 1 4 _ _ _ _ (fun r hr => by have h := V_vectors m c 1 r (by omega) hr; exact h) (fun r hr => by have h := V_vectors m c 4 r (by omega) hr; exact h),
    col2_eq _ 2 5 _ _ _ _ (fun r hr => by have h := V_vectors m c 2 r (by omega) hr; exact h) (fun r hr => by have h := V_vectors m c 5 r (by omega) hr; exact h)⟩

/-- `body_mk2` of operands known by equations. -/
theorem body_of {S : ℕ} {n cnt : EReal} {b gam bet fb : ℕ → EReal} {wf h : ℕ → ℕ → EReal} {b' g' t' : FVec Ideal (M 192 1) .f32}
    {w' : FVec Ideal (M 88 192) .bf16} {f' : FVec Ideal (M 88 1) .f32} (hb : b' = mk2 fun r _ => b r) (hg : g' = mk2 fun r _ => gam r)
    (ht : t' = mk2 fun r _ => bet r) (hw : w' = mk2 wf) (hf : f' = mk2 fun r _ => fb r) :
    body (F := Ideal) S n cnt b' g' t' w' f' (mk2 fun r _ => ∑ p ∈ Finset.range S, h r p)
        (mk2 fun r _ => ∑ p ∈ Finset.range S, h r p * h r p) (mk2 h) = mk2 (krows S n cnt b gam bet fb wf h) := by
  subst hb hg ht hw hf
  exact body_mk2 S n cnt b gam bet fb wf h

/-- The 88 rows at a level: the class head's rows, then the box head's. -/
theorem rows_eq {S lw : ℕ} (hl : lw < 7) (hl0 : 0 < lw) (hS : S = 2 ^ lw * 2 ^ lw) (hW : 2 ^ lw + 1 ≤ S) (n cnt : EReal)
    (hn : n = ((S : ℝ) : EReal)) (hc : cnt = ((1 / (3 * S) : ℝ) : EReal)) (x : FVec Ideal (M 96 S) .bf16)
    (I : (T4 4 96 (2 ^ lw) (2 ^ lw)).Idx → EReal) (hx : x = mk2 (flat I t.val))
    (s1 s2 : FVec Ideal (M 192 S) .f32 → FVec Ideal (M 192 1) .f32)
    (h1 : ∀ f, s1 (mk2 f) = mk2 fun r _ => ∑ p ∈ Finset.range S, f r p)
    (h2 : ∀ f, s2 (mk2 f) = mk2 fun r _ => ∑ p ∈ Finset.range S, f r p * f r p)
    (fw : FiniteWeights m c) (hI : ∀ o p, IsReal (flat I t.val o p)) :
    ∃ g : ℕ → ℕ → EReal,
      yAt (F := Ideal) S n cnt (iblk m c 3 t) (iblk m c 4 t) (iblk m c 5 t) (s1 (hAt S (2 ^ lw) lw hW (iblk m c 2 t) x))
        (s2 (hAt S (2 ^ lw) lw hW (iblk m c 2 t) x)) (hAt S (2 ^ lw) lw hW (iblk m c 2 t) x) = mk2 g
      ∧ (∀ r p, r < 80 → g r p = clsRows m c (2 ^ lw) S I t.val r p) ∧ (∀ r p, r < 5 → g (80 + r) p = regRows m c (2 ^ lw) S I t.val r p) := by
  subst hn hc
  have e4 : View.ld (iblk m c 4 t) r0_5 = _ :=
    (View.ld_unit_zero (S := S88x192) (off := ![0, 0]) (by decide) _ (iblk m c 4 t)).trans ((in4 m c t).trans (V_out m c))
  have e5 : View.ld (iblk m c 5 t) r0_6 = _ :=
    (View.ld_unit_zero (S := S88x1) (off := ![0, 0]) (by decide) _ (iblk m c 5 t)).trans ((in5 m c t).trans (V_bias m c))
  obtain ⟨v0, v1, v2⟩ := vectors_eq m c t
  have hk := fun p => krows_eq S (2 ^ lw) (Nat.lt_of_lt_of_le (Nat.succ_pos _) hW) (flat I t.val) _ _ _ _ _ _ (at1 (m ((c.tc : Thread nD τ).loc main_arg8)))
    (at1 (m ((c.tc : Thread nD τ).loc main_arg14))) (at1 (m ((c.tc : Thread nD τ).loc main_arg10)))
    (at1 (m ((c.tc : Thread nD τ).loc main_arg16))) (fun r q => at4 (m ((c.tc : Thread nD τ).loc main_arg9)) r q 0 0)
    (fun r q => at4 (m ((c.tc : Thread nD τ).loc main_arg15)) r q 0 0) hI fw.clsW fw.regW fw.clsB fw.regB fw.clsG fw.regG p
  refine ⟨_, ?_, fun r p hr => (hk p).1 r hr, fun r p hr => (hk p).2 r hr⟩
  rw [hAt_eq m c t hl hl0 hS hW x _ hx, h1, h2]
  unfold yAt
  exact body_of v0 v1 v2 e4 e5

end Cert.Head

end
-- ==== Proof.Arrays.lean ====
/- The kernel's fifteen result arrays after its run. -/
module

public import proofs.«01_k».proof.Proof.Value

@[expose] public section

noncomputable section

namespace Cert.Head

open Idealize.ShloMosaic Idealize.ShloMosaic.TcCoe Idealize.SL.Sem Cert.KernelIdeal Cert.KernelIdeal.Gen

variable (m : (ℓ : Loc nD τ sig) → Buf (Elt Ideal) ℓ) (c : Dev nD)

/-- The 88 rows `y` are those of both heads for image `n` of `x`. -/
def IsRows (W S : ℕ) (x : (T4 4 96 W W).Idx → EReal) (n : ℕ) (y : FVec Ideal (M 88 S) .f32) : Prop :=
  ∃ g : ℕ → ℕ → EReal, y = mk2 g ∧ (∀ r p, r < 80 → g r p = clsRows m c W S x n r p) ∧ (∀ r p, r < 5 → g (80 + r) p = regRows m c W S x n r p)

variable {m c} {W S n : ℕ} {x : (T4 4 96 W W).Idx → EReal} {y : FVec Ideal (M 88 S) .f32}

/-- A class block. -/
theorem cls_block (h : IsRows m c W S x n y) (inb) (i : Shape.Idx ⟨3, ![1, 80, S]⟩) (hr) :
    View.canon (Val := Elt Ideal) (e := .f32) [⟨Rect.unit (s := ⟨3, ![1, 80, S]⟩) ![0, 0, 0] ![1, 80, S] inb, result 80 0 hr y⟩] i
      = clsRows m c W S x n (i 1).val (i 2).val := by
  obtain ⟨g, rfl, hc, -⟩ := h
  refine (canon_result hr g inb i).trans ?_
  rw [Nat.zero_add]
  exact hc _ _ (i 1).isLt

/-- The four box distances of a head: its rows from the second on, scaled and cut below at zero. -/
def boxesOf (stride : BitVec 32) (f : ℕ → ℕ → ℕ → EReal) (n r p : ℕ) : EReal := max (f n (1 + r) p * Ideal.ofBits .f32 stride) 0

/-- A block of the four box distances. -/
theorem reg_block (h : IsRows m c W S x n y) (inb) (stride : BitVec 32) (i : Shape.Idx ⟨3, ![1, 4, S]⟩) (hr) :
    View.canon (Val := Elt Ideal) (e := .f32)
        [⟨Rect.unit (s := ⟨3, ![1, 4, S]⟩) ![0, 0, 0] ![1, 4, S] inb, result 4 1 hr (boxes S (Scalar.ofBits .f32 stride) y)⟩] i
      = boxesOf stride (regRows m c W S x) n (i 1).val (i 2).val := by
  obtain ⟨g, rfl, -, hg⟩ := h
  have h4 : (i 1).val < 4 := (i 1).isLt
  refine (congrArg (fun y => View.canon (Val := Elt Ideal) (e := .f32)
    [⟨Rect.unit (s := ⟨3, ![1, 4, S]⟩) ![0, 0, 0] ![1, 4, S] inb, result 4 1 hr y⟩] i) (boxes_mk2 S (Ideal.ofBits .f32 stride) g)).trans ?_
  refine (canon_result hr _ inb i).trans ?_
  rw [if_pos (by omega), hg _ _ (by omega)]
  rfl

/-- A centerness block. -/
theorem cent_block (h : IsRows m c W S x n y) (inb) (stride : BitVec 32) (i : Shape.Idx ⟨3, ![1, 1, S]⟩) (hr) :
    View.canon (Val := Elt Ideal) (e := .f32)
        [⟨Rect.unit (s := ⟨3, ![1, 1, S]⟩) ![0, 0, 0] ![1, 1, S] inb, result 1 0 hr (boxes S (Scalar.ofBits .f32 stride) y)⟩] i
      = regRows m c W S x n (i 1).val (i 2).val := by
  obtain ⟨g, rfl, -, hg⟩ := h
  have h4 : (i 1).val < 1 := (i 1).isLt
  refine (congrArg (fun y => View.canon (Val := Elt Ideal) (e := .f32)
    [⟨Rect.unit (s := ⟨3, ![1, 1, S]⟩) ![0, 0, 0] ![1, 1, S] inb, result 1 0 hr y⟩] i) (boxes_mk2 S (Ideal.ofBits .f32 stride) g)).trans ?_
  refine (canon_result hr _ inb i).trans ?_
  rw [if_neg (by omega), hg _ _ (by omega), Nat.zero_add]

variable (m c)

/-- The words of the counts and strides. -/
theorem words : Ideal.ofBits .f32 0x45800000#32 = ((4096 : ℝ) : EReal) ∧ Ideal.ofBits .f32 0x44800000#32 = ((1024 : ℝ) : EReal)
    ∧ Ideal.ofBits .f32 0x43800000#32 = ((256 : ℝ) : EReal) ∧ Ideal.ofBits .f32 0x42800000#32 = ((64 : ℝ) : EReal)
    ∧ Ideal.ofBits .f32 0x41800000#32 = ((16 : ℝ) : EReal) := by
  refine ⟨?_, ?_, ?_, ?_, ?_⟩ <;> simp [Ideal.ofBits, Ideal.ieee, -EReal.coe_mul] <;> norm_num

/-- The 88 rows of the first level. -/
theorem level0 (fw : FiniteWeights m c) (hI : ∀ n o p, IsReal (flat (m ((c.tc : Thread nD τ).loc main_arg0)) n o p)) (t : Fin cfg0.N) :
    IsRows m c 64 4096 (m ((c.tc : Thread nD τ).loc main_arg0)) t.val
      (y0 (iblk m c 0 t) (iblk m c 2 t) (iblk m c 3 t) (iblk m c 4 t) (iblk m c 5 t)) :=
  rows_eq m c t (S := 4096) (lw := 6) (by omega) (by omega) rfl (by decide) _ _ (words.1.trans (by norm_num))
    ((IdealRules.named_const.ideal_named_scalar _ _ _ _ rfl).trans (by norm_num)) _ _ (image0 m c t _ _) (laneSum 4096 5 rfl) (laneSqSum 4096 5 rfl)
    (fun f => laneSum_mk2 rfl f) (fun f => laneSqSum_mk2 rfl f) fw (hI t.val)

/-- The 88 rows of the second level. -/
theorem level1 (fw : FiniteWeights m c) (hI : ∀ n o p, IsReal (flat (m ((c.tc : Thread nD τ).loc main_arg1)) n o p)) (t : Fin cfg0.N) :
    IsRows m c 32 1024 (m ((c.tc : Thread nD τ).loc main_arg1)) t.val
      (y1 (iblk m c 1 t) (iblk m c 2 t) (iblk m c 3 t) (iblk m c 4 t) (iblk m c 5 t)) :=
  rows_eq m c t (S := 1024) (lw := 5) (by omega) (by omega) rfl (by decide) _ _ (words.2.1.trans (by norm_num))
    ((IdealRules.named_const.ideal_named_scalar _ _ _ _ rfl).trans (by norm_num)) _ _
    (image m c t 1024 0 (by omega) _ fun o p ho hp => (V_images m c t.val o p t.isLt ho).1 hp) (laneSum 1024 3 rfl) (laneSqSum 1024 3 rfl)
    (fun f => laneSum_mk2 rfl f) (fun f => laneSqSum_mk2 rfl f) fw (hI t.val)

/-- The 88 rows of the third level. -/
theorem level2 (fw : FiniteWeights m c) (hI : ∀ n o p, IsReal (flat (m ((c.tc : Thread nD τ).loc main_arg2)) n o p)) (t : Fin cfg0.N) :
    IsRows m c 16 256 (m ((c.tc : Thread nD τ).loc main_arg2)) t.val
      (y2 (iblk m c 1 t) (iblk m c 2 t) (iblk m c 3 t) (iblk m c 4 t) (iblk m c 5 t)) :=
  rows_eq m c t (S := 256) (lw := 4) (by omega) (by omega) rfl (by decide) _ _ (words.2.2.1.trans (by norm_num))
    ((IdealRules.named_const.ideal_named_scalar _ _ _ _ rfl).trans (by norm_num)) _ _
    (image m c t 256 1024 (by omega) _ fun o p ho hp => (V_images m c t.val o p t.isLt ho).2.1 hp) (laneSum 256 1 rfl) (laneSqSum 256 1 rfl)
    (fun f => laneSum_mk2 rfl f) (fun f => laneSqSum_mk2 rfl f) fw (hI t.val)

/-- The 88 rows of the fourth level. -/
theorem level3 (fw : FiniteWeights m c) (hI : ∀ n o p, IsReal (flat (m ((c.tc : Thread nD τ).loc main_arg3)) n o p)) (t : Fin cfg0.N) :
    IsRows m c 8 64 (m ((c.tc : Thread nD τ).loc main_arg3)) t.val
      (y3 (iblk m c 1 t) (iblk m c 2 t) (iblk m c 3 t) (iblk m c 4 t) (iblk m c 5 t)) :=
  rows_eq m c t (S := 64) (lw := 3) (by omega) (by omega) rfl (by decide) _ _ (words.2.2.2.1.trans (by norm_num))
    ((IdealRules.named_const.ideal_named_scalar _ _ _ _ rfl).trans (by norm_num)) _ _
    (image m c t 64 1280 (by omega) _ fun o p ho hp => (V_images m c t.val o p t.isLt ho).2.2.1 hp) (rowSum 64) (fun h => rowSum 64 (mulf h h))
    (fun f => rowSum_mk2 f) (fun f => rowSum_mk2 fun r p => f r p * f r p) fw (hI t.val)

/-- The 88 rows of the fifth level. -/
theorem level4 (fw : FiniteWeights m c) (hI : ∀ n o p, IsReal (flat (m ((c.tc : Thread nD τ).loc main_arg4)) n o p)) (t : Fin cfg0.N) :
    IsRows m c 4 16 (m ((c.tc : Thread nD τ).loc main_arg4)) t.val
      (y4 (iblk m c 1 t) (iblk m c 2 t) (iblk m c 3 t) (iblk m c 4 t) (iblk m c 5 t)) :=
  rows_eq m c t (S := 16) (lw := 2) (by omega) (by omega) rfl (by decide) _ _ (words.2.2.2.2.trans (by norm_num))
    ((IdealRules.named_const.ideal_named_scalar _ _ _ _ rfl).trans (by norm_num)) _ _
    (image m c t 16 1408 (by omega) _ fun o p ho hp => (V_images m c t.val o p t.isLt ho).2.2.2 hp) (rowSum 16) (fun h => rowSum 16 (mulf h h))
    (fun f => rowSum_mk2 f) (fun f => rowSum_mk2 fun r p => f r p * f r p) fw (hI t.val)

/-- Where the result windows' blocks lie: at the point's image. -/
theorem idx_out : ∀ t : Fin cfg0.N,
    win0_6.index t = ![t.val, 0, 0]
    ∧ win0_7.index t = ![t.val, 0, 0]
    ∧ win0_8.index t = ![t.val, 0, 0]
    ∧ win0_9.index t = ![t.val, 0, 0]
    ∧ win0_10.index t = ![t.val, 0, 0]
    ∧ win0_11.index t = ![t.val, 0, 0]
    ∧ win0_12.index t = ![t.val, 0, 0]
    ∧ win0_13.index t = ![t.val, 0, 0]
    ∧ win0_14.index t = ![t.val, 0, 0]
    ∧ win0_15.index t = ![t.val, 0, 0]
    ∧ win0_16.index t = ![t.val, 0, 0]
    ∧ win0_17.index t = ![t.val, 0, 0]
    ∧ win0_18.index t = ![t.val, 0, 0]
    ∧ win0_19.index t = ![t.val, 0, 0]
    ∧ win0_20.index t = ![t.val, 0, 0] := by decide +kernel

/-- The images are finite. -/
structure FiniteImages : Prop where
  i0 : ∀ n o p, IsReal (flat (m ((c.tc : Thread nD τ).loc main_arg0)) n o p)
  i1 : ∀ n o p, IsReal (flat (m ((c.tc : Thread nD τ).loc main_arg1)) n o p)
  i2 : ∀ n o p, IsReal (flat (m ((c.tc : Thread nD τ).loc main_arg2)) n o p)
  i3 : ∀ n o p, IsReal (flat (m ((c.tc : Thread nD τ).loc main_arg3)) n o p)
  i4 : ∀ n o p, IsReal (flat (m ((c.tc : Thread nD τ).loc main_arg4)) n o p)

variable (fw : FiniteWeights m c) (fi : FiniteImages m c)
include fw fi

/-- The class arrays after the run. -/
theorem cls_arrays :
    (dats m 0 c).arrAt 6 cfg0.N = (mk3 (clsRows m c 64 4096 (m ((c.tc : Thread nD τ).loc main_arg0))) : S4x80x4096.Idx → EReal)
    ∧ (dats m 0 c).arrAt 7 cfg0.N = (mk3 (clsRows m c 32 1024 (m ((c.tc : Thread nD τ).loc main_arg1))) : S4x80x1024.Idx → EReal)
    ∧ (dats m 0 c).arrAt 8 cfg0.N = (mk3 (clsRows m c 16 256 (m ((c.tc : Thread nD τ).loc main_arg2))) : S4x80x256.Idx → EReal)
    ∧ (dats m 0 c).arrAt 9 cfg0.N = (mk3 (clsRows m c 8 64 (m ((c.tc : Thread nD τ).loc main_arg3))) : S4x80x64.Idx → EReal)
    ∧ (dats m 0 c).arrAt 10 cfg0.N = (mk3 (clsRows m c 4 16 (m ((c.tc : Thread nD τ).loc main_arg4))) : S4x80x16.Idx → EReal) := by
  refine ⟨?_, ?_, ?_, ?_, ?_⟩ <;> refine (dats m 0 c).arrAt_eq_of_covers _ _ (by decide +kernel) fun t hf y => ?_ <;> blk_simp
  · rw [after0_6, out6]
    refine (cls_block (level0 m c fw fi.i0 t) _ y _).trans (mk3_at _ _ ?_ ?_ ?_).symm <;> blk_simp [idx_out t]
  · rw [after0_7, out7]
    refine (cls_block (level1 m c fw fi.i1 t) _ y _).trans (mk3_at _ _ ?_ ?_ ?_).symm <;> blk_simp [idx_out t]
  · rw [after0_8, out8]
    refine (cls_block (level2 m c fw fi.i2 t) _ y _).trans (mk3_at _ _ ?_ ?_ ?_).symm <;> blk_simp [idx_out t]
  · rw [after0_9, out9]
    refine (cls_block (level3 m c fw fi.i3 t) _ y _).trans (mk3_at _ _ ?_ ?_ ?_).symm <;> blk_simp [idx_out t]
  · rw [after0_10, out10]
    refine (cls_block (level4 m c fw fi.i4 t) _ y _).trans (mk3_at _ _ ?_ ?_ ?_).symm <;> blk_simp [idx_out t]

/-- The box arrays after the run. -/
theorem reg_arrays :
    (dats m 0 c).arrAt 11 cfg0.N = (mk3 (boxesOf 0x41000000#32 (regRows m c 64 4096 (m ((c.tc : Thread nD τ).loc main_arg0)))) : S4x4x4096.Idx → EReal)
    ∧ (dats m 0 c).arrAt 12 cfg0.N = (mk3 (boxesOf 0x41800000#32 (regRows m c 32 1024 (m ((c.tc : Thread nD τ).loc main_arg1)))) : S4x4x1024.Idx → EReal)
    ∧ (dats m 0 c).arrAt 13 cfg0.N = (mk3 (boxesOf 0x42000000#32 (regRows m c 16 256 (m ((c.tc : Thread nD τ).loc main_arg2)))) : S4x4x256.Idx → EReal)
    ∧ (dats m 0 c).arrAt 14 cfg0.N = (mk3 (boxesOf 0x42800000#32 (regRows m c 8 64 (m ((c.tc : Thread nD τ).loc main_arg3)))) : S4x4x64.Idx → EReal)
    ∧ (dats m 0 c).arrAt 15 cfg0.N = (mk3 (boxesOf 0x43000000#32 (regRows m c 4 16 (m ((c.tc : Thread nD τ).loc main_arg4)))) : S4x4x16.Idx → EReal) := by
  refine ⟨?_, ?_, ?_, ?_, ?_⟩ <;> refine (dats m 0 c).arrAt_eq_of_covers _ _ (by decide +kernel) fun t hf y => ?_ <;> blk_simp
  · rw [after0_11, out11]
    refine (reg_block (level0 m c fw fi.i0 t) _ _ y _).trans (mk3_at _ _ ?_ ?_ ?_).symm <;> blk_simp [idx_out t]
  · rw [after0_12, out12]
    refine (reg_block (level1 m c fw fi.i1 t) _ _ y _).trans (mk3_at _ _ ?_ ?_ ?_).symm <;> blk_simp [idx_out t]
  · rw [after0_13, out13]
    refine (reg_block (level2 m c fw fi.i2 t) _ _ y _).trans (mk3_at _ _ ?_ ?_ ?_).symm <;> blk_simp [idx_out t]
  · rw [after0_14, out14]
    refine (reg_block (level3 m c fw fi.i3 t) _ _ y _).trans (mk3_at _ _ ?_ ?_ ?_).symm <;> blk_simp [idx_out t]
  · rw [after0_15, out15]
    refine (reg_block (level4 m c fw fi.i4 t) _ _ y _).trans (mk3_at _ _ ?_ ?_ ?_).symm <;> blk_simp [idx_out t]

/-- The centerness arrays after the run. -/
theorem cent_arrays :
    (dats m 0 c).arrAt 16 cfg0.N = (mk3 (regRows m c 64 4096 (m ((c.tc : Thread nD τ).loc main_arg0))) : S4x1x4096.Idx → EReal)
    ∧ (dats m 0 c).arrAt 17 cfg0.N = (mk3 (regRows m c 32 1024 (m ((c.tc : Thread nD τ).loc main_arg1))) : S4x1x1024.Idx → EReal)
    ∧ (dats m 0 c).arrAt 18 cfg0.N = (mk3 (regRows m c 16 256 (m ((c.tc : Thread nD τ).loc main_arg2))) : S4x1x256.Idx → EReal)
    ∧ (dats m 0 c).arrAt 19 cfg0.N = (mk3 (regRows m c 8 64 (m ((c.tc : Thread nD τ).loc main_arg3))) : S4x1x64.Idx → EReal)
    ∧ (dats m 0 c).arrAt 20 cfg0.N = (mk3 (regRows m c 4 16 (m ((c.tc : Thread nD τ).loc main_arg4))) : S4x1x16.Idx → EReal) := by
  refine ⟨?_, ?_, ?_, ?_, ?_⟩ <;> refine (dats m 0 c).arrAt_eq_of_covers _ _ (by decide +kernel) fun t hf y => ?_ <;> blk_simp
  · rw [after0_16, out16]
    refine (cent_block (level0 m c fw fi.i0 t) _ _ y _).trans (mk3_at _ _ ?_ ?_ ?_).symm <;> blk_simp [idx_out t]
  · rw [after0_17, out17]
    refine (cent_block (level1 m c fw fi.i1 t) _ _ y _).trans (mk3_at _ _ ?_ ?_ ?_).symm <;> blk_simp [idx_out t]
  · rw [after0_18, out18]
    refine (cent_block (level2 m c fw fi.i2 t) _ _ y _).trans (mk3_at _ _ ?_ ?_ ?_).symm <;> blk_simp [idx_out t]
  · rw [after0_19, out19]
    refine (cent_block (level3 m c fw fi.i3 t) _ _ y _).trans (mk3_at _ _ ?_ ?_ ?_).symm <;> blk_simp [idx_out t]
  · rw [after0_20, out20]
    refine (cent_block (level4 m c fw fi.i4 t) _ _ y _).trans (mk3_at _ _ ?_ ?_ ?_).symm <;> blk_simp [idx_out t]

end Cert.Head

end
-- ==== Proof.Finite.lean ====
/- What the precondition says of the arguments: the entries it looks at are finite. -/
module

public import proofs.«01_k».proof.Proof.Arrays
public import proofs.«01_k».proof.Proof.Gen.Pre_finite
public import proofs.«01_k».proof.Defs
public import Idealize.ShloMosaic.Lib.ReduceAll

@[expose] public section

noncomputable section

namespace Cert.Head

open Idealize.ShloMosaic Idealize.ShloMosaic.TcCoe Idealize.SL.Sem Cert.KernelIdeal Cert.KernelIdeal.Gen

/-- Below infinity in absolute value is finite. -/
theorem isReal_of_lt (x : EReal) (h : Ideal.cmp .olt (max x (-x)) (Ideal.ofBits .f32 0x7F800000#32) = 1#1) : IsReal x := by
  rw [show Ideal.ofBits .f32 0x7F800000#32 = ⊤ by simp [Ideal.ofBits, Ideal.ieee]] at h
  induction x with
  | bot => simp [Ideal.cmp] at h
  | top => simp [Ideal.cmp] at h
  | coe r => exact ⟨r, rfl⟩

/-- An array all of whose entries were found finite. -/
theorem all_finite {s : Shape} {axes : List (Fin s.rank)} (x : FVec Ideal s .f32) (hb) (h : s.ReducesTo axes Cert.Pre_finite.S_) (hu) (j)
    (e : Host.reduce IntOp.andi (cmpf .olt (Host.absf x) (broadcastInDim s ![] hb (constant Cert.Pre_finite.S_ .f32 0x7F800000#32)))
      (constantI Cert.Pre_finite.S_ 1 1#1) h hu j = 1#1) (i : s.Idx) : IsReal (x i) := by
  have : Subsingleton Cert.Pre_finite.S_.Idx := ⟨fun a b => funext fun k => k.elim0⟩
  exact isReal_of_lt _ (Host.reduce_andi_all _ _ h hu j e i)

theorem at1_real {a : ℕ} {x : Shape.Idx ⟨1, ![a]⟩ → EReal} (h : ∀ i, IsReal (x i)) (n : ℕ) : IsReal (at1 x n) := by
  unfold at1
  split
  · exact h _
  · exact IsReal.zero

theorem at4_real {a b W V : ℕ} {x : (T4 a b W V).Idx → EReal} (h : ∀ i, IsReal (x i)) (n c i j : ℕ) : IsReal (at4 x n c i j) := by
  unfold at4
  split
  · exact h _
  · exact IsReal.zero

/-- Both operands of an `and` that is one are one. -/
theorem and_one {x y : IVec Cert.Pre_finite.S_ 1} {j : Cert.Pre_finite.S_.Idx} (h : andi x y j = 1#1) : x j = 1#1 ∧ y j = 1#1 := by
  have h' : x j &&& y j = 1#1 := h
  revert h'
  generalize x j = a
  generalize y j = b
  revert a b
  decide

variable (m : (ℓ : Loc nD τ sig) → Buf (Elt Ideal) ℓ)

/-- The precondition makes the images, the 3x3 weights, the biases and the factors finite. -/
theorem finite_of_pre (h : Cert.Pre_KernelIdeal_finite m) (c : Dev nD) : FiniteWeights m c ∧ FiniteImages m c := by
  have e := congrFun (h c) fun k => k.elim0
  obtain ⟨e, e13⟩ := and_one e
  obtain ⟨e, e12⟩ := and_one e
  obtain ⟨e, e11⟩ := and_one e
  obtain ⟨e, e7⟩ := and_one e
  obtain ⟨e, e6⟩ := and_one e
  obtain ⟨e, e5⟩ := and_one e
  obtain ⟨e, e4⟩ := and_one e
  obtain ⟨e, e3⟩ := and_one e
  obtain ⟨e, e2⟩ := and_one e
  obtain ⟨e0, e1⟩ := and_one e
  exact ⟨⟨fun _ _ _ => at4_real (all_finite _ _ _ _ _ e5) _ _ _ _, fun _ _ _ => at4_real (all_finite _ _ _ _ _ e11) _ _ _ _,
    at1_real (all_finite _ _ _ _ _ e6), at1_real (all_finite _ _ _ _ _ e12), at1_real (all_finite _ _ _ _ _ e7), at1_real (all_finite _ _ _ _ _ e13)⟩,
    ⟨fun _ _ _ => at4_real (all_finite _ _ _ _ _ e0) _ _ _ _, fun _ _ _ => at4_real (all_finite _ _ _ _ _ e1) _ _ _ _,
    fun _ _ _ => at4_real (all_finite _ _ _ _ _ e2) _ _ _ _, fun _ _ _ => at4_real (all_finite _ _ _ _ _ e3) _ _ _ _,
    fun _ _ _ => at4_real (all_finite _ _ _ _ _ e4) _ _ _ _⟩⟩

end Cert.Head

end
-- ==== Proof.Reference.lean ====
/- The reference's fifteen results as instances of the level definitions of Proof/RefLevel.lean. -/
module

public import proofs.«01_k».proof.Proof.RefLevel
public import proofs.«01_k».proof.Proof.Gen.ReferenceIdeal.Run

@[expose] public section

noncomputable section

namespace Cert.Head

open Idealize.ShloMosaic Idealize.ShloMosaic.TcCoe Idealize.SL.Sem Cert.ReferenceIdeal Cert.ReferenceIdeal.Gen

variable {F : FTy → Type} [FloatOps F]

/-- The reference runs to the end, with each result what the level definitions say and its arguments unchanged. -/
theorem reference_run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v164) = rCls 64 4096 rfl (rHead 80 64 0x46400000#32 (m ((c.tc : Thread nD τ).loc main_arg0)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v336) = rCls 32 1024 rfl (rHead 80 32 0x45400000#32 (m ((c.tc : Thread nD τ).loc main_arg1)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v508) = rCls 16 256 rfl (rHead 80 16 0x44400000#32 (m ((c.tc : Thread nD τ).loc main_arg2)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v680) = rCls 8 64 rfl (rHead 80 8 0x43400000#32 (m ((c.tc : Thread nD τ).loc main_arg3)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v852) = rCls 4 16 rfl (rHead 80 4 0x42400000#32 (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)))
      ∧ r.2.mem ((c.tc : Thread nD τ).loc main_v169) = rReg 64 4096 rfl 0x41000000#32 (rHead 5 64 0x46400000#32 (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v341) = rReg 32 1024 rfl 0x41800000#32 (rHead 5 32 0x45400000#32 (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v513) = rReg 16 256 rfl 0x42000000#32 (rHead 5 16 0x44400000#32 (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v685) = rReg 8 64 rfl 0x42800000#32 (rHead 5 8 0x43400000#32 (m ((c.tc : Thread nD τ).loc main_arg3)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v857) = rReg 4 16 rfl 0x43000000#32 (rHead 5 4 0x42400000#32 (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v171) = rCent 64 4096 rfl (rHead 5 64 0x46400000#32 (m ((c.tc : Thread nD τ).loc main_arg0)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v343) = rCent 32 1024 rfl (rHead 5 32 0x45400000#32 (m ((c.tc : Thread nD τ).loc main_arg1)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v515) = rCent 16 256 rfl (rHead 5 16 0x44400000#32 (m ((c.tc : Thread nD τ).loc main_arg2)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v687) = rCent 8 64 rfl (rHead 5 8 0x43400000#32 (m ((c.tc : Thread nD τ).loc main_arg3)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_v859) = rCent 4 16 rfl (rHead 5 4 0x42400000#32 (m ((c.tc : Thread nD τ).loc main_arg4)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun r h c => ?_) (Cert.ReferenceIdeal.Value.run m ρ)
  obtain ⟨h0, h1, h2, h3, h4, h5, h6, h7, h8, h9, h10, h11, h12, h13, h14, hargs⟩ := h c
  exact ⟨h0.trans rfl, h1.trans rfl, h2.trans rfl, h3.trans rfl, h4.trans rfl, h5.trans rfl, h6.trans rfl, h7.trans rfl, h8.trans rfl, h9.trans rfl, h10.trans rfl, h11.trans rfl, h12.trans rfl, h13.trans rfl, h14.trans rfl, hargs⟩

end Cert.Head

end
-- ==== Proof.Results.lean ====
/- Both runs, result by result: at every level the kernel's arrays and the reference's are the class rows, the boxes and the
   centre row of the same head. -/
module

public import proofs.«01_k».proof.Proof.Arrays
public import proofs.«01_k».proof.Proof.Reference

@[expose] public section

noncomputable section

namespace Cert.Head

open Idealize.ShloMosaic Idealize.ShloMosaic.TcCoe Idealize.SL.Sem

/-! ## A level of the reference -/

/-- Arguments with the same contents as `x`, `w`, `b`, `gam`, `bet`, `fw`, `fb`. The divisor `N` is three times the number of
    positions. -/
structure Same {o W : ℕ} (S : ℕ) (N : BitVec 32) (x' x : (T4 4 96 W W).Idx → EReal) (w' w : (T4 96 96 3 3).Idx → EReal)
    (b' b gam' gam bet' bet : Shape.Idx ⟨1, ![96]⟩ → EReal) (fw' fw : (T4 o 96 1 1).Idx → EReal) (fb' fb : Shape.Idx ⟨1, ![o]⟩ → EReal) : Prop where
  flat : S = W * W
  count : Ideal.ofBits .f32 N = ((3 * S : ℝ) : EReal)
  some : 0 < S
  x : x' = x
  w : w' = w
  b : b' = b
  gam : gam' = gam
  bet : bet' = bet
  fw : fw' = fw
  fb : fb' = fb

section Level

variable {o W S : ℕ} {N : BitVec 32} {x' x : (T4 4 96 W W).Idx → EReal} {w' w : (T4 96 96 3 3).Idx → EReal}
  {b' b gam' gam bet' bet : Shape.Idx ⟨1, ![96]⟩ → EReal} {fw' fw : (T4 o 96 1 1).Idx → EReal} {fb' fb : Shape.Idx ⟨1, ![o]⟩ → EReal}

/-- A head of the reference, at any level. -/
theorem head_same (h : Same S N x' x w' w b' b gam' gam bet' bet fw' fw fb' fb) :
    rHead (F := Ideal) o W N x' w' b' gam' bet' fw' fb'
      = mk4 fun n r i j => headRows W S ((3 * S : ℝ) : EReal) x w b gam bet fw fb n r (i * W + j) := by
  obtain ⟨hS, hN, hp, rfl, rfl, rfl, rfl, rfl, rfl, rfl⟩ := h
  rw [rHead_eq hS N, hN]
  rw [hN]
  have : (0 : ℝ) < 3 * S := by positivity
  exact_mod_cast this

end Level

/-- The class scores of the reference, at any level. -/
theorem cls_same {W S : ℕ} {N : BitVec 32} {x' x w' w b' b gam' gam bet' bet fw' fw fb' fb}
    (h : Same (o := 80) (W := W) S N x' x w' w b' b gam' gam bet' bet fw' fw fb' fb) :
    rCls (F := Ideal) W S h.flat (rHead 80 W N x' w' b' gam' bet' fw' fb') = mk3 (headRows W S ((3 * S : ℝ) : EReal) x w b gam bet fw fb) := by
  rw [head_same h]
  exact rCls_mk4 h.flat _

/-- The boxes of the reference, at any level. -/
theorem reg_same {W S : ℕ} {N : BitVec 32} {x' x w' w b' b gam' gam bet' bet fw' fw fb' fb} (stride : BitVec 32)
    (h : Same (o := 5) (W := W) S N x' x w' w b' b gam' gam bet' bet fw' fw fb' fb) :
    rReg (F := Ideal) W S h.flat stride (rHead 5 W N x' w' b' gam' bet' fw' fb')
      = mk3 (boxesOf stride (headRows W S ((3 * S : ℝ) : EReal) x w b gam bet fw fb)) := by
  rw [head_same h]
  exact rReg_mk4 h.flat stride _

/-- The centre scores of the reference, at any level. -/
theorem cent_same {W S : ℕ} {N : BitVec 32} {x' x w' w b' b gam' gam bet' bet fw' fw fb' fb}
    (h : Same (o := 5) (W := W) S N x' x w' w b' b gam' gam bet' bet fw' fw fb' fb) :
    rCent (F := Ideal) W S h.flat (rHead 5 W N x' w' b' gam' bet' fw' fb') = mk3 (headRows W S ((3 * S : ℝ) : EReal) x w b gam bet fw fb) := by
  rw [head_same h]
  exact rCent_mk4 h.flat _

/-- The divisors of the five levels. -/
theorem counts : Ideal.ofBits .f32 0x46400000#32 = ((3 * (4096 : ℕ) : ℝ) : EReal) ∧ Ideal.ofBits .f32 0x45400000#32 = ((3 * (1024 : ℕ) : ℝ) : EReal)
    ∧ Ideal.ofBits .f32 0x44400000#32 = ((3 * (256 : ℕ) : ℝ) : EReal) ∧ Ideal.ofBits .f32 0x43400000#32 = ((3 * (64 : ℕ) : ℝ) : EReal)
    ∧ Ideal.ofBits .f32 0x42400000#32 = ((3 * (16 : ℕ) : ℝ) : EReal) := by
  refine ⟨?_, ?_, ?_, ?_, ?_⟩ <;> simp [Ideal.ofBits, Ideal.ieee, -EReal.coe_mul] <;> norm_num

/-! ## The kernel's run -/

section Kernel

open Cert.KernelIdeal Cert.KernelIdeal.Gen

variable (m : (ℓ : Loc nD τ sig) → Buf (Elt Ideal) ℓ) (ρ : Dev nD → PrngReg)

set_option maxHeartbeats 4000000 in
/-- The kernel ends with the class rows, the boxes and the centre row of the five levels in its results, and leaves its
    arguments as they were. -/
theorem kernel_run (hfin : ∀ c, FiniteWeights m c ∧ FiniteImages m c) :
    θ_run defs (onTc (τ := τ) (main (F := Ideal))) ⟨m, fun _ => 0, ρ⟩ fun r => ∀ c : Dev nD,
      r.2.mem ((c.tc : Thread nD τ).loc main_v41_0) = mk3 (clsRows m c 64 4096 (m ((c.tc : Thread nD τ).loc main_arg0)))
      ∧ r.2.mem ((c.tc : Thread nD τ).loc main_v41_1) = mk3 (clsRows m c 32 1024 (m ((c.tc : Thread nD τ).loc main_arg1)))
      ∧ r.2.mem ((c.tc : Thread nD τ).loc main_v41_2) = mk3 (clsRows m c 16 256 (m ((c.tc : Thread nD τ).loc main_arg2)))
      ∧ r.2.mem ((c.tc : Thread nD τ).loc main_v41_3) = mk3 (clsRows m c 8 64 (m ((c.tc : Thread nD τ).loc main_arg3)))
      ∧ r.2.mem ((c.tc : Thread nD τ).loc main_v41_4) = mk3 (clsRows m c 4 16 (m ((c.tc : Thread nD τ).loc main_arg4)))
      ∧ r.2.mem ((c.tc : Thread nD τ).loc main_v41_5) = mk3 (boxesOf 0x41000000#32 (regRows m c 64 4096 (m ((c.tc : Thread nD τ).loc main_arg0))))
      ∧ r.2.mem ((c.tc : Thread nD τ).loc main_v41_6) = mk3 (boxesOf 0x41800000#32 (regRows m c 32 1024 (m ((c.tc : Thread nD τ).loc main_arg1))))
      ∧ r.2.mem ((c.tc : Thread nD τ).loc main_v41_7) = mk3 (boxesOf 0x42000000#32 (regRows m c 16 256 (m ((c.tc : Thread nD τ).loc main_arg2))))
      ∧ r.2.mem ((c.tc : Thread nD τ).loc main_v41_8) = mk3 (boxesOf 0x42800000#32 (regRows m c 8 64 (m ((c.tc : Thread nD τ).loc main_arg3))))
      ∧ r.2.mem ((c.tc : Thread nD τ).loc main_v41_9) = mk3 (boxesOf 0x43000000#32 (regRows m c 4 16 (m ((c.tc : Thread nD τ).loc main_arg4))))
      ∧ r.2.mem ((c.tc : Thread nD τ).loc main_v41_10) = mk3 (regRows m c 64 4096 (m ((c.tc : Thread nD τ).loc main_arg0)))
      ∧ r.2.mem ((c.tc : Thread nD τ).loc main_v41_11) = mk3 (regRows m c 32 1024 (m ((c.tc : Thread nD τ).loc main_arg1)))
      ∧ r.2.mem ((c.tc : Thread nD τ).loc main_v41_12) = mk3 (regRows m c 16 256 (m ((c.tc : Thread nD τ).loc main_arg2)))
      ∧ r.2.mem ((c.tc : Thread nD τ).loc main_v41_13) = mk3 (regRows m c 8 64 (m ((c.tc : Thread nD τ).loc main_arg3)))
      ∧ r.2.mem ((c.tc : Thread nD τ).loc main_v41_14) = mk3 (regRows m c 4 16 (m ((c.tc : Thread nD τ).loc main_arg4)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16) := by
  refine (θ_run defs _ _).mono (fun r h c => ?_) (run_main m ρ)
  obtain ⟨fw, fi⟩ := hfin c
  obtain ⟨a0, a1, a2, a3, a4⟩ := cls_arrays m c fw fi
  obtain ⟨b0, b1, b2, b3, b4⟩ := reg_arrays m c fw fi
  obtain ⟨d0, d1, d2, d3, d4⟩ := cent_arrays m c fw fi
  have out := (h c).1
  have kept : ∀ b ∈ Pipeline.restRefs sig (cfgs 0).spec, V m c b = m ((c.tc : Thread nD τ).loc b) →
      r.2.mem ((c.tc : Thread nD τ).loc b) = m ((c.tc : Thread nD τ).loc b) := fun b hb hV => ((h c).2 b hb).trans hV
  exact ⟨(out 6).trans a0, (out 7).trans a1, (out 8).trans a2, (out 9).trans a3, (out 10).trans a4,
    (out 11).trans b0, (out 12).trans b1, (out 13).trans b2, (out 14).trans b3, (out 15).trans b4,
    (out 16).trans d0, (out 17).trans d1, (out 18).trans d2, (out 19).trans d3, (out 20).trans d4,
    kept main_arg0 (Pipeline.mem_restRefs_of main_arg0 (by decide) (by decide)) (V_main_arg0 m c),
    kept main_arg1 (Pipeline.mem_restRefs_of main_arg1 (by decide) (by decide)) (V_main_arg1 m c),
    kept main_arg2 (Pipeline.mem_restRefs_of main_arg2 (by decide) (by decide)) (V_main_arg2 m c),
    kept main_arg3 (Pipeline.mem_restRefs_of main_arg3 (by decide) (by decide)) (V_main_arg3 m c),
    kept main_arg4 (Pipeline.mem_restRefs_of main_arg4 (by decide) (by decide)) (V_main_arg4 m c),
    kept main_arg5 (Pipeline.mem_restRefs_of main_arg5 (by decide) (by decide)) (V_main_arg5 m c),
    kept main_arg6 (Pipeline.mem_restRefs_of main_arg6 (by decide) (by decide)) (V_main_arg6 m c),
    kept main_arg7 (Pipeline.mem_restRefs_of main_arg7 (by decide) (by decide)) (V_main_arg7 m c),
    kept main_arg8 (Pipeline.mem_restRefs_of main_arg8 (by decide) (by decide)) (V_main_arg8 m c),
    kept main_arg9 (Pipeline.mem_restRefs_of main_arg9 (by decide) (by decide)) (V_main_arg9 m c),
    kept main_arg10 (Pipeline.mem_restRefs_of main_arg10 (by decide) (by decide)) (V_main_arg10 m c),
    kept main_arg11 (Pipeline.mem_restRefs_of main_arg11 (by decide) (by decide)) (V_main_arg11 m c),
    kept main_arg12 (Pipeline.mem_restRefs_of main_arg12 (by decide) (by decide)) (V_main_arg12 m c),
    kept main_arg13 (Pipeline.mem_restRefs_of main_arg13 (by decide) (by decide)) (V_main_arg13 m c),
    kept main_arg14 (Pipeline.mem_restRefs_of main_arg14 (by decide) (by decide)) (V_main_arg14 m c),
    kept main_arg15 (Pipeline.mem_restRefs_of main_arg15 (by decide) (by decide)) (V_main_arg15 m c),
    kept main_arg16 (Pipeline.mem_restRefs_of main_arg16 (by decide) (by decide)) (V_main_arg16 m c)⟩

end Kernel

end Cert.Head

end
-- ==== Proof.lean ====
/- The proof of the claim: the frames are the generated ones, the named constants are the reciprocals of the counts, and the
   fifteen results of kernel and reference are the same rows of the same heads. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_finite
public import proofs.«01_k».proof.Proof.Finite
public import proofs.«01_k».proof.Proof.Results
public import Idealize.ShloMosaic.Lib.Quiescent
public import Idealize.ShloMosaic.Adequacy
public import Idealize.ShloMosaic.Init

@[expose] public section

noncomputable section

namespace Cert.Proof

open Idealize.ShloMosaic Idealize.SL.Sem Cert.Head

set_option maxHeartbeats 4000000 in
/-- From agreeing arguments, with finite images, 3x3 weights, biases and factors, the fifteen results of the kernel and of the
    reference are the same, and the arguments are left as they were. -/
theorem same_results : Cert.algebraic_KernelIdeal_ReferenceIdeal_pre_finite := by
  intro m g m' g' hpre hagree
  refine ⟨fun c => mk3 (clsRows m c 64 4096 (m ((c.tc : Thread Cert.KernelIdeal.nD Cert.KernelIdeal.τ).loc Cert.KernelIdeal.main_arg0))),
    fun c => mk3 (clsRows m c 32 1024 (m ((c.tc : Thread Cert.KernelIdeal.nD Cert.KernelIdeal.τ).loc Cert.KernelIdeal.main_arg1))),
    fun c => mk3 (clsRows m c 16 256 (m ((c.tc : Thread Cert.KernelIdeal.nD Cert.KernelIdeal.τ).loc Cert.KernelIdeal.main_arg2))),
    fun c => mk3 (clsRows m c 8 64 (m ((c.tc : Thread Cert.KernelIdeal.nD Cert.KernelIdeal.τ).loc Cert.KernelIdeal.main_arg3))),
    fun c => mk3 (clsRows m c 4 16 (m ((c.tc : Thread Cert.KernelIdeal.nD Cert.KernelIdeal.τ).loc Cert.KernelIdeal.main_arg4))),
    fun c => mk3 (boxesOf 0x41000000#32 (regRows m c 64 4096 (m ((c.tc : Thread Cert.KernelIdeal.nD Cert.KernelIdeal.τ).loc Cert.KernelIdeal.main_arg0)))),
    fun c => mk3 (boxesOf 0x41800000#32 (regRows m c 32 1024 (m ((c.tc : Thread Cert.KernelIdeal.nD Cert.KernelIdeal.τ).loc Cert.KernelIdeal.main_arg1)))),
    fun c => mk3 (boxesOf 0x42000000#32 (regRows m c 16 256 (m ((c.tc : Thread Cert.KernelIdeal.nD Cert.KernelIdeal.τ).loc Cert.KernelIdeal.main_arg2)))),
    fun c => mk3 (boxesOf 0x42800000#32 (regRows m c 8 64 (m ((c.tc : Thread Cert.KernelIdeal.nD Cert.KernelIdeal.τ).loc Cert.KernelIdeal.main_arg3)))),
    fun c => mk3 (boxesOf 0x43000000#32 (regRows m c 4 16 (m ((c.tc : Thread Cert.KernelIdeal.nD Cert.KernelIdeal.τ).loc Cert.KernelIdeal.main_arg4)))),
    fun c => mk3 (regRows m c 64 4096 (m ((c.tc : Thread Cert.KernelIdeal.nD Cert.KernelIdeal.τ).loc Cert.KernelIdeal.main_arg0))),
    fun c => mk3 (regRows m c 32 1024 (m ((c.tc : Thread Cert.KernelIdeal.nD Cert.KernelIdeal.τ).loc Cert.KernelIdeal.main_arg1))),
    fun c => mk3 (regRows m c 16 256 (m ((c.tc : Thread Cert.KernelIdeal.nD Cert.KernelIdeal.τ).loc Cert.KernelIdeal.main_arg2))),
    fun c => mk3 (regRows m c 8 64 (m ((c.tc : Thread Cert.KernelIdeal.nD Cert.KernelIdeal.τ).loc Cert.KernelIdeal.main_arg3))),
    fun c => mk3 (regRows m c 4 16 (m ((c.tc : Thread Cert.KernelIdeal.nD Cert.KernelIdeal.τ).loc Cert.KernelIdeal.main_arg4))), kernel_run m g (finite_of_pre m hpre), ?_⟩
  refine (θ_run Cert.ReferenceIdeal.defs _ _).mono (fun r h c => ?_) (reference_run m' g')
  obtain ⟨e0, e1, e2, e3, e4, e5, e6, e7, e8, e9, e10, e11, e12, e13, e14, e15, e16⟩ := hagree c
  obtain ⟨n0, n1, n2, n3, n4⟩ := counts
  obtain ⟨a0, a1, a2, a3, a4, b0, b1, b2, b3, b4, d0, d1, d2, d3, d4, kept⟩ := h c
  exact ⟨a0.trans (cls_same ⟨rfl, n0, by norm_num, e0, e5, e6, e7, e8, e9, e10⟩),
    a1.trans (cls_same ⟨rfl, n1, by norm_num, e1, e5, e6, e7, e8, e9, e10⟩),
    a2.trans (cls_same ⟨rfl, n2, by norm_num, e2, e5, e6, e7, e8, e9, e10⟩),
    a3.trans (cls_same ⟨rfl, n3, by norm_num, e3, e5, e6, e7, e8, e9, e10⟩),
    a4.trans (cls_same ⟨rfl, n4, by norm_num, e4, e5, e6, e7, e8, e9, e10⟩),
    b0.trans (reg_same _ ⟨rfl, n0, by norm_num, e0, e11, e12, e13, e14, e15, e16⟩),
    b1.trans (reg_same _ ⟨rfl, n1, by norm_num, e1, e11, e12, e13, e14, e15, e16⟩),
    b2.trans (reg_same _ ⟨rfl, n2, by norm_num, e2, e11, e12, e13, e14, e15, e16⟩),
    b3.trans (reg_same _ ⟨rfl, n3, by norm_num, e3, e11, e12, e13, e14, e15, e16⟩),
    b4.trans (reg_same _ ⟨rfl, n4, by norm_num, e4, e11, e12, e13, e14, e15, e16⟩),
    d0.trans (cent_same ⟨rfl, n0, by norm_num, e0, e11, e12, e13, e14, e15, e16⟩),
    d1.trans (cent_same ⟨rfl, n1, by norm_num, e1, e11, e12, e13, e14, e15, e16⟩),
    d2.trans (cent_same ⟨rfl, n2, by norm_num, e2, e11, e12, e13, e14, e15, e16⟩),
    d3.trans (cent_same ⟨rfl, n3, by norm_num, e3, e11, e12, e13, e14, e15, e16⟩),
    d4.trans (cent_same ⟨rfl, n4, by norm_num, e4, e11, e12, e13, e14, e15, e16⟩), kept⟩

/-- The reference leaves its arguments as they were and ends with every semaphore at zero. -/
theorem reference_frame : Cert.quiescent_ReferenceIdeal :=
  fun m ρ _ => (θ_run Cert.ReferenceIdeal.defs _ _).mono (fun r h => ⟨fun c => (h c).2.2.2.2.2.2.2.2.2.2.2.2.2.2.2, sem_eq_zero_of_no_sems rfl r.2⟩)
    (Cert.ReferenceIdeal.Value.run m ρ)

/-- All the claims. -/
theorem claim : Cert.Claim := ⟨Cert.Kernel.Gen.facts, Cert.KernelIdeal.Gen.facts, Cert.ReferenceIdeal.Gen.facts, Cert.Pre_finite.Gen.facts,
  fun m ρ _ => Cert.Kernel.Gen.frame m ρ, fun m ρ _ => Cert.KernelIdeal.Gen.frame m ρ, fun m ρ _ => Cert.KernelIdeal.Gen.frame m ρ,
  reference_frame, fun m ρ _ => reference_frame m ρ trivial,
  ⟨IdealRules.named_const.statement Cert.KernelIdeal.κ "count4096" .f32 0x38AAAAAB#32 ((1 / 12288 : ℝ) : EReal) rfl,
    IdealRules.named_const.statement Cert.KernelIdeal.κ "count1024" .f32 0x39AAAAAB#32 ((1 / 3072 : ℝ) : EReal) rfl,
    IdealRules.named_const.statement Cert.KernelIdeal.κ "count256" .f32 0x3AAAAAAB#32 ((1 / 768 : ℝ) : EReal) rfl,
    IdealRules.named_const.statement Cert.KernelIdeal.κ "count64" .f32 0x3BAAAAAB#32 ((1 / 192 : ℝ) : EReal) rfl,
    IdealRules.named_const.statement Cert.KernelIdeal.κ "count16" .f32 0x3CAAAAAB#32 ((1 / 48 : ℝ) : EReal) rfl⟩,
  same_results⟩

end Cert.Proof

end
